-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "mask" .f32 0xF149F2CA#32 ⊥

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S2048x1024 : Shape := ⟨2, ![2048, 1024]⟩
abbrev S16x257 : Shape := ⟨2, ![16, 257]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S2048x1024 .f32) (main_arg2 : FVec F S2048x1024 .f32) (main_arg3 : FVec F S16x257 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S16x257 .f32 := Host.absf main_arg3
  let main_cst_4 : FVec F S_ .f32 := constant S_ .f32 0x7F800000#32
  let main_v13 : FVec F S16x257 .f32 := broadcastInDim S16x257 ![] bcast_S_S16x257 main_cst_4
  let main_v14 : IVec S16x257 1 := cmpf .olt main_v12 main_v13
  let main_c_5 : IVec S_ 1 := constantI S_ 1 1#1
  let main_v15 : IVec S_ 1 := (fun x v => Host.reduce IntOp.andi x v reducesTo_S16x257_S_d0_1 h_S_) main_v14 main_c_5
  fn_part1 (F := F) main_arg4 main_v3 main_v7 main_v11 main_v15
-- ==== Pre_finite15.lean ====
abbrev S2048x1024 : Shape := ⟨2, ![2048, 1024]⟩
abbrev S16x257 : Shape := ⟨2, ![16, 257]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S2048x1024 .f32) (main_arg1 : FVec F S2048x1024 .f32) (main_arg2 : FVec F S2048x1024 .f32) (main_arg3 : FVec F S16x257 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S16x257 .f32 := Host.absf main_arg3
  let main_cst_2 : FVec F S_ .f32 := constant S_ .f32 0x7F800000#32
  let main_v9 : FVec F S16x257 .f32 := broadcastInDim S16x257 ![] bcast_S_S16x257 main_cst_2
  let main_v10 : IVec S16x257 1 := cmpf .olt main_v8 main_v9
  let main_c_3 : IVec S_ 1 := constantI S_ 1 1#1
  let main_v11 : IVec S_ 1 := (fun x v => Host.reduce IntOp.andi x v reducesTo_S16x257_S_d0_1 h_S_) main_v10 main_c_3
  let main_v12 : IVec S_ 1 := andi main_v3 main_v7
  let main_v13 : IVec S_ 1 := andi main_v12 main_v11
  main_v13
-- ==== Kernel.lean ====
abbrev S2048x1024 : Shape := ⟨2, ![2048, 1024]⟩
abbrev S16x257 : Shape := ⟨2, ![16, 257]⟩
abbrev S_ : Shape := ⟨0, ![]⟩
abbrev S2560x1024 : Shape := ⟨2, ![2560, 1024]⟩
abbrev S16x1 : Shape := ⟨2, ![16, 1]⟩
abbrev S16x639 : Shape := ⟨2, ![16, 639]⟩
abbrev S16x127 : Shape := ⟨2, ![16, 127]⟩
abbrev S16x1024 : Shape := ⟨2, ![16, 1024]⟩
abbrev S8x2x1024 : Shape := ⟨3, ![8, 2, 1024]⟩
abbrev S256x128 : Shape := ⟨2, ![256, 128]⟩
abbrev S2560x128 : Shape := ⟨2, ![2560, 128]⟩
abbrev S1x2x1024 : Shape := ⟨3, ![1, 2, 1024]⟩
abbrev S2x256x768 : Shape := ⟨3, ![2, 256, 768]⟩
abbrev S1x1x1024 : Shape := ⟨3, ![1, 1, 1024]⟩
abbrev S1x1024 : Shape := ⟨2, ![1, 1024]⟩
abbrev S256x1024 : Shape := ⟨2, ![256, 1024]⟩
abbrev S256x768 : Shape := ⟨2, ![256, 768]⟩
abbrev S1x256x768 : Shape := ⟨3, ![1, 256, 768]⟩
abbrev S768x128 : Shape := ⟨2, ![768, 128]⟩
abbrev S256 : Shape := ⟨1, ![256]⟩
abbrev S256x1 : Shape := ⟨2, ![256, 1]⟩
abbrev S128x768 : Shape := ⟨2, ![128, 768]⟩
abbrev S256x256 : Shape := ⟨2, ![256, 256]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x257, .f32⟩
  | .hbm, ⟨4, _⟩ => ⟨S2048x1024, .f32⟩
  | .hbm, ⟨5, _⟩ => ⟨S_, .i32⟩
  | .hbm, ⟨6, _⟩ => ⟨S_, .f32⟩
  | .hbm, ⟨7, _⟩ => ⟨S2560x1024, .f32⟩
  | .hbm, ⟨8, _⟩ => ⟨S_, .i32⟩
  | .hbm, ⟨9, _⟩ => ⟨S_, .f32⟩
  | .hbm, ⟨10, _⟩ => ⟨S2560x1024, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x639, .f32⟩
  | .hbm, ⟨15, _⟩ => ⟨S16x257, .f32⟩
  | .hbm, ⟨16, _⟩ => ⟨S16x1, .f32⟩
  | .hbm, ⟨17, _⟩ => ⟨S16x127, .f32⟩
  | .hbm, ⟨18, _⟩ => ⟨S16x1024, .f32⟩
  | .hbm, ⟨19, _⟩ => ⟨S8x2x1024, .f32⟩
  | .hbm, ⟨20, _⟩ => ⟨S2048x1024, .f32⟩
  | .hbm, ⟨21, _⟩ => ⟨S2560x1024, .f32⟩
  | .hbm, ⟨22, _⟩ => ⟨S2560x1024, .f32⟩
  | .hbm, ⟨23, _⟩ => ⟨S8x2x1024, .f32⟩
  | .local _ .vmem, ⟨0, _⟩ => ⟨S256x128, .f32⟩
  | .local _ .vmem, ⟨1, _⟩ => ⟨S256x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S1x2x1024, .f32⟩
  | .local _ .vmem, ⟨7, _⟩ => ⟨S1x2x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S2560x128, .f32⟩
  | .local _ .vmem, ⟨13, _⟩ => ⟨S2560x128, .f32⟩
  | .local _ .vmem, ⟨14, _⟩ => ⟨S2560x128, .f32⟩
  | .local _ .vmem, ⟨15, _⟩ => ⟨S2560x128, .f32⟩
  | .local _ .vmem, ⟨16, _⟩ => ⟨S1x2x1024, .f32⟩
  | .local _ .vmem, ⟨17, _⟩ => ⟨S1x2x1024, .f32⟩
  | .local _ .vmem, ⟨18, _⟩ => ⟨S2x256x768, .f32⟩
  | .local _ .vmem, ⟨19, _⟩ => ⟨S2x256x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v6 : Index := Scalar.indexCast v1
  let c0_2 : Index := 0#32
  ![v6.toNat, 0]
def k0_cond2 (i : grid0.Coords) : BitVec 1 :=
  let arg1 : BitVec 32 := BitVec.ofNat 32 (i 1).val
  let c7_i32 : BitVec 32 := 7#32
  let v270 : BitVec 1 := Scalar.cmpi .eq arg1 c7_i32
  let v271 : BitVec 32 := Scalar.extui v270
  let c0_i32_82 : BitVec 32 := 0#32
  let v272 : BitVec 1 := Scalar.cmpi .ne v271 c0_i32_82
  v272

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S16x257 : Shape := ⟨2, ![16, 257]⟩
abbrev S2048x16x64 : Shape := ⟨3, ![2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S16x2048x64 : Shape := ⟨3, ![16, 2048, 64]⟩
abbrev S2560x1024 : Shape := ⟨2, ![2560, 1024]⟩

abbrev nBuf : Space → Nat
  | .hbm => 140
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S16x257, .f32⟩
  | 4 => ⟨S2048x1024, .f32⟩
  | 5 => ⟨S2048x16x64, .f32⟩
  | 6 => ⟨S2048x16x64, .f32⟩
  | 7 => ⟨S2048x16x64, .f32⟩
  | 8 => ⟨S2048, .i32⟩
  | 9 => ⟨S2048x1, .i32⟩
  | 10 => ⟨S1x2048, .i32⟩
  | 11 => ⟨S2048x2048, .i32⟩
  | 12 => ⟨S2048x2048, .i32⟩
  | 13 => ⟨S2048x2048, .i32⟩
  | 14 => ⟨S_, .i32⟩
  | 15 => ⟨S_, .i32⟩
  | 16 => ⟨S_, .i32⟩
  | 17 => ⟨S2048x2048, .i32⟩
  | 18 => ⟨S2048x2048, .i32⟩
  | 19 => ⟨S_, .i32⟩
  | 20 => ⟨S2048x2048, .i32⟩
  | 21 => ⟨S2048x2048, .i32⟩
  | 22 => ⟨S_, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S2048x2048, .i32⟩
  | 30 => ⟨S2048x2048, .i32⟩
  | 31 => ⟨S2048x2048, .i32⟩
  | 32 => ⟨S2048x2048x1, .i32⟩
  | 33 => ⟨S16x2048x2048, .f32⟩
  | 34 => ⟨S_, .i32⟩
  | 35 => ⟨S2048, .i32⟩
  | 36 => ⟨S2048, .i32⟩
  | 37 => ⟨S2048x1, .i32⟩
  | 38 => ⟨S1x2048, .i32⟩
  | 39 => ⟨S2048x2048, .i32⟩
  | 40 => ⟨S2048x2048, .i32⟩
  | 41 => ⟨S2048x2048, .i32⟩
  | 42 => ⟨S16x2048x2048, .f32⟩
  | 43 => ⟨S_, .f32⟩
  | 44 => ⟨S16x2048x2048, .f32⟩
  | 45 => ⟨S16x2048x2048, .f32⟩
  | 46 => ⟨S16x2048x2048, .f32⟩
  | 47 => ⟨S_, .i32⟩
  | 48 => ⟨S2048x2048, .i32⟩
  | 49 => ⟨S2048x2048, .i1⟩
  | 50 => ⟨S_, .i32⟩
  | 51 => ⟨S2048x2048, .i32⟩
  | 52 => ⟨S2048x2048, .i1⟩
  | 53 => ⟨S2048x2048, .i1⟩
  | 54 => ⟨S_, .f32⟩
  | 55 => ⟨S_, .f32⟩
  | 56 => ⟨S16x2048x2048, .i1⟩
  | 57 => ⟨S16x2048x2048, .f32⟩
  | 58 => ⟨S16x2048x2048, .f32⟩
  | 59 => ⟨S_, .f32⟩
  | 60 => ⟨S16x2048x2048, .f32⟩
  | 61 => ⟨S_, .f32⟩
  | 62 => ⟨S16x2048, .f32⟩
  | 63 => ⟨S16x2048x1, .f32⟩
  | 64 => ⟨S16x2048x2048, .f32⟩
  | 65 => ⟨S16x2048x2048, .i1⟩
  | 66 => ⟨S16x2048x2048, .f32⟩
  | 67 => ⟨S_, .f32⟩
  | 68 => ⟨S16x2048, .f32⟩
  | 69 => ⟨S_, .f32⟩
  | 70 => ⟨S16x2048, .f32⟩
  | 71 => ⟨S16x2048, .f32⟩
  | 72 => ⟨S_, .f32⟩
  | 73 => ⟨S16x2048, .f32⟩
  | 74 => ⟨S16x2048, .i1⟩
  | 75 => ⟨S_, .f32⟩
  | 76 => ⟨S16x2048, .f32⟩
  | 77 => ⟨S16x2048, .i1⟩
  | 78 => ⟨S_, .f32⟩
  | 79 => ⟨S16x2048, .f32⟩
  | 80 => ⟨S_, .f32⟩
  | 81 => ⟨S16x2048, .f32⟩
  | 82 => ⟨S_, .f32⟩
  | 83 => ⟨S16x2048, .f32⟩
  | 84 => ⟨S16x2048, .f32⟩
  | 85 => ⟨S16x2048, .f32⟩
  | 86 => ⟨S16x2048x1, .f32⟩
  | 87 => ⟨S16x2048x2048, .f32⟩
  | 88 => ⟨S16x2048x2048, .f32⟩
  | 89 => ⟨S16x2048x2048, .f32⟩
  | 90 => ⟨S_, .f32⟩
  | 91 => ⟨S16x2048, .f32⟩
  | 92 => ⟨S16x2048x1, .f32⟩
  | 93 => ⟨S16x2048x2048, .f32⟩
  | 94 => ⟨S16x2048x2048, .f32⟩
  | 95 => ⟨S16x2048x1, .f32⟩
  | 96 => ⟨S_, .f32⟩
  | 97 => ⟨S16x2048x1, .f32⟩
  | 98 => ⟨S16x2048x1, .f32⟩
  | 99 => ⟨S16x64x2048, .f32⟩
  | 100 => ⟨S2048x16x64, .f32⟩
  | 101 => ⟨S2048x1024, .f32⟩
  | 102 => ⟨S2048x16x64, .f32⟩
  | 103 => ⟨S16x64x2048, .f32⟩
  | 104 => ⟨S16x2048x2048, .f32⟩
  | 105 => ⟨S16x64x2048, .f32⟩
  | 106 => ⟨S2048x16x64, .f32⟩
  | 107 => ⟨S16x2048x2048, .f32⟩
  | 108 => ⟨S16x2048x2048, .f32⟩
  | 109 => ⟨S16x2048x2048, .f32⟩
  | 110 => ⟨S_, .f32⟩
  | 111 => ⟨S16x2048, .f32⟩
  | 112 => ⟨S16x2048x1, .f32⟩
  | 113 => ⟨S16x2048x1, .f32⟩
  | 114 => ⟨S16x2048x2048, .f32⟩
  | 115 => ⟨S16x2048x2048, .f32⟩
  | 116 => ⟨S_, .f32⟩
  | 117 => ⟨S16x2048, .f32⟩
  | 118 => ⟨S16x2048x2048, .f32⟩
  | 119 => ⟨S16x2048x2048, .f32⟩
  | 120 => ⟨S16x2048x2048, .f32⟩
  | 121 => ⟨S_, .f32⟩
  | 122 => ⟨S16x2048x2048, .f32⟩
  | 123 => ⟨S16x2048x2048, .f32⟩
  | 124 => ⟨S_, .f32⟩
  | 125 => ⟨S16x2048x2048, .f32⟩
  | 126 => ⟨S16x2048x2048, .f32⟩
  | 127 => ⟨S16x2048x64, .f32⟩
  | _ => ⟨S2048x1024, .f32⟩

abbrev hbmTy0_1 (i : Nat) : BufTy := match i % 128 with
  | 0 => ⟨S2048x16x64, .f32⟩
  | 1 => ⟨S16x2048x64, .f32⟩
  | 2 => ⟨S2048x16x64, .f32⟩
  | 3 => ⟨S2048x1024, .f32⟩
  | 4 => ⟨S2048x1024, .f32⟩
  | 5 => ⟨S2048x1024, .f32⟩
  | 6 => ⟨S_, .i32⟩
  | 7 => ⟨S_, .f32⟩
  | 8 => ⟨S2560x1024, .f32⟩
  | 9 => ⟨S_, .i32⟩
  | 10 => ⟨S_, .f32⟩
  | 11 => ⟨S2560x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_call1_v0 : Ref sig .tc := ⟨.hbm, 55, rfl⟩
abbrev main_v35_1 : Ref sig .tc := ⟨.hbm, 56, rfl⟩
abbrev main_call1_v2 : Ref sig .tc := ⟨.hbm, 57, rfl⟩
abbrev main_v35_0 : Ref sig .tc := ⟨.hbm, 58, rfl⟩
abbrev main_call1_cst : Ref sig .tc := ⟨.hbm, 59, rfl⟩
abbrev main_v35_2 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call2_cst : Ref sig .tc := ⟨.hbm, 121, rfl⟩
abbrev main_call2_v0 : Ref sig .tc := ⟨.hbm, 122, rfl⟩
abbrev main_v84 : Ref sig .tc := ⟨.hbm, 123, rfl⟩
abbrev main_cst_20 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_21 : Ref sig .tc := ⟨.hbm, 134, rfl⟩
abbrev main_call3_v0 : Ref sig .tc := ⟨.hbm, 135, rfl⟩
abbrev main_v94 : Ref sig .tc := ⟨.hbm, 136, rfl⟩
abbrev main_c_22 : Ref sig .tc := ⟨.hbm, 137, rfl⟩
abbrev main_call4_v0 : Ref sig .tc := ⟨.hbm, 138, rfl⟩
abbrev main_v95 : Ref sig .tc := ⟨.hbm, 139, rfl⟩

abbrev nD : Nat := 1
abbrev τ : Topo := Topo.v7x

variable {F : FTy → Type} [FloatOps F]
-- ==== Kernel2.lean ====
abbrev S2048x2816 : Shape := ⟨2, ![2048, 2816]⟩
abbrev S2816x1024 : Shape := ⟨2, ![2816, 1024]⟩
abbrev S2048x1024 : Shape := ⟨2, ![2048, 1024]⟩
abbrev S2048x8x352 : Shape := ⟨3, ![2048, 8, 352]⟩
abbrev S8x2048x352 : Shape := ⟨3, ![8, 2048, 352]⟩
abbrev S8x352x1024 : Shape := ⟨3, ![8, 352, 1024]⟩
abbrev S1x352x1024 : Shape := ⟨3, ![1, 352, 1024]⟩
abbrev S1x2048x352 : Shape := ⟨3, ![1, 2048, 352]⟩
abbrev S2048x352 : Shape := ⟨2, ![2048, 352]⟩
abbrev S352x1024 : Shape := ⟨2, ![352, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2048x1024, .f32⟩
  | .hbm, ⟨4, _⟩ => ⟨S2048x8x352, .bf16⟩
  | .hbm, ⟨5, _⟩ => ⟨S8x2048x352, .bf16⟩
  | .hbm, ⟨6, _⟩ => ⟨S2048x8x352, .bf16⟩
  | .hbm, ⟨7, _⟩ => ⟨S8x2048x352, .bf16⟩
  | .hbm, ⟨8, _⟩ => ⟨S8x352x1024, .bf16⟩
  | .hbm, ⟨9, _⟩ => ⟨S8x2048x352, .bf16⟩
  | .hbm, ⟨10, _⟩ => ⟨S8x2048x352, .bf16⟩
  | .local _ .vmem, ⟨0, _⟩ => ⟨S2048x1024, .f32⟩
  | .local _ .vmem, ⟨1, _⟩ => ⟨S1x352x1024, .bf16⟩
  | .local _ .vmem, ⟨2, _⟩ => ⟨S1x352x1024, .bf16⟩
  | .local _ .vmem, ⟨3, _⟩ => ⟨S1x2048x352, .bf16⟩
  | .local _ .vmem, ⟨4, _⟩ => ⟨S1x2048x352, .bf16⟩
  | .local _ .vmem, ⟨5, _⟩ => ⟨S1x2048x352, .bf16⟩
  | .local _ .vmem, ⟨6, _⟩ => ⟨S1x2048x352, .bf16⟩
  | .local _ .vmem, ⟨7, _⟩ => ⟨S1x2048x352, .bf16⟩
  | .local _ .vmem, ⟨8, _⟩ => ⟨S1x2048x352, .bf16⟩
  | .local _ .vmem, ⟨9, _⟩ => ⟨S1x2048x352, .bf16⟩
  | .local _ .vmem, ⟨10, _⟩ => ⟨S1x2048x352, .bf16⟩
  | .local _ .vmem, ⟨11, _⟩ => ⟨S2048x352, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x352 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048x8x352 : Shape := ⟨3, ![2048, 8, 352]⟩
abbrev S8x2048x352 : Shape := ⟨3, ![8, 2048, 352]⟩

abbrev nBuf : Space → Nat
  | .hbm => 35
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2816x1024, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .bf16⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .bf16⟩
  | .hbm, ⟨31, _⟩ => ⟨S2048x8x352, .bf16⟩
  | .hbm, ⟨32, _⟩ => ⟨S8x2048x352, .bf16⟩
  | .hbm, ⟨33, _⟩ => ⟨S2048x8x352, .bf16⟩
  | .hbm, ⟨34, _⟩ => ⟨S8x2048x352, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S2048x2816 : Shape := ⟨2, ![2048, 2816]⟩
abbrev S2816x1024 : Shape := ⟨2, ![2816, 1024]⟩
abbrev S2048x1024 : Shape := ⟨2, ![2048, 1024]⟩
abbrev S2048x8x352 : Shape := ⟨3, ![2048, 8, 352]⟩
abbrev S8x2048x352 : Shape := ⟨3, ![8, 2048, 352]⟩
abbrev S8x352x1024 : Shape := ⟨3, ![8, 352, 1024]⟩
abbrev S1x2048x352 : Shape := ⟨3, ![1, 2048, 352]⟩
abbrev S2048x512 : Shape := ⟨2, ![2048, 512]⟩
abbrev S1x352x512 : Shape := ⟨3, ![1, 352, 512]⟩
abbrev S352x512 : Shape := ⟨2, ![352, 512]⟩
abbrev S2048x352 : Shape := ⟨2, ![2048, 352]⟩

abbrev nBuf : Space → Nat
  | .hbm => 10
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2048x1024, .f32⟩
  | .hbm, ⟨4, _⟩ => ⟨S2048x8x352, .bf16⟩
  | .hbm, ⟨5, _⟩ => ⟨S8x2048x352, .bf16⟩
  | .hbm, ⟨6, _⟩ => ⟨S2048x8x352, .bf16⟩
  | .hbm, ⟨7, _⟩ => ⟨S8x2048x352, .bf16⟩
  | .hbm, ⟨8, _⟩ => ⟨S8x352x1024, .bf16⟩
  | .hbm, ⟨9, _⟩ => ⟨S8x352x1024, .bf16⟩
  | .local _ .vmem, ⟨0, _⟩ => ⟨S1x2048x352, .bf16⟩
  | .local _ .vmem, ⟨1, _⟩ => ⟨S1x2048x352, .bf16⟩
  | .local _ .vmem, ⟨2, _⟩ => ⟨S1x2048x352, .bf16⟩
  | .local _ .vmem, ⟨3, _⟩ => ⟨S1x2048x352, .bf16⟩
  | .local _ .vmem, ⟨4, _⟩ => ⟨S2048x512, .f32⟩
  | .local _ .vmem, ⟨5, _⟩ => ⟨S2048x512, .f32⟩
  | .local _ .vmem, ⟨6, _⟩ => ⟨S1x352x512, .bf16⟩
  | .local _ .vmem, ⟨7, _⟩ => ⟨S1x352x512, .bf16⟩
  | .local _ .vmem, ⟨8, _⟩ => ⟨S352x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_15 : BitVec 32 := 0#32
  let v27 : BitVec 1 := Scalar.cmpi .eq arg2 c0_i32_15
  let v28 : BitVec 32 := Scalar.extui v27
  let c0_i32_16 : BitVec 32 := 0#32
  let v29 : BitVec 1 := Scalar.cmpi .ne v28 c0_i32_16
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S1024x2816 : Shape := ⟨2, ![1024, 2816]⟩
abbrev S8x352x1024 : Shape := ⟨3, ![8, 352, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2816x1024, .bf16⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2816x1024, .f32⟩
  | .hbm, ⟨17, _⟩ => ⟨S2048x1024, .f32⟩
  | .hbm, ⟨18, _⟩ => ⟨S1024x2816, .f32⟩
  | .hbm, ⟨19, _⟩ => ⟨S2816x1024, .f32⟩
  | .hbm, ⟨20, _⟩ => ⟨S2816x1024, .bf16⟩
  | .hbm, ⟨21, _⟩ => ⟨S8x352x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel4.lean ====
abbrev S2048x1024 : Shape := ⟨2, ![2048, 1024]⟩
abbrev S1024x2816 : Shape := ⟨2, ![1024, 2816]⟩
abbrev S2048x2816 : Shape := ⟨2, ![2048, 2816]⟩
abbrev S2048x8x352 : Shape := ⟨3, ![2048, 8, 352]⟩
abbrev S8x2048x352 : Shape := ⟨3, ![8, 2048, 352]⟩
abbrev S1024x8x352 : Shape := ⟨3, ![1024, 8, 352]⟩
abbrev S8x1024x352 : Shape := ⟨3, ![8, 1024, 352]⟩
abbrev S1x2048x352 : Shape := ⟨3, ![1, 2048, 352]⟩
abbrev S1x1024x352 : Shape := ⟨3, ![1, 1024, 352]⟩
abbrev S2048x352 : Shape := ⟨2, ![2048, 352]⟩
abbrev S1024x352 : Shape := ⟨2, ![1024, 352]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S2048x2816, .bf16⟩
  | .hbm, ⟨3, _⟩ => ⟨S2048x8x352, .bf16⟩
  | .hbm, ⟨4, _⟩ => ⟨S8x2048x352, .bf16⟩
  | .hbm, ⟨5, _⟩ => ⟨S1024x8x352, .bf16⟩
  | .hbm, ⟨6, _⟩ => ⟨S8x1024x352, .bf16⟩
  | .hbm, ⟨7, _⟩ => ⟨S2048x1024, .f32⟩
  | .local _ .vmem, ⟨0, _⟩ => ⟨S1x2048x352, .bf16⟩
  | .local _ .vmem, ⟨1, _⟩ => ⟨S1x2048x352, .bf16⟩
  | .local _ .vmem, ⟨2, _⟩ => ⟨S1x1024x352, .bf16⟩
  | .local _ .vmem, ⟨3, _⟩ => ⟨S1x1024x352, .bf16⟩
  | .local _ .vmem, ⟨4, _⟩ => ⟨S2048x1024, .f32⟩
  | .local _ .vmem, ⟨5, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S2048x2816, .bf16⟩
  | .hbm, ⟨3, _⟩ => ⟨S1024x2816, .f32⟩
  | .hbm, ⟨4, _⟩ => ⟨S2048x2816, .f32⟩
  | .hbm, ⟨5, _⟩ => ⟨S2048x2816, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S1024x2816 : Shape := ⟨2, ![1024, 2816]⟩
abbrev S2048x2816 : Shape := ⟨2, ![2048, 2816]⟩
abbrev S2048x8x352 : Shape := ⟨3, ![2048, 8, 352]⟩
abbrev S8x2048x352 : Shape := ⟨3, ![8, 2048, 352]⟩
abbrev S1024x8x352 : Shape := ⟨3, ![1024, 8, 352]⟩
abbrev S8x1024x352 : Shape := ⟨3, ![8, 1024, 352]⟩
abbrev S2048x512 : Shape := ⟨2, ![2048, 512]⟩
abbrev S1x2048x352 : Shape := ⟨3, ![1, 2048, 352]⟩
abbrev S1x512x352 : Shape := ⟨3, ![1, 512, 352]⟩
abbrev S512x352 : Shape := ⟨2, ![512, 352]⟩
abbrev S2048x352 : Shape := ⟨2, ![2048, 352]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S2048x2816, .bf16⟩
  | .hbm, ⟨3, _⟩ => ⟨S2048x8x352, .bf16⟩
  | .hbm, ⟨4, _⟩ => ⟨S8x2048x352, .bf16⟩
  | .hbm, ⟨5, _⟩ => ⟨S1024x8x352, .bf16⟩
  | .hbm, ⟨6, _⟩ => ⟨S8x1024x352, .bf16⟩
  | .hbm, ⟨7, _⟩ => ⟨S8x1024x352, .bf16⟩
  | .local _ .vmem, ⟨0, _⟩ => ⟨S2048x512, .f32⟩
  | .local _ .vmem, ⟨1, _⟩ => ⟨S2048x512, .f32⟩
  | .local _ .vmem, ⟨2, _⟩ => ⟨S1x2048x352, .bf16⟩
  | .local _ .vmem, ⟨3, _⟩ => ⟨S1x2048x352, .bf16⟩
  | .local _ .vmem, ⟨4, _⟩ => ⟨S1x512x352, .bf16⟩
  | .local _ .vmem, ⟨5, _⟩ => ⟨S1x512x352, .bf16⟩
  | .local _ .vmem, ⟨6, _⟩ => ⟨S512x352, .f32⟩
  | .local _ .vmem, ⟨7, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_11 : BitVec 32 := 0#32
  let v15 : BitVec 1 := Scalar.cmpi .eq arg2 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S2048x2816, .bf16⟩
  | .hbm, ⟨3, _⟩ => ⟨S1024x2816, .f32⟩
  | .hbm, ⟨4, _⟩ => ⟨S2048x2816, .f32⟩
  | .hbm, ⟨5, _⟩ => ⟨S2048x2816, .f32⟩
  | .hbm, ⟨6, _⟩ => ⟨S2816x1024, .f32⟩
  | .hbm, ⟨7, _⟩ => ⟨S1024x2816, .f32⟩
  | .hbm, ⟨8, _⟩ => ⟨S1024x2816, .bf16⟩
  | .hbm, ⟨9, _⟩ => ⟨S1024x8x352, .bf16⟩
  | .hbm, ⟨10, _⟩ => ⟨S8x1024x352, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x1024 : Shape := ⟨2, ![2048, 1024]⟩
abbrev S1024x2816 : Shape := ⟨2, ![1024, 2816]⟩
abbrev S1024x8x352 : Shape := ⟨3, ![1024, 8, 352]⟩
abbrev S8x1024x352 : Shape := ⟨3, ![8, 1024, 352]⟩
abbrev S8x2048x352 : Shape := ⟨3, ![8, 2048, 352]⟩
abbrev S1x1024x352 : Shape := ⟨3, ![1, 1024, 352]⟩
abbrev S1x2048x352 : Shape := ⟨3, ![1, 2048, 352]⟩
abbrev S2048x352 : Shape := ⟨2, ![2048, 352]⟩
abbrev S1024x352 : Shape := ⟨2, ![1024, 352]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S1024x8x352, .bf16⟩
  | .hbm, ⟨3, _⟩ => ⟨S8x1024x352, .bf16⟩
  | .hbm, ⟨4, _⟩ => ⟨S8x2048x352, .bf16⟩
  | .local _ .vmem, ⟨0, _⟩ => ⟨S2048x1024, .f32⟩
  | .local _ .vmem, ⟨1, _⟩ => ⟨S1x1024x352, .bf16⟩
  | .local _ .vmem, ⟨2, _⟩ => ⟨S1x1024x352, .bf16⟩
  | .local _ .vmem, ⟨3, _⟩ => ⟨S1x2048x352, .bf16⟩
  | .local _ .vmem, ⟨4, _⟩ => ⟨S1x2048x352, .bf16⟩
  | .local _ .vmem, ⟨5, _⟩ => ⟨S2048x352, .f32⟩
  | .local _ .vmem, ⟨6, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_11 : BitVec 32 := 0#32
  let v15 : BitVec 1 := Scalar.cmpi .eq arg2 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x2816 : Shape := ⟨2, ![1024, 2816]⟩
abbrev S2048x2816 : Shape := ⟨2, ![2048, 2816]⟩
abbrev S2048x8x352 : Shape := ⟨3, ![2048, 8, 352]⟩
abbrev S8x2048x352 : Shape := ⟨3, ![8, 2048, 352]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .bf16⟩
  | .hbm, ⟨2, _⟩ => ⟨S1024x2816, .f32⟩
  | .hbm, ⟨3, _⟩ => ⟨S2048x2816, .f32⟩
  | .hbm, ⟨4, _⟩ => ⟨S2048x8x352, .f32⟩
  | .hbm, ⟨5, _⟩ => ⟨S8x2048x352, .f32⟩
  | .hbm, ⟨6, _⟩ => ⟨S8x2048x352, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S2048x1024 : Shape := ⟨2, ![2048, 1024]⟩
abbrev S2048x2816 : Shape := ⟨2, ![2048, 2816]⟩
abbrev S2816x1024 : Shape := ⟨2, ![2816, 1024]⟩
abbrev S2048x8x352 : Shape := ⟨3, ![2048, 8, 352]⟩
abbrev S8x2048x352 : Shape := ⟨3, ![8, 2048, 352]⟩
abbrev S8x352x1024 : Shape := ⟨3, ![8, 352, 1024]⟩
abbrev S1x1024x352 : Shape := ⟨3, ![1, 1024, 352]⟩
abbrev S1x352x1024 : Shape := ⟨3, ![1, 352, 1024]⟩
abbrev S1024x1024 : Shape := ⟨2, ![1024, 1024]⟩
abbrev S1024x352 : Shape := ⟨2, ![1024, 352]⟩
abbrev S352x1024 : Shape := ⟨2, ![352, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S2816x1024, .bf16⟩
  | .hbm, ⟨4, _⟩ => ⟨S2048x8x352, .bf16⟩
  | .hbm, ⟨5, _⟩ => ⟨S8x2048x352, .bf16⟩
  | .hbm, ⟨6, _⟩ => ⟨S2048x8x352, .bf16⟩
  | .hbm, ⟨7, _⟩ => ⟨S8x2048x352, .bf16⟩
  | .hbm, ⟨8, _⟩ => ⟨S8x352x1024, .bf16⟩
  | .hbm, ⟨9, _⟩ => ⟨S2048x1024, .f32⟩
  | .local _ .vmem, ⟨0, _⟩ => ⟨S1x1024x352, .bf16⟩
  | .local _ .vmem, ⟨1, _⟩ => ⟨S1x1024x352, .bf16⟩
  | .local _ .vmem, ⟨2, _⟩ => ⟨S1x1024x352, .bf16⟩
  | .local _ .vmem, ⟨3, _⟩ => ⟨S1x1024x352, .bf16⟩
  | .local _ .vmem, ⟨4, _⟩ => ⟨S1x352x1024, .bf16⟩
  | .local _ .vmem, ⟨5, _⟩ => ⟨S1x352x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_16 : BitVec 32 := 0#32
  let v29 : BitVec 1 := Scalar.cmpi .ne v28 c0_i32_16
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S2816x1024, .bf16⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2816x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x1024 : Shape := ⟨2, ![2048, 1024]⟩
abbrev S1024x3072 : Shape := ⟨2, ![1024, 3072]⟩
abbrev S2048x3072 : Shape := ⟨2, ![2048, 3072]⟩
abbrev S1024x8x384 : Shape := ⟨3, ![1024, 8, 384]⟩
abbrev S8x1024x384 : Shape := ⟨3, ![8, 1024, 384]⟩
abbrev S1024x384 : Shape := ⟨2, ![1024, 384]⟩
abbrev S1x1024x384 : Shape := ⟨3, ![1, 1024, 384]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S2048x3072, .f32⟩
  | .hbm, ⟨3, _⟩ => ⟨S1024x8x384, .bf16⟩
  | .hbm, ⟨4, _⟩ => ⟨S8x1024x384, .bf16⟩
  | .hbm, ⟨5, _⟩ => ⟨S2048x1024, .f32⟩
  | .local _ .vmem, ⟨0, _⟩ => ⟨S1024x384, .f32⟩
  | .local _ .vmem, ⟨1, _⟩ => ⟨S1024x384, .f32⟩
  | .local _ .vmem, ⟨2, _⟩ => ⟨S1x1024x384, .bf16⟩
  | .local _ .vmem, ⟨3, _⟩ => ⟨S1x1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S2048x3072, .f32⟩
  | .hbm, ⟨3, _⟩ => ⟨S1024x3072, .f32⟩
  | .hbm, ⟨4, _⟩ => ⟨S2048x3072, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S2048x1024 : Shape := ⟨2, ![2048, 1024]⟩
abbrev S1024x3072 : Shape := ⟨2, ![1024, 3072]⟩
abbrev S2048x3072 : Shape := ⟨2, ![2048, 3072]⟩
abbrev S1024x8x384 : Shape := ⟨3, ![1024, 8, 384]⟩
abbrev S8x1024x384 : Shape := ⟨3, ![8, 1024, 384]⟩
abbrev S2048x512 : Shape := ⟨2, ![2048, 512]⟩
abbrev S2048x384 : Shape := ⟨2, ![2048, 384]⟩
abbrev S1x512x384 : Shape := ⟨3, ![1, 512, 384]⟩
abbrev S512x384 : Shape := ⟨2, ![512, 384]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S2048x3072, .f32⟩
  | .hbm, ⟨3, _⟩ => ⟨S1024x8x384, .bf16⟩
  | .hbm, ⟨4, _⟩ => ⟨S8x1024x384, .bf16⟩
  | .hbm, ⟨5, _⟩ => ⟨S8x1024x384, .bf16⟩
  | .local _ .vmem, ⟨0, _⟩ => ⟨S2048x512, .f32⟩
  | .local _ .vmem, ⟨1, _⟩ => ⟨S2048x512, .f32⟩
  | .local _ .vmem, ⟨2, _⟩ => ⟨S2048x384, .f32⟩
  | .local _ .vmem, ⟨3, _⟩ => ⟨S2048x384, .f32⟩
  | .local _ .vmem, ⟨4, _⟩ => ⟨S1x512x384, .bf16⟩
  | .local _ .vmem, ⟨5, _⟩ => ⟨S1x512x384, .bf16⟩
  | .local _ .vmem, ⟨6, _⟩ => ⟨S512x384, .f32⟩
  | .local _ .vmem, ⟨7, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_10 : BitVec 32 := 0#32
  let v15 : BitVec 1 := Scalar.cmpi .eq arg2 c0_i32_10
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x3072 : Shape := ⟨2, ![1024, 3072]⟩
abbrev S2048x3072 : Shape := ⟨2, ![2048, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S2048x3072, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | .hbm, ⟨8, _⟩ => ⟨S1024x8x384, .bf16⟩
  | .hbm, ⟨9, _⟩ => ⟨S8x1024x384, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x1024 : Shape := ⟨2, ![2048, 1024]⟩
abbrev S1024x3072 : Shape := ⟨2, ![1024, 3072]⟩
abbrev S1024x8x384 : Shape := ⟨3, ![1024, 8, 384]⟩
abbrev S8x1024x384 : Shape := ⟨3, ![8, 1024, 384]⟩
abbrev S2048x3072 : Shape := ⟨2, ![2048, 3072]⟩
abbrev S1024x1024 : Shape := ⟨2, ![1024, 1024]⟩
abbrev S1x1024x384 : Shape := ⟨3, ![1, 1024, 384]⟩
abbrev S1024x384 : Shape := ⟨2, ![1024, 384]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S1024x8x384, .bf16⟩
  | .hbm, ⟨3, _⟩ => ⟨S8x1024x384, .bf16⟩
  | .hbm, ⟨4, _⟩ => ⟨S2048x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024x384, .bf16⟩
  | .local _ .vmem, ⟨3, _⟩ => ⟨S1x1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_11 : BitVec 32 := 0#32
  let v15 : BitVec 1 := Scalar.cmpi .eq arg2 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S1024x3072, .f32⟩
  | .hbm, ⟨3, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S2048x1024 : Shape := ⟨2, ![2048, 1024]⟩
abbrev S16x257 : Shape := ⟨2, ![16, 257]⟩
abbrev S_ : Shape := ⟨0, ![]⟩
abbrev S2560x1024 : Shape := ⟨2, ![2560, 1024]⟩
abbrev S16x1 : Shape := ⟨2, ![16, 1]⟩
abbrev S16x639 : Shape := ⟨2, ![16, 639]⟩
abbrev S16x127 : Shape := ⟨2, ![16, 127]⟩
abbrev S16x1024 : Shape := ⟨2, ![16, 1024]⟩
abbrev S8x2x1024 : Shape := ⟨3, ![8, 2, 1024]⟩
abbrev S256x128 : Shape := ⟨2, ![256, 128]⟩
abbrev S2560x128 : Shape := ⟨2, ![2560, 128]⟩
abbrev S1x2x1024 : Shape := ⟨3, ![1, 2, 1024]⟩
abbrev S2x256x768 : Shape := ⟨3, ![2, 256, 768]⟩
abbrev S1x1x1024 : Shape := ⟨3, ![1, 1, 1024]⟩
abbrev S1x1024 : Shape := ⟨2, ![1, 1024]⟩
abbrev S256x1024 : Shape := ⟨2, ![256, 1024]⟩
abbrev S256x768 : Shape := ⟨2, ![256, 768]⟩
abbrev S1x256x768 : Shape := ⟨3, ![1, 256, 768]⟩
abbrev S768x128 : Shape := ⟨2, ![768, 128]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x257, .f32⟩
  | .hbm, ⟨4, _⟩ => ⟨S_, .i32⟩
  | .hbm, ⟨5, _⟩ => ⟨S_, .f32⟩
  | .hbm, ⟨6, _⟩ => ⟨S2560x1024, .f32⟩
  | .hbm, ⟨7, _⟩ => ⟨S_, .i32⟩
  | .hbm, ⟨8, _⟩ => ⟨S_, .f32⟩
  | .hbm, ⟨9, _⟩ => ⟨S2560x1024, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S16x639, .f32⟩
  | .hbm, ⟨14, _⟩ => ⟨S16x257, .f32⟩
  | .hbm, ⟨15, _⟩ => ⟨S16x1, .f32⟩
  | .hbm, ⟨16, _⟩ => ⟨S16x127, .f32⟩
  | .hbm, ⟨17, _⟩ => ⟨S16x1024, .f32⟩
  | .hbm, ⟨18, _⟩ => ⟨S8x2x1024, .f32⟩
  | .hbm, ⟨19, _⟩ => ⟨S2048x1024, .f32⟩
  | .local _ .vmem, ⟨0, _⟩ => ⟨S256x128, .f32⟩
  | .local _ .vmem, ⟨1, _⟩ => ⟨S256x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S1x2x1024, .f32⟩
  | .local _ .vmem, ⟨7, _⟩ => ⟨S1x2x1024, .f32⟩
  | .local _ .vmem, ⟨8, _⟩ => ⟨S256x128, .f32⟩
  | .local _ .vmem, ⟨9, _⟩ => ⟨S256x128, .f32⟩
  | .local _ .vmem, ⟨10, _⟩ => ⟨S2x256x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v6 : Index := Scalar.indexCast v1
  let c0_2 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S2048x1024 : Shape := ⟨2, ![2048, 1024]⟩
abbrev S16x257 : Shape := ⟨2, ![16, 257]⟩
abbrev S2048x16x64 : Shape := ⟨3, ![2048, 16, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S16x2048 : Shape := ⟨2, ![16, 2048]⟩
abbrev S16x2048x1 : Shape := ⟨3, ![16, 2048, 1]⟩
abbrev S16x64x2048 : Shape := ⟨3, ![16, 64, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x257, .f32⟩
  | .hbm, ⟨4, _⟩ => ⟨S2048x16x64, .f32⟩
  | .hbm, ⟨5, _⟩ => ⟨S2048x16x64, .f32⟩
  | .hbm, ⟨6, _⟩ => ⟨S2048x16x64, .f32⟩
  | .hbm, ⟨7, _⟩ => ⟨S2048, .i32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048x1, .i32⟩
  | .hbm, ⟨32, _⟩ => ⟨S16x2048x2048, .f32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S16x2048x2048, .f32⟩
  | .hbm, ⟨42, _⟩ => ⟨S_, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S_, .i32⟩
  | .hbm, ⟨47, _⟩ => ⟨S2048x2048, .i32⟩
  | .hbm, ⟨48, _⟩ => ⟨S2048x2048, .i1⟩
  | .hbm, ⟨49, _⟩ => ⟨S_, .i32⟩
  | .hbm, ⟨50, _⟩ => ⟨S2048x2048, .i32⟩
  | .hbm, ⟨51, _⟩ => ⟨S2048x2048, .i1⟩
  | .hbm, ⟨52, _⟩ => ⟨S2048x2048, .i1⟩
  | .hbm, ⟨53, _⟩ => ⟨S_, .f32⟩
  | .hbm, ⟨54, _⟩ => ⟨S_, .f32⟩
  | .hbm, ⟨55, _⟩ => ⟨S16x2048x2048, .i1⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S16x2048, .f32⟩
  | .hbm, ⟨60, _⟩ => ⟨S_, .f32⟩
  | .hbm, ⟨61, _⟩ => ⟨S16x2048, .f32⟩
  | .hbm, ⟨62, _⟩ => ⟨S16x2048, .f32⟩
  | .hbm, ⟨63, _⟩ => ⟨S16x2048x1, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S16x2048x2048, .f32⟩
  | .hbm, ⟨71, _⟩ => ⟨S16x2048x2048, .f32⟩
  | .hbm, ⟨72, _⟩ => ⟨S16x64x2048, .f32⟩
  | .hbm, ⟨73, _⟩ => ⟨S2048x16x64, .f32⟩
  | .hbm, ⟨74, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Pre.lean ====
module
public import proofs.«01_k».proof.Defs
public import Idealize.ShloMosaic.Lib.ReduceAll
/-! The precondition read back: every entry of every argument is a real number. And the reference's padding read. -/
@[expose] public section
noncomputable section

namespace Cert.Pre_finite
/-- A scalar is broadcast to an array of 2048 rows. -/
theorem bcastBig : S_.BroadcastsInDim S2048x1024 (![] : Fin 0 → Fin S2048x1024.rank) := by decide
/-- Both axes of 2048 rows are reduced. -/
theorem sumBig : S2048x1024.ReducesTo [0, 1] S_ := by decide
/-- A scalar has one element. -/
theorem oneElt : 0 < S_.numel := by decide
/-- A scalar is broadcast to the bias table. -/
theorem bcastTab : S_.BroadcastsInDim S16x257 (![] : Fin 0 → Fin S16x257.rank) := by decide
/-- Both axes of the bias table are reduced. -/
theorem sumTab : S16x257.ReducesTo [0, 1] S_ := by decide
/-- The side conditions of the precondition's operations. -/
theorem facts : Facts where
  bcast_S_S2048x1024 := bcastBig
  reducesTo_S2048x1024_S_d0_1 := sumBig
  h_S_ := oneElt
  bcast_S_S16x257 := bcastTab
  reducesTo_S16x257_S_d0_1 := sumTab
end Cert.Pre_finite

namespace Cert.Fin
open Idealize.ShloMosaic

/-- The literal of plus infinity. -/
theorem top_lit : Ideal.ofBits .f32 0x7F800000#32 = ⊤ := by
  simp [Ideal.ofBits, Ideal.ieee, -EReal.coe_mul]

/-- A value whose absolute value compares below plus infinity is a real number. -/
theorem real_of_lt (x : EReal) (h : FloatOps.cmpf (F := Ideal) (φ := .f32) .olt (max x (-x)) (Ideal.ofBits .f32 0x7F800000#32) = 1#1) :
    x = ((x.toReal : ℝ) : EReal) := by
  rw [top_lit] at h
  have h' : max x (-x) < ⊤ := by
    by_contra hn
    have : FloatOps.cmpf (F := Ideal) (φ := .f32) .olt (max x (-x)) ⊤ = 0#1 := by
      show BitVec.ofBool (decide (max x (-x) < ⊤)) = 0#1
      simp [hn]
    rw [this] at h
    exact absurd h (by decide)
  refine (EReal.coe_toReal ?_ ?_).symm
  · rintro rfl; simp at h'
  · rintro rfl; simp at h'

/-- One conjunct of the precondition, for an array of two axes. -/
theorem all_real {s t : Shape} {axes : List (Fin s.rank)} [Subsingleton t.Idx] (x : FVec Ideal s .f32) (d : Fin t.rank → Fin s.rank) (hb : t.BroadcastsInDim s d)
    (hr : s.ReducesTo axes t) (h0 : 0 < t.numel) (j : t.Idx)
    (e : Host.reduce IntOp.andi (cmpf .olt (Host.absf x) (broadcastInDim s d hb (constant t .f32 0x7F800000#32))) (constantI t 1 1#1) hr h0 j = 1#1)
    (i : s.Idx) : x i = (((x i : EReal).toReal : ℝ) : EReal) :=
  real_of_lt _ (Host.reduce_andi_all _ _ hr h0 j e i)

end Cert.Fin
-- ==== Proof.Soft.lean ====
module
public import Idealize.ShloMosaic.PureOps.Ideal.Laws
/-! The mathematics of one row of attention: a softmax over the keys a predicate allows, and the
gradient that runs back through it. The real-valued definitions come first, then what the printed
extended-real expressions are equal to when every score is a real number. -/
@[expose] public section
noncomputable section
namespace Cert.Row
open Idealize.ShloMosaic

variable {J : Type} [Fintype J]

/-- The weight softmax gives to key `j` among the keys that `V` allows. -/
def smx (V : J → Prop) [DecidablePred V] (s : J → ℝ) (j : J) : ℝ :=
  (if V j then Real.exp (s j) else 0) / ∑ k, if V k then Real.exp (s k) else 0

/-- The gradient of softmax with respect to score `j`, where `d` is the gradient of the weights. -/
def smxGrad (V : J → Prop) [DecidablePred V] (s d : J → ℝ) (j : J) : ℝ :=
  smx V s j * (d j - ∑ k, d k * smx V s k)

section real
variable (V : J → Prop) [DecidablePred V] (s d : J → ℝ)

/-- The denominator of softmax is positive as soon as one key is allowed. -/
theorem den_pos (h : ∃ j, V j) (m : ℝ) : 0 < ∑ k, if V k then Real.exp (s k - m) else 0 := by
  obtain ⟨j, hj⟩ := h
  refine Finset.sum_pos' (fun k _ => ?_) ⟨j, Finset.mem_univ _, ?_⟩
  · split_ifs <;> positivity
  · rw [if_pos hj]; positivity

/-- Softmax does not change when one number is subtracted from every score. -/
theorem smx_shift (m : ℝ) (j : J) :
    (if V j then Real.exp (s j - m) else 0) / (∑ k, if V k then Real.exp (s k - m) else 0) = smx V s j := by
  have e : ∀ k, (if V k then Real.exp (s k - m) else 0) = (if V k then Real.exp (s k) else 0) * Real.exp (-m) := by
    intro k
    split_ifs
    · rw [sub_eq_add_neg, Real.exp_add]
    · rw [zero_mul]
  rw [smx, e j, Finset.sum_congr rfl fun k _ => e k, ← Finset.sum_mul,
    mul_div_mul_right _ _ (Real.exp_pos _).ne']

/-- A key that is not allowed has weight zero. -/
theorem smx_of_not {j : J} (h : ¬V j) : smx V s j = 0 := by rw [smx, if_neg h, zero_div]

/-- A key that is not allowed has gradient zero. -/
theorem smxGrad_of_not {j : J} (h : ¬V j) : smxGrad V s d j = 0 := by
  rw [smxGrad, smx_of_not V s h, zero_mul]

/-- The weights of softmax add up to one. -/
theorem sum_smx (h : ∃ j, V j) : ∑ j, smx V s j = 1 := by
  have hp := den_pos V s h 0
  simp only [sub_zero] at hp
  simp only [smx]
  rw [← Finset.sum_div, div_self hp.ne']

/-- The gradients of one row of scores add up to zero. -/
theorem sum_smxGrad (h : ∃ j, V j) : ∑ j, smxGrad V s d j = 0 := by
  simp only [smxGrad, mul_sub]
  rw [Finset.sum_sub_distrib, ← Finset.sum_mul, sum_smx V s h, one_mul, sub_eq_zero]
  exact Finset.sum_congr rfl fun k _ => mul_comm _ _

/-- The form in which automatic differentiation prints the gradient of softmax. -/
theorem grad_form (h : ∃ j, V j) (m : ℝ) (j : J) :
    (d j / (∑ k, if V k then Real.exp (s k - m) else 0)
      - ∑ k, d k * (1 / ((∑ k, if V k then Real.exp (s k - m) else 0) * (∑ k, if V k then Real.exp (s k - m) else 0)))
        * (if V k then Real.exp (s k - m) else 0)) * (if V j then Real.exp (s j - m) else 0) = smxGrad V s d j := by
  have hz := den_pos V s h m
  simp only [smxGrad, ← smx_shift V s m]
  generalize (∑ k, if V k then Real.exp (s k - m) else 0) = z at hz ⊢
  have e : ∀ k, d k * (1 / (z * z)) * (if V k then Real.exp (s k - m) else 0)
      = d k * ((if V k then Real.exp (s k - m) else 0) / z) * (1 / z) := by
    intro k; field_simp
  rw [Finset.sum_congr rfl fun k _ => e k, ← Finset.sum_mul]
  field_simp

end real

/-- A finite sum of real numbers is the same sum among the extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- Division by a real number that is not zero, of a real number. -/
theorem div_coe_coe (x : ℝ) {y : ℝ} (h : y ≠ 0) : Ideal.div (x : EReal) (y : EReal) = ((x / y : ℝ) : EReal) := by
  rw [Ideal.div_coe h, ← EReal.coe_mul, mul_one_div]

/-- The scores of a row: minus infinity where the key is not allowed. -/
abbrev scores (V : J → Prop) [DecidablePred V] (s : J → ℝ) (j : J) : EReal := if V j then (s j : EReal) else ⊥

/-- The printed maximum of a row. -/
def rMax (S : J → EReal) : EReal := Finset.fold max ⊥ S Finset.univ
/-- The printed exponential of a score less the maximum. -/
def rExp (S : J → EReal) (j : J) : EReal := Ideal.exp (S j - rMax S)
/-- The printed sum of a row's exponentials. -/
def rSum (S : J → EReal) : EReal := ∑ k, rExp S k
/-- The printed gradient of a score, before the part that runs back through the maximum. -/
def rGrad (S D : J → EReal) (j : J) : EReal :=
  (Ideal.div (D j) (rSum S) + (0 - ∑ k, D k * Ideal.div 1 (rSum S * rSum S) * rExp S k)) * rExp S j
/-- One at a key whose score is the maximum, zero elsewhere. -/
def rTop (S : J → EReal) (j : J) : EReal := if S j = rMax S then 1 else 0
/-- The printed gradient of a score: the maximum's own gradient is shared out among the keys that attain it. -/
def rAll (S D : J → EReal) (j : J) : EReal :=
  rGrad S D j + Ideal.div (∑ k, (0 - rGrad S D k)) (∑ k, rTop S k) * rTop S j

variable (V : J → Prop) [DecidablePred V] (s d : J → ℝ)

/-- The maximum of a row with an allowed key is a real number, and one of the scores. -/
theorem rMax_scores (h : ∃ j, V j) : ∃ m : ℝ, rMax (scores V s) = m ∧ ∃ j, scores V s j = m := by
  classical
  obtain ⟨j0, h0⟩ := h
  have hne : (Finset.univ : Finset J).Nonempty := ⟨j0, Finset.mem_univ _⟩
  have hsup : rMax (scores V s) = Finset.univ.sup (scores V s) := rfl
  obtain ⟨j, -, hj⟩ := Finset.exists_mem_eq_sup Finset.univ hne (scores V s)
  have hle : scores V s j0 ≤ Finset.univ.sup (scores V s) := Finset.le_sup (Finset.mem_univ _)
  by_cases hv : V j
  · refine ⟨s j, ?_, j, ?_⟩
    · rw [hsup, hj]; exact if_pos hv
    · exact if_pos hv
  · exfalso
    rw [hj] at hle
    rw [show scores V s j0 = s j0 from if_pos h0, show scores V s j = ⊥ from if_neg hv] at hle
    exact absurd (le_bot_iff.mp hle) (EReal.coe_ne_bot _)

/-- The exponential at a key, as a real number. -/
theorem rExp_scores {m : ℝ} (hm : rMax (scores V s) = m) (j : J) :
    rExp (scores V s) j = ((if V j then Real.exp (s j - m) else 0 : ℝ) : EReal) := by
  rw [rExp, hm]
  by_cases hv : V j
  · rw [if_pos hv, show scores V s j = s j from if_pos hv, ← EReal.coe_sub, Ideal.exp_coe]
  · rw [if_neg hv, show scores V s j = ⊥ from if_neg hv, EReal.bot_sub, Ideal.exp_bot, EReal.coe_zero]

/-- The sum of the exponentials, as a real number. -/
theorem rSum_scores {m : ℝ} (hm : rMax (scores V s) = m) :
    rSum (scores V s) = ((∑ k, if V k then Real.exp (s k - m) else 0 : ℝ) : EReal) := by
  rw [rSum, Finset.sum_congr rfl fun k _ => rExp_scores V s hm k, coe_sum]

/-- The printed softmax weight is the weight `smx`. -/
theorem weight_scores (h : ∃ j, V j) (j : J) :
    Ideal.div (rExp (scores V s) j) (rSum (scores V s)) = (smx V s j : EReal) := by
  obtain ⟨m, hm, -⟩ := rMax_scores V s h
  rw [rExp_scores V s hm, rSum_scores V s hm, div_coe_coe _ (den_pos V s h m).ne', smx_shift]

/-- The printed gradient, without the maximum's part, is `smxGrad`. -/
theorem rGrad_scores (h : ∃ j, V j) (j : J) :
    rGrad (scores V s) (fun k => (d k : EReal)) j = (smxGrad V s d j : EReal) := by
  obtain ⟨m, hm, -⟩ := rMax_scores V s h
  have hz := den_pos V s h m
  simp only [rGrad, rExp_scores V s hm, rSum_scores V s hm]
  rw [← grad_form V s d h m j]
  generalize (∑ k, if V k then Real.exp (s k - m) else 0) = z at hz ⊢
  rw [← EReal.coe_mul, ← EReal.coe_one, div_coe_coe _ (mul_pos hz hz).ne', div_coe_coe _ hz.ne']
  simp only [← EReal.coe_mul]
  rw [coe_sum, ← EReal.coe_zero, ← EReal.coe_sub, ← EReal.coe_add, ← EReal.coe_mul, zero_sub, ← sub_eq_add_neg]

/-- The part of the gradient that runs back through the maximum is zero, so the whole printed gradient is `smxGrad`. -/
theorem rAll_scores (h : ∃ j, V j) (j : J) :
    (if V j then rAll (scores V s) (fun k => (d k : EReal)) j else 0) = (smxGrad V s d j : EReal) := by
  by_cases hv : V j
  swap
  · rw [if_neg hv, smxGrad_of_not V s d hv, EReal.coe_zero]
  rw [if_pos hv, rAll]
  simp only [rGrad_scores V s d h]
  obtain ⟨m, hm, j1, h1⟩ := rMax_scores V s h
  have e1 : ∑ k, ((0 : EReal) - (smxGrad V s d k : EReal)) = ((0 : ℝ) : EReal) := by
    rw [Finset.sum_congr rfl fun k _ => show (0 : EReal) - (smxGrad V s d k : EReal) = ((-smxGrad V s d k : ℝ) : EReal) by
      rw [← EReal.coe_zero, ← EReal.coe_sub, zero_sub], coe_sum, Finset.sum_neg_distrib, sum_smxGrad V s d h, neg_zero]
  classical
  have et : ∀ k, rTop (scores V s) k = ((if scores V s k = rMax (scores V s) then 1 else 0 : ℝ) : EReal) := by
    intro k; rw [rTop]; split_ifs <;> simp
  have e2 : (∑ k, if scores V s k = rMax (scores V s) then (1 : ℝ) else 0) ≠ 0 := by
    refine (Finset.sum_pos' (fun k _ => ?_) ⟨j1, Finset.mem_univ _, ?_⟩).ne'
    · split_ifs <;> norm_num
    · rw [if_pos (h1.trans hm.symm)]; norm_num
  rw [e1, Finset.sum_congr rfl fun k _ => et k, coe_sum, div_coe_coe _ e2, zero_div, EReal.coe_zero, zero_mul, add_zero]

end Cert.Row
end
-- ==== Proof.Spec.lean ====
module
public import proofs.«01_k».proof.Proof.Soft
/-! What the gradient of chunked attention is, over real numbers: 2048 positions, 16 heads of 64
columns each, a bias that depends on the distance between query and key, and a query allowed to
look at the keys of its own chunk of 64 positions and of the eight chunks before it. -/
@[expose] public section
noncomputable section
namespace Cert.Att
open Cert.Row

/-- A [2048, 1024] array of real numbers. -/
abbrev Arr := Fin 2048 → Fin 1024 → ℝ
/-- The bias table, one row of 257 distances for each head. -/
abbrev Tab := Fin 16 → Fin 257 → ℝ

/-- Query `a` may look at key `b`: its chunk is the key's chunk or one of the next eight. -/
def ok (a b : Fin 2048) : Prop := b.val / 64 ≤ a.val / 64 ∧ a.val / 64 ≤ b.val / 64 + 8

instance (a : Fin 2048) : DecidablePred (ok a) := fun b => by unfold ok; infer_instance

/-- A query may always look at its own position. -/
theorem ok_self (a : Fin 2048) : ok a a := ⟨le_rfl, by omega⟩

/-- Column `d` of head `h`. -/
def col (h : Fin 16) (d : Fin 64) : Fin 1024 := ⟨64 * h.val + d.val, by omega⟩
/-- The head that column `e` belongs to. -/
def hd (e : Fin 1024) : Fin 16 := ⟨e.val / 64, by omega⟩
/-- The place in the table of the distance `z`, clipped to 128 either way. -/
def clip (z : ℤ) : Fin 257 := ⟨(min (max z (-128)) 128 + 128).toNat, by omega⟩

variable (q k v g : Arr) (r : Tab)

/-- The score of query `a` and key `b` in head `h`. -/
def sc (h : Fin 16) (a b : Fin 2048) : ℝ :=
  (∑ d, q a (col h d) * k b (col h d)) * (1 / 8) + r h (clip ((a.val : ℤ) - b.val))
/-- The gradient of the weight of query `a` and key `b`. -/
def dp (h : Fin 16) (a b : Fin 2048) : ℝ := ∑ d, g a (col h d) * v b (col h d)
/-- The weight of query `a` and key `b`. -/
def pw (h : Fin 16) (a b : Fin 2048) : ℝ := smx (ok a) (sc q k r h a) b
/-- The gradient of the score of query `a` and key `b`. -/
def ds (h : Fin 16) (a b : Fin 2048) : ℝ := smxGrad (ok a) (sc q k r h a) (dp v g h a) b
/-- The gradient of the queries. -/
def dq (a : Fin 2048) (e : Fin 1024) : ℝ := ∑ b, ds q k v g r (hd e) a b * (1 / 8) * k b e
/-- The gradient of the keys. -/
def dk (b : Fin 2048) (e : Fin 1024) : ℝ := ∑ a, ds q k v g r (hd e) a b * (1 / 8) * q a e
/-- The gradient of the values. -/
def dv (b : Fin 2048) (e : Fin 1024) : ℝ := ∑ a, g a e * pw q k r (hd e) a b

/-- A pair that is not allowed has gradient zero. -/
theorem ds_of_not (h : Fin 16) (a b : Fin 2048) (hn : ¬ok a b) : ds q k v g r h a b = 0 :=
  smxGrad_of_not _ _ _ hn
/-- A pair that is not allowed has weight zero. -/
theorem pw_of_not (h : Fin 16) (a b : Fin 2048) (hn : ¬ok a b) : pw q k r h a b = 0 :=
  smx_of_not _ _ hn

end Cert.Att
end
-- ==== Proof.Tile.lean ====
module
public import proofs.«01_k».proof.Proof.Spec
/-! The same gradient computed tile by tile: 256 queries against a window of 768 keys of an array
padded in front by 512 rows of zeros, two heads side by side in 128 columns. Each tile's numbers
are the whole array's, and the tiles' contributions add up to the whole gradient. -/
@[expose] public section
noncomputable section
namespace Cert.Tile
open Cert.Row Cert.Att

/-- Row `i` of query tile `c`. -/
def row (c : Fin 8) (i : Fin 256) : Fin 2048 := ⟨256 * c.val + i.val, by omega⟩
/-- Column `d` of column pair `p`. -/
def colp (p : Fin 8) (d : Fin 128) : Fin 1024 := ⟨128 * p.val + d.val, by omega⟩
/-- Head `h` of pair `p`. -/
def hdp (p : Fin 8) (h : Fin 2) : Fin 16 := ⟨2 * p.val + h.val, by omega⟩
/-- Which of the two heads column `d` belongs to. -/
def half (d : Fin 128) : Fin 2 := ⟨d.val / 64, by omega⟩
/-- Key `x` of the window of tile `c`, counted without the padding. -/
def key (c : Fin 8) (x : Fin 768) : Fin 2048 := ⟨256 * c.val + x.val - 512, by omega⟩

/-- The rows of one column pair, with 512 rows of zeros in front. -/
def padded (k : Arr) (p : Fin 8) (t : Fin 2560) (d : Fin 128) : ℝ :=
  if h : 512 ≤ t.val then k ⟨t.val - 512, by omega⟩ (colp p d) else 0

/-- Query `i` of tile `c` may look at key `x` of the window. -/
def okB (c : Fin 8) (i : Fin 256) (x : Fin 768) : Prop :=
  i.val / 64 ≤ x.val / 64 ∧ x.val / 64 ≤ i.val / 64 + 8 ∧ 8 ≤ x.val / 64 + 4 * c.val

instance (c : Fin 8) (i : Fin 256) : DecidablePred (okB c i) := fun x => by unfold okB; infer_instance

/-- A tile's score, in head `h`. -/
def scB (Q : Fin 256 → Fin 128 → ℝ) (K : Fin 768 → Fin 128 → ℝ) (b : Fin 2 → Fin 256 → Fin 768 → ℝ)
    (h : Fin 2) (i : Fin 256) (x : Fin 768) : ℝ :=
  (∑ d, (if half d = h then Q i d else 0) * K x d) * (1 / 8) + b h i x
/-- The gradient of a tile's weight, in head `h`. -/
def dpB (G : Fin 256 → Fin 128 → ℝ) (V : Fin 768 → Fin 128 → ℝ) (h : Fin 2) (i : Fin 256) (x : Fin 768) : ℝ :=
  ∑ d, (if half d = h then G i d else 0) * V x d

section tile
variable (c : Fin 8) (Q G : Fin 256 → Fin 128 → ℝ) (K V : Fin 768 → Fin 128 → ℝ) (b : Fin 2 → Fin 256 → Fin 768 → ℝ)
/-- A tile's weight, in head `h`. -/
def pwB (h : Fin 2) (i : Fin 256) (x : Fin 768) : ℝ := smx (okB c i) (scB Q K b h i) x
/-- The gradient of a tile's score, in head `h`. -/
def dsB (h : Fin 2) (i : Fin 256) (x : Fin 768) : ℝ := smxGrad (okB c i) (scB Q K b h i) (dpB G V h i) x
/-- What a tile leaves in the gradient of its queries. -/
def dqB (i : Fin 256) (d : Fin 128) : ℝ := ∑ x, dsB c Q G K V b (half d) i x * (1 / 8) * K x d
/-- What a tile adds to the gradient of its window of keys. -/
def dkB (x : Fin 768) (d : Fin 128) : ℝ := ∑ i, dsB c Q G K V b (half d) i x * (1 / 8) * Q i d
/-- What a tile adds to the gradient of its window of values. -/
def dvB (x : Fin 768) (d : Fin 128) : ℝ := ∑ i, G i d * pwB c Q K b (half d) i x
end tile

/-- A query may always look at its own position, which is 512 places into the window. -/
theorem okB_self (c : Fin 8) (i : Fin 256) : okB c i ⟨512 + i.val, by omega⟩ := by
  unfold okB; dsimp only; omega

/-- A key the tile allows lies behind the padding, and the whole array allows it. -/
theorem okB_iff (c : Fin 8) (i : Fin 256) (x : Fin 768) :
    okB c i x ↔ 512 ≤ 256 * c.val + x.val ∧ ok (row c i) (key c x) := by
  unfold okB ok row key; dsimp only; omega

/-- A sum over the keys of a window is a sum over all keys, when nothing outside the window counts. -/
theorem sum_window (c : Fin 8) (f : Fin 768 → ℝ) (F : Fin 2048 → ℝ)
    (h1 : ∀ x, ¬512 ≤ 256 * c.val + x.val → f x = 0) (h2 : ∀ x, 512 ≤ 256 * c.val + x.val → f x = F (key c x))
    (h3 : ∀ b : Fin 2048, ¬(256 * c.val ≤ b.val + 512 ∧ b.val + 512 < 256 * c.val + 768) → F b = 0) :
    ∑ x, f x = ∑ b, F b := by
  have hin : ∀ x, f x ≠ 0 → 512 ≤ 256 * c.val + x.val := fun x hx => by
    by_contra hn; exact hx (h1 x hn)
  refine Finset.sum_bij_ne_zero (fun x _ _ => key c x) (fun _ _ _ => Finset.mem_univ _) ?_ ?_ ?_
  · intro x _ hx y _ hy e
    have := hin x hx; have := hin y hy
    have e' := congrArg Fin.val e
    simp only [key] at e'
    exact Fin.ext (by omega)
  · intro b _ hb
    have hw : 256 * c.val ≤ b.val + 512 ∧ b.val + 512 < 256 * c.val + 768 := by
      by_contra hn; exact hb (h3 b hn)
    let x : Fin 768 := ⟨b.val + 512 - 256 * c.val, by omega⟩
    have hx : 512 ≤ 256 * c.val + x.val := by simp only [x]; omega
    have hk : key c x = b := Fin.ext (by simp only [key, x]; omega)
    exact ⟨x, Finset.mem_univ _, by rw [h2 x hx, hk]; exact hb, hk⟩
  · intro x _ hx
    exact h2 x (hin x hx)

/-- A sum over the columns of one head of a pair is a sum over that head's 64 columns. -/
theorem sum_half (p : Fin 8) (h : Fin 2) (X Y : Fin 1024 → ℝ) :
    ∑ d, (if half d = h then X (colp p d) else 0) * Y (colp p d) = ∑ d, X (col (hdp p h) d) * Y (col (hdp p h) d) := by
  have hc : ∀ d : Fin 64, colp p ⟨64 * h.val + d.val, by omega⟩ = col (hdp p h) d := fun d =>
    Fin.ext (by simp only [colp, col, hdp]; omega)
  symm
  refine Finset.sum_of_injOn (fun d : Fin 64 => (⟨64 * h.val + d.val, by omega⟩ : Fin 128)) ?_ ?_ ?_ ?_
  · intro a _ b _ e
    have := congrArg Fin.val e
    dsimp only at this
    exact Fin.ext (by omega)
  · exact fun _ _ => Finset.mem_coe.mpr (Finset.mem_univ _)
  · intro d _ hd
    rw [if_neg, zero_mul]
    intro e
    have e' := congrArg Fin.val e
    simp only [half] at e'
    exact hd ⟨⟨d.val - 64 * h.val, by omega⟩, Finset.mem_coe.mpr (Finset.mem_univ _), Fin.ext (by dsimp only; omega)⟩
  · intro d _
    rw [if_pos (Fin.ext (by simp only [half]; omega)), hc]

variable (q k v g : Arr) (r : Tab) (p c : Fin 8)

/-- The queries of a tile. -/
def qT (i : Fin 256) (d : Fin 128) : ℝ := q (row c i) (colp p d)
/-- The window of keys of a tile. -/
def kT (x : Fin 768) (d : Fin 128) : ℝ := padded k p ⟨256 * c.val + x.val, by omega⟩ d
/-- The bias of a tile, which is the same for every tile of a pair. -/
def bT (h : Fin 2) (i : Fin 256) (x : Fin 768) : ℝ := r (hdp p h) (clip (512 + (i.val : ℤ) - x.val))

/-- A row of a tile that is not padding. -/
theorem kT_of_le {x : Fin 768} (hx : 512 ≤ 256 * c.val + x.val) (d : Fin 128) : kT k p c x d = k (key c x) (colp p d) := by
  unfold kT padded; rw [dif_pos hx]; rfl

/-- A tile's score is the whole array's. -/
theorem scB_eq (h : Fin 2) (i : Fin 256) (x : Fin 768) (hx : 512 ≤ 256 * c.val + x.val) :
    scB (qT q p c) (kT k p c) (bT r p) h i x = sc q k r (hdp p h) (row c i) (key c x) := by
  unfold scB sc
  simp only [kT_of_le k p c hx, qT, bT]
  rw [sum_half p h (q (row c i)) (k (key c x))]
  congr 3
  simp only [row, key]; omega

/-- The gradient of a tile's weight is the whole array's. -/
theorem dpB_eq (h : Fin 2) (i : Fin 256) (x : Fin 768) (hx : 512 ≤ 256 * c.val + x.val) :
    dpB (qT g p c) (kT v p c) h i x = dp v g (hdp p h) (row c i) (key c x) := by
  unfold dpB dp
  simp only [kT_of_le v p c hx, qT]
  exact sum_half p h (g (row c i)) (v (key c x))

/-- A key the whole array allows lies in the window. -/
theorem window_of_ok (i : Fin 256) (b : Fin 2048) (h : ok (row c i) b) :
    256 * c.val ≤ b.val + 512 ∧ b.val + 512 < 256 * c.val + 768 := by
  unfold ok row at h; dsimp only at h; omega

/-- Softmax over the window is softmax over all keys. -/
theorem smx_window (i : Fin 256) (s : Fin 768 → ℝ) (S : Fin 2048 → ℝ)
    (hs : ∀ x, 512 ≤ 256 * c.val + x.val → s x = S (key c x)) (x : Fin 768) (hx : 512 ≤ 256 * c.val + x.val) :
    smx (okB c i) s x = smx (ok (row c i)) S (key c x) := by
  unfold smx
  have e : ∀ y, 512 ≤ 256 * c.val + y.val → (if okB c i y then Real.exp (s y) else 0) = if ok (row c i) (key c y) then Real.exp (S (key c y)) else 0 := by
    intro y hy
    rw [hs y hy]
    exact if_congr ((okB_iff c i y).trans (and_iff_right hy)) rfl rfl
  rw [e x hx, sum_window c _ (fun b => if ok (row c i) b then Real.exp (S b) else 0)
    (fun y hy => if_neg fun h => hy ((okB_iff c i y).mp h).1) e
    (fun b hb => if_neg fun h => hb (window_of_ok c i b h))]

/-- The gradient of softmax over the window is the one over all keys. -/
theorem smxGrad_window (i : Fin 256) (s d : Fin 768 → ℝ) (S D : Fin 2048 → ℝ)
    (hs : ∀ x, 512 ≤ 256 * c.val + x.val → s x = S (key c x))
    (hd : ∀ x, 512 ≤ 256 * c.val + x.val → d x = D (key c x)) (x : Fin 768) (hx : 512 ≤ 256 * c.val + x.val) :
    smxGrad (okB c i) s d x = smxGrad (ok (row c i)) S D (key c x) := by
  unfold smxGrad
  rw [smx_window c i s S hs x hx, hd x hx, sum_window c _ (fun b => D b * smx (ok (row c i)) S b)
    (fun y hy => by rw [smx_of_not _ _ fun h => hy ((okB_iff c i y).mp h).1, mul_zero])
    (fun y hy => by rw [hd y hy, smx_window c i s S hs y hy])
    (fun b hb => by rw [smx_of_not _ _ fun h => hb (window_of_ok c i b h), mul_zero])]

/-- A tile's weight is the whole array's. -/
theorem pwB_eq (h : Fin 2) (i : Fin 256) (x : Fin 768) (hx : 512 ≤ 256 * c.val + x.val) :
    pwB c (qT q p c) (kT k p c) (bT r p) h i x = pw q k r (hdp p h) (row c i) (key c x) :=
  smx_window c i _ _ (scB_eq q k r p c h i) x hx

/-- The gradient of a tile's score is the whole array's. -/
theorem dsB_eq (h : Fin 2) (i : Fin 256) (x : Fin 768) (hx : 512 ≤ 256 * c.val + x.val) :
    dsB c (qT q p c) (qT g p c) (kT k p c) (kT v p c) (bT r p) h i x = ds q k v g r (hdp p h) (row c i) (key c x) :=
  smxGrad_window c i _ _ _ _ (scB_eq q k r p c h i) (dpB_eq v g p c h i) x hx

/-- In the padding a tile's gradient is zero. -/
theorem dsB_pad (h : Fin 2) (i : Fin 256) (x : Fin 768) (hx : ¬512 ≤ 256 * c.val + x.val) (Q G : Fin 256 → Fin 128 → ℝ)
    (K V : Fin 768 → Fin 128 → ℝ) (b : Fin 2 → Fin 256 → Fin 768 → ℝ) : dsB c Q G K V b h i x = 0 :=
  smxGrad_of_not _ _ _ fun h => hx ((okB_iff c i x).mp h).1

/-- In the padding a tile's weight is zero. -/
theorem pwB_pad (h : Fin 2) (i : Fin 256) (x : Fin 768) (hx : ¬512 ≤ 256 * c.val + x.val) (Q : Fin 256 → Fin 128 → ℝ)
    (K : Fin 768 → Fin 128 → ℝ) (b : Fin 2 → Fin 256 → Fin 768 → ℝ) : pwB c Q K b h i x = 0 :=
  smx_of_not _ _ fun h => hx ((okB_iff c i x).mp h).1

/-- The head of a column of a pair of heads. -/
theorem hd_colp (d : Fin 128) : hd (colp p d) = hdp p (half d) :=
  Fin.ext (by simp only [hd, colp, hdp, half]; omega)

/-- What a tile leaves in the gradient of its queries is the whole gradient there. -/
theorem dqB_eq (i : Fin 256) (d : Fin 128) :
    dqB c (qT q p c) (qT g p c) (kT k p c) (kT v p c) (bT r p) i d = dq q k v g r (row c i) (colp p d) := by
  unfold dqB dq
  rw [hd_colp]
  refine sum_window c _ _ (fun x hx => ?_) (fun x hx => ?_) fun b hb => ?_
  · rw [dsB_pad c _ i x hx, zero_mul, zero_mul]
  · rw [dsB_eq q k v g r p c _ i x hx, kT_of_le k p c hx]
  · rw [ds_of_not _ _ _ _ _ _ _ _ fun h => hb (window_of_ok c i b h), zero_mul, zero_mul]

/-- A sum over all positions is a sum over the tiles of sums over a tile's rows. -/
theorem sum_rows (F : Fin 2048 → ℝ) : ∑ a, F a = ∑ c : Fin 8, ∑ i : Fin 256, F (row c i) := by
  rw [← Finset.sum_product', Finset.univ_product_univ]
  refine (Fintype.sum_equiv (finProdFinEquiv (m := 8) (n := 256)) _ _ fun x => ?_).symm
  refine congrArg F (Fin.ext ?_)
  simp only [row, finProdFinEquiv]
  dsimp
  omega

/-- The tiles' contributions to row `t` of the padded gradient of the keys. -/
def dkT (t : Fin 2560) (d : Fin 128) : ℝ :=
  if h : 256 * c.val ≤ t.val ∧ t.val < 256 * c.val + 768 then
    dkB c (qT q p c) (qT g p c) (kT k p c) (kT v p c) (bT r p) ⟨t.val - 256 * c.val, by omega⟩ d else 0
/-- The tiles' contributions to row `t` of the padded gradient of the values. -/
def dvT (t : Fin 2560) (d : Fin 128) : ℝ :=
  if h : 256 * c.val ≤ t.val ∧ t.val < 256 * c.val + 768 then
    dvB c (qT q p c) (qT g p c) (kT k p c) (bT r p) ⟨t.val - 256 * c.val, by omega⟩ d else 0

/-- The contributions to the keys' gradient add up to the whole gradient, with zeros in the padding. -/
theorem sum_dkT (t : Fin 2560) (d : Fin 128) :
    ∑ c, dkT q k v g r p c t d = padded (dk q k v g r) p t d := by
  unfold padded
  split_ifs with ht
  · unfold dk
    rw [sum_rows, hd_colp]
    refine Finset.sum_congr rfl fun c _ => ?_
    unfold dkT
    split_ifs with hw
    · unfold dkB
      refine Finset.sum_congr rfl fun i _ => ?_
      rw [dsB_eq q k v g r p c _ i _ (by dsimp only; omega)]
      have hk : key c ⟨t.val - 256 * c.val, by omega⟩ = ⟨t.val - 512, by omega⟩ :=
        Fin.ext (by simp only [key]; omega)
      rw [hk]; rfl
    · refine (Finset.sum_eq_zero fun i _ => ?_).symm
      rw [ds_of_not, zero_mul, zero_mul]
      intro h
      have := window_of_ok c i _ h
      dsimp only at this
      omega
  · refine Finset.sum_eq_zero fun c _ => ?_
    unfold dkT
    split_ifs with hw
    · unfold dkB
      refine Finset.sum_eq_zero fun i _ => ?_
      rw [dsB_pad c _ i _ (by dsimp only; omega), zero_mul, zero_mul]
    · rfl

/-- The contributions to the values' gradient add up to the whole gradient, with zeros in the padding. -/
theorem sum_dvT (t : Fin 2560) (d : Fin 128) :
    ∑ c, dvT q k g r p c t d = padded (dv q k g r) p t d := by
  unfold padded
  split_ifs with ht
  · unfold dv
    rw [sum_rows, hd_colp]
    refine Finset.sum_congr rfl fun c _ => ?_
    unfold dvT
    split_ifs with hw
    · unfold dvB
      refine Finset.sum_congr rfl fun i _ => ?_
      rw [pwB_eq q k r p c _ i _ (by dsimp only; omega)]
      have hk : key c ⟨t.val - 256 * c.val, by omega⟩ = ⟨t.val - 512, by omega⟩ :=
        Fin.ext (by simp only [key]; omega)
      rw [hk]; rfl
    · refine (Finset.sum_eq_zero fun i _ => ?_).symm
      rw [pw_of_not, mul_zero]
      intro h
      have := window_of_ok c i _ h
      dsimp only at this
      omega
  · refine Finset.sum_eq_zero fun c _ => ?_
    unfold dvT
    split_ifs with hw
    · unfold dvB
      refine Finset.sum_eq_zero fun i _ => ?_
      rw [pwB_pad c _ i _ (by dsimp only; omega), mul_zero]
    · rfl

end Cert.Tile
end
-- ==== Proof.Body.lean ====
module
public import proofs.«01_k».proof.Proof.Gen.KernelIdeal.Skeleton
public import proofs.«01_k».proof.Proof.Tile
public import Idealize.ShloMosaic.Lib.Pointwise
/-! One grid point of the kernel, read at an index: the printed expressions for the three gradients
are a tile's real-valued gradients (Tile.lean) whenever the tile's operands are real numbers. -/
@[expose] public section
noncomputable section
namespace Cert.Body
open Idealize.ShloMosaic Cert.KernelIdeal Cert.KernelIdeal.Gen Cert.Row Cert.Tile

/-- A choice made by a decided proposition. -/
theorem select_decide {α : Type} (P : Prop) [Decidable P] (x y : α) :
    Scalar.select (BitVec.ofBool (decide P)) x y = if P then x else y := by
  by_cases h : P <;> simp [Scalar.select, h]

/-- The literal 0.125. -/
theorem eighth : Ideal.ofBits .f32 0x3E000000#32 = ((1 / 8 : ℝ) : EReal) := by
  simp [Ideal.ofBits, Ideal.ieee, -EReal.coe_mul]; norm_num
/-- The literal 1. -/
theorem one_lit : Ideal.ofBits .f32 0x3F800000#32 = 1 := by
  simp [Ideal.ofBits, Ideal.ieee, -EReal.coe_mul]; norm_num
/-- The literal minus infinity. -/
theorem bot_lit : Ideal.ofBits .f32 0xFF800000#32 = ⊥ := by
  simp [Ideal.ofBits, Ideal.ieee, -EReal.coe_mul]
/-- The named mask value. -/
theorem mask_lit : (Named.named (F := Ideal) κ "mask" 0xF149F2CA#32 : Ideal .f32) = ⊥ :=
  IdealRules.named_const.ideal_named_scalar _ _ _ _ rfl

/-! ## The masks -/

/-- The printed floor division by 64 of a word. -/
def fdiv (w : BitVec 32) : BitVec 32 :=
  Scalar.select (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32) (IntOp.divsi ArithUnit.vector w 64#32)

/-- The rounded down quotient by 64 as it is printed. -/
theorem fdiv_eq : ∀ n : Fin 768, fdiv (BitVec.ofNat 32 n.val) = BitVec.ofNat 32 (n.val / 64) := by decide +kernel

/-- The comparison of chunks, decided over all of them. -/
theorem cmp_eq : ∀ (a : Fin 4) (b : Fin 12) (c : Fin 8),
    IntOp.andi (IntOp.andi (IntOp.cmpi .sge (BitVec.ofNat 32 b.val) (BitVec.ofNat 32 a.val))
        (IntOp.cmpi .sle (BitVec.ofNat 32 b.val) (IntOp.addi (BitVec.ofNat 32 a.val) 8#32)))
      (IntOp.cmpi .sge (IntOp.addi (BitVec.ofNat 32 b.val) (Scalar.muli (BitVec.ofNat 32 c.val) 4#32)) 8#32)
      = BitVec.ofBool (decide (a.val ≤ b.val ∧ b.val ≤ a.val + 8 ∧ 8 ≤ b.val + 4 * c.val)) := by decide +kernel

/-- The keys' numbers along the window. -/
abbrev keyIota : IVec S256x768 32 := iota .tc S256x768 32 [1] iota_S256x768_d1_w32
/-- The columns' numbers. -/
abbrev lane : IVec S256x128 32 := iota .tc S256x128 32 [1] iota_S256x128_d1_w32
/-- The printed mask of tile `c`. -/
def mask (c : Fin 8) : IVec S256x768 1 := k0_pay18 (BitVec.ofNat 32 c.val) k0_pay17 keyIota

/-- The printed mask allows what `okB` allows. -/
theorem mask_apply (c : Fin 8) (i : Fin 256) (x : Fin 768) :
    mask c (ix2 i x) = BitVec.ofBool (decide (okB c i x)) := by
  have e := cmp_eq ⟨i.val / 64, by omega⟩ ⟨x.val / 64, by omega⟩ c
  have h1 := fdiv_eq ⟨i.val, by omega⟩
  have h2 := fdiv_eq x
  dsimp only at e h1
  rw [← h1, ← h2] at e
  unfold mask
  pointwise [k0_pay17, k0_pay18]
  exact e

/-- The word that selects the first head's lanes. -/
theorem low_eq : ∀ d : Fin 128, IntOp.andi (IntOp.cmpi .sge (BitVec.ofNat 32 d.val) 0#32) (IntOp.cmpi .slt (BitVec.ofNat 32 d.val) 64#32)
    = BitVec.ofBool (decide (half d = 0)) := by decide +kernel
/-- The word that selects the second head's lanes. -/
theorem high_eq : ∀ d : Fin 128, IntOp.andi (IntOp.cmpi .sge (BitVec.ofNat 32 d.val) 64#32) (IntOp.cmpi .slt (BitVec.ofNat 32 d.val) 128#32)
    = BitVec.ofBool (decide (half d = 1)) := by decide +kernel

/-- The first head's columns. -/
theorem low_apply (i : Fin 256) (d : Fin 128) : k0_pay19 lane (ix2 i d) = BitVec.ofBool (decide (half d = 0)) := by
  rw [← low_eq]; pointwise [k0_pay19]
/-- The second head's columns. -/
theorem high_apply (i : Fin 256) (d : Fin 128) : k0_pay32 lane (ix2 i d) = BitVec.ofBool (decide (half d = 1)) := by
  rw [← high_eq]; pointwise [k0_pay32]

/-! ## The grid point's results, as compositions of the printed values -/

variable {F : FTy → Type} [FloatOps F] [Named F]
variable (c : Fin 8) (q2 : FVec F S256x128 .f32) (kb vb : FVec F S768x128 .f32) (bias : FVec F S2x256x768 .f32) (do2 : FVec F S256x128 .f32)

/-- The literal 0.125, in any arithmetic. -/
abbrev c8 : F .f32 := Scalar.ofBits .f32 0x3E000000#32
/-- First head: scores before scaling. -/
abbrev w84 : FVec F S256x768 .f32 := k0_pay22 q2 (k0_pay15 kb) lane
/-- First head: gradient of the exponent. -/
abbrev w223 : FVec F S256x768 .f32 :=
  k0_pay54 (k0_pay19 lane) (k0_pay27 bias (mask c) (w84 q2 kb) c8) (k0_pay28 bias (mask c) (w84 q2 kb) c8)
    (k0_pay29 bias (mask c) (w84 q2 kb) c8) (k0_pay31 (k0_pay16 vb)) (k0_pay42 do2)
/-- First head: its negative. -/
abbrev w225 : FVec F S256x768 .f32 :=
  k0_pay55 (k0_pay19 lane) (k0_pay27 bias (mask c) (w84 q2 kb) c8) (k0_pay28 bias (mask c) (w84 q2 kb) c8)
    (k0_pay29 bias (mask c) (w84 q2 kb) c8) (k0_pay31 (k0_pay16 vb)) (k0_pay42 do2)
/-- Second head: masked scores. -/
abbrev w128 : FVec F S256x768 .f32 := k0_pay35 q2 (k0_pay15 kb) bias lane (mask c)
/-- Second head: their maximum. -/
abbrev w129 : FVec F S256 .f32 := k0_pay36 q2 (k0_pay15 kb) bias lane (mask c)
/-- Second head: where the maximum is attained. -/
abbrev w132 : IVec S256x768 1 := k0_pay37 q2 (k0_pay15 kb) bias lane (mask c)
/-- Second head: gradient of the exponent. -/
abbrev w174 : FVec F S256x768 .f32 := k0_pay45 (k0_pay16 vb) (k0_pay32 lane) (w128 c q2 kb bias) (w129 c q2 kb bias) do2
/-- Second head: the sum of its negatives. -/
abbrev w178 : FVec F S256x1 .f32 := k0_pay46 (k0_pay16 vb) (k0_pay32 lane) (w128 c q2 kb bias) (w129 c q2 kb bias) do2

/-- What the point stores as the queries' gradient. -/
def bDq : FVec F S256x128 .f32 :=
  k0_pay59 (mask c) (k0_pay19 lane) (k0_pay21 (k0_pay15 kb)) (k0_pay25 bias (mask c) (w84 q2 kb) c8) (k0_pay26 bias (mask c) (w84 q2 kb) c8)
    (k0_pay51 (mask c) (k0_pay32 lane) (k0_pay34 (k0_pay15 kb)) (k0_pay38 (w132 c q2 kb bias)) (k0_pay39 (w132 c q2 kb bias))
      (w174 c q2 kb vb bias do2) (w178 c q2 kb vb bias do2))
    (w223 c q2 kb vb bias do2) (w225 c q2 kb vb bias do2)
/-- What the point stores as the keys' gradient, over what was there. -/
def bDk (acc : FVec F S768x128 .f32) : FVec F S768x128 .f32 :=
  k0_pay60 (mask c) (k0_pay20 q2 lane) (k0_pay25 bias (mask c) (w84 q2 kb) c8) (k0_pay26 bias (mask c) (w84 q2 kb) c8)
    (k0_pay50 (mask c) (k0_pay33 q2 lane) (k0_pay38 (w132 c q2 kb bias)) (k0_pay39 (w132 c q2 kb bias))
      (w174 c q2 kb vb bias do2) (w178 c q2 kb vb bias do2))
    (w223 c q2 kb vb bias do2) (w225 c q2 kb vb bias do2) acc
/-- What the point stores as the values' gradient, over what was there. -/
def bDv (acc : FVec F S768x128 .f32) : FVec F S768x128 .f32 :=
  k0_pay61 (k0_pay53 (k0_pay19 lane) (k0_pay30 bias (mask c) (w84 q2 kb) c8) (k0_pay42 do2)
    (k0_pay44 (k0_pay32 lane) (w128 c q2 kb bias) (w129 c q2 kb bias) do2)) acc

end Cert.Body
end
-- ==== Proof.Open.lean ====
module
public import proofs.«01_k».proof.Proof.Gen.KernelIdeal.Value
public import proofs.«01_k».proof.Proof.Body
public import Idealize.ShloMosaic.Lib.Pipeline.ValueKit.Tiles
/-! What a grid point leaves in each buffer: the queries' gradient is `bDq` of its blocks, the keys' and the values'
gradients are the earlier contents with the point's window of 768 rows replaced. -/
@[expose] public section
noncomputable section
namespace Cert.Body
open Idealize.ShloMosaic Cert.KernelIdeal Cert.KernelIdeal.Gen
variable {F : FTy → Type} [FloatOps F] [Named F]

/-! ## Windows of 768 rows -/
section window
variable {α : EltTy → Type} (n : Fin 8)
/-- The window of 768 rows that starts at row `256 n`. -/
def rd (x : S2560x128.Idx → α .f32) : S768x128.Idx → α .f32 :=
  fun y => x (ix2 ⟨256 * n.val + (y 0).val, by have : (y 0).val < 768 := (y 0).isLt; omega⟩ (y 1))
/-- The contents with that window replaced. -/
def wr (x : S2560x128.Idx → α .f32) (p : S768x128.Idx → α .f32) : S2560x128.Idx → α .f32 :=
  fun y => if h : 256 * n.val ≤ (y 0).val ∧ (y 0).val < 256 * n.val + 768 then
    p (ix2 ⟨(y 0).val - 256 * n.val, by omega⟩ (y 1)) else x y

/-- The window of 768 rows read, at a row and a lane. -/
theorem rd_apply (x : S2560x128.Idx → α .f32) (j : Fin 768) (d : Fin 128) :
    rd n x (ix2 j d) = x (ix2 ⟨256 * n.val + j.val, by omega⟩ d) := rfl

/-- A load of 768 rows at a block's offset is the window of the buffer. -/
theorem ld_win {off : Fin 2 → Nat} (h : off = ![256 * n.val, 0]) (inb : ∀ a, off a + S768x128.size a ≤ S2560x128.size a)
    (x : S2560x128.Idx → α .f32) : View.ld (S := S2560x128) x (Rect.unit off S768x128.size inb) = rd n x := by
  subst h
  funext y
  refine View.ld_unit_apply_of x _ _ inb y _ fun a => ?_
  fin_cases a
  · rfl
  · exact (Nat.zero_add _).symm

variable [∀ e, Nonempty (α e)]
/-- Writing 768 rows at a block's offset replaces the window of the buffer. -/
theorem overlay_win {off : Fin 2 → Nat} (h : off = ![256 * n.val, 0]) (inb : ∀ a, off a + S768x128.size a ≤ S2560x128.size a)
    (x : S2560x128.Idx → α .f32) (p : S768x128.Idx → α .f32) (R : S2560x128.Idx → α .f32)
    (h1 : ∀ y, R ((Rect.unit (s := S2560x128) off S768x128.size inb).emb y) = p y)
    (h2 : ∀ y, y ∉ (Rect.unit (s := S2560x128) off S768x128.size inb).set → R y = x y) : R = wr n x p := by
  subst h
  funext y
  unfold wr
  split_ifs with hy
  · rw [← h1]
    congr 1
    funext a
    apply Fin.ext
    refine Eq.trans ?_ (Rect.idx_unit_val _ _ inb _ a).symm
    fin_cases a
    · show (y 0).val = 256 * n.val + ((y 0).val - 256 * n.val); omega
    · exact (Nat.zero_add _).symm
  · refine h2 y fun hm => hy ?_
    exact Rect.mem_set_unit.mp hm 0

/-- A single covering store of the window, as a replaced window. -/
theorem canon_win {off : Fin 2 → Nat} (h : off = ![256 * n.val, 0]) (inb : ∀ a, off a + S768x128.size a ≤ S2560x128.size a)
    (p : S768x128.Idx → α .f32) (L : List (View.Piece α S2560x128 .f32)) :
    View.canon ((⟨Rect.unit off S768x128.size inb, p⟩ : View.Piece α S2560x128 .f32) :: L) = wr n (View.canon L) p :=
  overlay_win n h inb _ p _ (fun y => View.canon_cons_emb _ _ _ _) fun y hy => View.canon_cons_of_not_mem _ _ hy

/-- The stores of the window, as a replaced window. -/
theorem writes_win {off : Fin 2 → Nat} (h : off = ![256 * n.val, 0]) (inb : ∀ a, off a + S768x128.size a ≤ S2560x128.size a)
    {sig : RefSig} {κ : Kind} {sp : Space} (v : View sig κ sp S2560x128 .f32) (f : v.ty.Contents α) (p : S768x128.Idx → α .f32) :
    v.read α (v.writes α f [⟨Rect.unit off S768x128.size inb, p⟩]) = wr n (v.read α f) p :=
  overlay_win n h inb _ p _ (fun y => View.read_writes_cons_emb _ _ _ _ _ _)
    fun y hy => View.read_writes_apply_of_forall_not_mem _ _ _ _ fun q hq => by
      rw [List.mem_singleton.mp hq]; exact hy
end window

/-- The window's offset is `256 n`. -/
theorem off_eq (i : grid0.Coords) : (![(Scalar.indexCast (Scalar.muli (BitVec.ofNat 32 (i 1).val) 256#32) : BitVec 32).toNat, 0] : Fin 2 → Nat) = ![256 * (i 1).val, 0] := by
  have h : ∀ n : Fin 8, (Scalar.indexCast (Scalar.muli (BitVec.ofNat 32 n.val) 256#32) : BitVec 32).toNat = 256 * n.val := by decide +kernel
  rw [h (i 1)]

variable (c : Dev nD) (i : grid0.Coords) (arg2 : Memref sig .tc .vmem S256x128 .f32) (harg2 : arg2.IsWhole) (arg3 : Memref sig .tc .vmem S2560x128 .f32) (harg3 : arg3.IsWhole) (arg4 : Memref sig .tc .vmem S2560x128 .f32) (harg4 : arg4.IsWhole) (arg5 : Memref sig .tc .vmem S1x2x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S2560x128 .f32) (harg8 : arg8.IsWhole) (arg9 : Memref sig .tc .vmem S2560x128 .f32) (harg9 : arg9.IsWhole) (arg10 : Memref sig .tc .vmem S1x2x1024 .f32) (harg10 : arg10.IsWhole) (arg11 : Memref sig .tc .vmem S2x256x768 .f32) (harg11 : arg11.IsWhole) (arg12 : Memref sig .tc .vmem S2x256x768 .f32) (harg12 : arg12.IsWhole)
  (x0 : Vec F S256x128 .f32) (x1 : Vec F S2560x128 .f32) (x2 : Vec F S2560x128 .f32) (x3 : Vec F S1x2x1024 .f32) (x4 : Vec F S256x128 .f32)
  (xo6 : Vec F S2560x128 .f32) (xo7 : Vec F S2560x128 .f32) (xs0 : Vec F S2x256x768 .f32) (xs1 : Vec F S2x256x768 .f32)

/-- The offset of the rows that a step reads. -/
theorem k0_off1_eq (i : grid0.Coords) : k0_off1 i = ![256 * (i 1).val, 0] := off_eq i

/-! The loads of a point: whole blocks, and windows of 768 rows. -/
theorem load2 : (View.readAt (Elt F) arg2.view (Rect.unit (s := S256x128) ![0, 0] S256x128.size inb_S256x128_S256x128_0_0).toLoadRect (harg2.unread x0)) = x0 := by
  rw [View.readAt_eq_ld, harg2.read_unread, View.ld_unit_zero (by decide)]
/-- The whole block of the output gradient is read. -/
theorem load6 : (View.readAt (Elt F) arg6.view (Rect.unit (s := S256x128) ![0, 0] S256x128.size inb_S256x128_S256x128_0_0).toLoadRect (harg6.unread x4)) = x4 := by
  rw [View.readAt_eq_ld, harg6.read_unread, View.ld_unit_zero (by decide)]
/-- The whole bias scratch is read. -/
theorem load11 : (View.readAt (Elt F) arg11.view (Rect.unit (s := S2x256x768) ![0, 0, 0] S2x256x768.size inb_S2x256x768_S2x256x768_0_0_0).toLoadRect (harg11.unread xs0)) = xs0 := by
  rw [View.readAt_eq_ld, harg11.read_unread, View.ld_unit_zero (by decide)]
/-- The key rows of the step. -/
theorem load3 : (View.readAt (Elt F) arg3.view (Rect.unit (s := S2560x128) (k0_off1 i) S768x128.size (k0_off1_inb i)).toLoadRect (harg3.unread x1)) = rd (α := Elt F) (i 1) x1 := by
  rw [View.readAt_eq_ld, harg3.read_unread, ld_win (i 1) (k0_off1_eq i)]
/-- The value rows of the step. -/
theorem load4 : (View.readAt (Elt F) arg4.view (Rect.unit (s := S2560x128) (k0_off1 i) S768x128.size (k0_off1_inb i)).toLoadRect (harg4.unread x2)) = rd (α := Elt F) (i 1) x2 := by
  rw [View.readAt_eq_ld, harg4.read_unread, ld_win (i 1) (k0_off1_eq i)]
/-- The key gradient rows of the step. -/
theorem load8 : (View.readAt (Elt F) arg8.view (Rect.unit (s := S2560x128) (k0_off1 i) S768x128.size (k0_off1_inb i)).toLoadRect (harg8.unread xo6)) = rd (α := Elt F) (i 1) xo6 := by
  rw [View.readAt_eq_ld, harg8.read_unread, ld_win (i 1) (k0_off1_eq i)]
/-- The value gradient rows of the step. -/
theorem load9 : (View.readAt (Elt F) arg9.view (Rect.unit (s := S2560x128) (k0_off1 i) S768x128.size (k0_off1_inb i)).toLoadRect (harg9.unread xo7)) = rd (α := Elt F) (i 1) xo7 := by
  rw [View.readAt_eq_ld, harg9.read_unread, ld_win (i 1) (k0_off1_eq i)]

/-- The bias table the first point of a sweep fills: row `i` is the head's vector rolled by `i`. -/
def bias0 (x3 : Vec F S1x2x1024 .f32) : Vec F S2x256x768 .f32 :=
  fun y => x3 (ix3 (0 : Fin 1) (y 0) ⟨(256 + (y 2).val + 1024 - (y 1).val % 1024) % 1024, Nat.mod_lt _ (by decide)⟩)

/-- The two stores that fill the bias table. -/
abbrev biasL : List (View.Piece (Elt F) S2x256x768 .f32) :=
  [⟨Rect.unit (s := S2x256x768) ![1, 0, 0] S1x256x768.size inb_S2x256x768_S1x256x768_1_0_0, k0_pay11 (View.readAt (Elt F) arg5.view
      (Rect.unit (s := S1x2x1024) ![0, 1, 0] S1x1x1024.size inb_S1x2x1024_S1x1x1024_0_1_0).toLoadRect (harg5.unread x3))⟩,
    ⟨Rect.unit (s := S2x256x768) ![0, 0, 0] S1x256x768.size inb_S2x256x768_S1x256x768_0_0_0, k0_pay10 (View.readAt (Elt F) arg5.view
      (Rect.unit (s := S1x2x1024) ![0, 0, 0] S1x1x1024.size inb_S1x2x1024_S1x1x1024_0_0_0).toLoadRect (harg5.unread x3))⟩]

/-- The stores of the bias cover its scratch. -/
theorem cover_biasL (y : S2x256x768.Idx) : ∃ p ∈ biasL arg5 harg5 x3, y ∈ p.1.set := by
  have h0 : (y 0).val < 2 := (y 0).isLt
  have h1 : (y 1).val < 256 := (y 1).isLt
  have h2 : (y 2).val < 768 := (y 2).isLt
  rcases (by omega : (y 0).val = 1 ∨ (y 0).val = 0) with h | h
  · refine ⟨_, List.mem_cons_self, (Rect.mem_set_unit (inb := inb_S2x256x768_S1x256x768_1_0_0)).mpr fun a => ?_⟩
    fin_cases a
    · exact ⟨h.ge, by show (y 0).val < 1 + 1; omega⟩
    · exact ⟨Nat.zero_le _, by show (y 1).val < 0 + 256; omega⟩
    · exact ⟨Nat.zero_le _, by show (y 2).val < 0 + 768; omega⟩
  · refine ⟨_, List.mem_cons_of_mem _ List.mem_cons_self, (Rect.mem_set_unit (inb := inb_S2x256x768_S1x256x768_0_0_0)).mpr fun a => ?_⟩
    fin_cases a
    · exact ⟨Nat.zero_le _, by show (y 0).val < 0 + 1; omega⟩
    · exact ⟨Nat.zero_le _, by show (y 1).val < 0 + 256; omega⟩
    · exact ⟨Nat.zero_le _, by show (y 2).val < 0 + 768; omega⟩

/-- They fill it with the rolled vectors. -/
theorem canon_biasL : View.canon (biasL arg5 harg5 x3) = bias0 x3 := by
  have e0 : ∀ y, k0_pay10 (View.readAt (Elt F) arg5.view (Rect.unit (s := S1x2x1024) ![0, 0, 0] S1x1x1024.size inb_S1x2x1024_S1x1x1024_0_0_0).toLoadRect (harg5.unread x3)) y
      = bias0 x3 (ix3 (0 : Fin 2) (y 1) (y 2)) := by
    intro y
    pointwise [k0_pay10]
    rw [View.readAt_eq_ld, harg5.read_unread]
    exact View.ld_unit_apply_of x3 _ _ _ _ _ fun a => by fin_cases a <;> exact (Nat.zero_add _).symm
  have e1 : ∀ y, k0_pay11 (View.readAt (Elt F) arg5.view (Rect.unit (s := S1x2x1024) ![0, 1, 0] S1x1x1024.size inb_S1x2x1024_S1x1x1024_0_1_0).toLoadRect (harg5.unread x3)) y
      = bias0 x3 (ix3 (1 : Fin 2) (y 1) (y 2)) := by
    intro y
    pointwise [k0_pay11]
    rw [View.readAt_eq_ld, harg5.read_unread]
    refine View.ld_unit_apply_of x3 _ _ _ _ _ fun a => ?_
    fin_cases a
    · rfl
    · rfl
    · exact (Nat.zero_add _).symm
  funext y
  refine View.canon_eq_of_allAt _ y _ (cover_biasL arg5 harg5 x3 y) ?_
  · intro p hp x hx
    subst hx
    rcases List.mem_cons.mp hp with rfl | hp
    · refine (e1 x).trans (congrArg (bias0 x3) (funext fun a => Fin.ext ?_))
      refine Eq.trans ?_ (Rect.idx_unit_val (s := S2x256x768) ![1, 0, 0] S1x256x768.size inb_S2x256x768_S1x256x768_1_0_0 x a).symm
      fin_cases a
      · show 1 = 1 + (x 0).val
        have : (x 0).val < 1 := (x 0).isLt
        omega
      · exact (Nat.zero_add _).symm
      · exact (Nat.zero_add _).symm
    · obtain rfl := List.mem_singleton.mp hp
      refine (e0 x).trans (congrArg (bias0 x3) (funext fun a => Fin.ext ?_))
      refine Eq.trans ?_ (Rect.idx_unit_val (s := S2x256x768) ![0, 0, 0] S1x256x768.size inb_S2x256x768_S1x256x768_0_0_0 x a).symm
      fin_cases a
      · show 0 = 0 + (x 0).val
        have : (x 0).val < 1 := (x 0).isLt
        omega
      · exact (Nat.zero_add _).symm
      · exact (Nat.zero_add _).symm

/-- The bias scratch after the first step has filled it. -/
theorem loadA11 : (arg11.view.readCov (biasL arg5 harg5 x3) (Rect.unit (s := S2x256x768) ![0, 0, 0] S2x256x768.size inb_S2x256x768_S2x256x768_0_0_0).toLoadRect) = bias0 x3 := by
  rw [View.readCov_eq_canon_ld _ _ _ (cover_biasL arg5 harg5 x3), canon_biasL, View.ld_unit_zero (by decide)]
/-- The key gradient rows at the first step, all zero. -/
theorem loadA8 : (View.readAt (Elt F) arg8.view (Rect.unit (s := S2560x128) (k0_off1 i) S768x128.size (k0_off1_inb i)).toLoadRect (arg8.view.writes (Elt F) arg8.view.junk [⟨Rect.unit (s := S2560x128) ![0, 0] S2560x128.size inb_S2560x128_S2560x128_0_0, k0_pay12⟩])) = rd (α := Elt F) (i 1) k0_pay12 := by
  rw [View.readAt_eq_ld, View.read_writes_junk_eq_canon, View.canon_unit_zero (by decide), ld_win (i 1) (k0_off1_eq i)]
/-- The value gradient rows at the first step, all zero. -/
theorem loadA9 : (View.readAt (Elt F) arg9.view (Rect.unit (s := S2560x128) (k0_off1 i) S768x128.size (k0_off1_inb i)).toLoadRect (arg9.view.writes (Elt F) arg9.view.junk [⟨Rect.unit (s := S2560x128) ![0, 0] S2560x128.size inb_S2560x128_S2560x128_0_0, k0_pay13⟩])) = rd (α := Elt F) (i 1) k0_pay13 := by
  rw [View.readAt_eq_ld, View.read_writes_junk_eq_canon, View.canon_unit_zero (by decide), ld_win (i 1) (k0_off1_eq i)]

/-- Case A, output 5. -/
theorem out5_A (hc0 : cond0_0 i) (hc1 : ¬cond0_1 i) :
    out0_A_5 c i arg2 harg2 arg3 harg3 arg4 harg4 arg5 harg5 arg6 harg6 arg7 harg7 arg8 harg8 arg9 harg9 arg10 harg10 arg11 harg11 arg12 harg12 hc0 hc1 x0 x1 x2 x3 x4 = bDq (i 1) x0 (rd (α := Elt F) (i 1) x1) (rd (α := Elt F) (i 1) x2) (bias0 x3) x4 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  refine (View.canon_unit_zero (by decide) _ _).trans ?_
  sl_unfold_words
  change bDq (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (arg11.view.readCov (biasL arg5 harg5 x3) (Rect.unit (s := S2x256x768) ![0, 0, 0] S2x256x768.size inb_S2x256x768_S2x256x768_0_0_0).toLoadRect) (View.readAt (Elt F) arg6.view (Rect.unit (s := S256x128) ![0, 0] S256x128.size inb_S256x128_S256x128_0_0).toLoadRect (harg6.unread x4)) = _
  rw [load2, load3, load4, loadA11, load6]

/-- Case A, output 6. -/
theorem out6_A (hc0 : cond0_0 i) (hc1 : ¬cond0_1 i) :
    out0_A_6 c i arg2 harg2 arg3 harg3 arg4 harg4 arg5 harg5 arg6 harg6 arg7 harg7 arg8 harg8 arg9 harg9 arg10 harg10 arg11 harg11 arg12 harg12 hc0 hc1 x0 x1 x2 x3 x4 = wr (α := Elt F) (i 1) k0_pay12 (bDk (i 1) x0 (rd (α := Elt F) (i 1) x1) (rd (α := Elt F) (i 1) x2) (bias0 x3) x4 (rd (α := Elt F) (i 1) k0_pay12)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  refine (canon_win (i 1) (k0_off1_eq i) (k0_off1_inb i) _ _).trans ?_
  sl_unfold_words
  rw [View.canon_unit_zero (by decide)]
  refine congrArg (wr (α := Elt F) (i 1) k0_pay12) ?_
  change bDk (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (arg11.view.readCov (biasL arg5 harg5 x3) (Rect.unit (s := S2x256x768) ![0, 0, 0] S2x256x768.size inb_S2x256x768_S2x256x768_0_0_0).toLoadRect) (View.readAt (Elt F) arg6.view (Rect.unit (s := S256x128) ![0, 0] S256x128.size inb_S256x128_S256x128_0_0).toLoadRect (harg6.unread x4)) (View.readAt (Elt F) arg8.view (Rect.unit (s := S2560x128) (k0_off1 i) S768x128.size (k0_off1_inb i)).toLoadRect (arg8.view.writes (Elt F) arg8.view.junk [⟨Rect.unit (s := S2560x128) ![0, 0] S2560x128.size inb_S2560x128_S2560x128_0_0, k0_pay12⟩])) = _
  rw [load2, load3, load4, loadA11, load6, loadA8]

/-- Case A, output 7. -/
theorem out7_A (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 x4 = wr (α := Elt F) (i 1) k0_pay13 (bDv (i 1) x0 (rd (α := Elt F) (i 1) x1) (bias0 x3) x4 (rd (α := Elt F) (i 1) k0_pay13)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  refine (canon_win (i 1) (k0_off1_eq i) (k0_off1_inb i) _ _).trans ?_
  sl_unfold_words
  rw [View.canon_unit_zero (by decide)]
  refine congrArg (wr (α := Elt F) (i 1) k0_pay13) ?_
  change bDv (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (arg11.view.readCov (biasL arg5 harg5 x3) (Rect.unit (s := S2x256x768) ![0, 0, 0] S2x256x768.size inb_S2x256x768_S2x256x768_0_0_0).toLoadRect) (View.readAt (Elt F) arg6.view (Rect.unit (s := S256x128) ![0, 0] S256x128.size inb_S256x128_S256x128_0_0).toLoadRect (harg6.unread x4)) (View.readAt (Elt F) arg9.view (Rect.unit (s := S2560x128) (k0_off1 i) S768x128.size (k0_off1_inb i)).toLoadRect (arg9.view.writes (Elt F) arg9.view.junk [⟨Rect.unit (s := S2560x128) ![0, 0] S2560x128.size inb_S2560x128_S2560x128_0_0, k0_pay13⟩])) = _
  rw [load2, load3, loadA11, load6, loadA9]

/-- Case A, the bias table. -/
theorem sout0_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 = bias0 x3 := by
  unfold sout0_A_0
  rw [View.read_writes_junk_eq_canon]
  unfold kernelRun0_A
  sl_unfold_words
  exact canon_biasL arg5 harg5 x3

/-- Case B, output 5. -/
theorem out5_B (hc0 : ¬cond0_0 i) (hc1 : ¬cond0_1 i) :
    out0_B_5 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = bDq (i 1) x0 (rd (α := Elt F) (i 1) x1) (rd (α := Elt F) (i 1) x2) (xs0) x4 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1)]
  unfold kernelRun0_B
  refine (View.canon_unit_zero (by decide) _ _).trans ?_
  sl_unfold_words
  change bDq (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) = _
  rw [load2, load3, load4, load11, load6]

/-- Case B, output 6. -/
theorem out6_B (hc0 : ¬cond0_0 i) (hc1 : ¬cond0_1 i) :
    out0_B_6 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = wr (α := Elt F) (i 1) xo6 (bDk (i 1) x0 (rd (α := Elt F) (i 1) x1) (rd (α := Elt F) (i 1) x2) (xs0) x4 (rd (α := Elt F) (i 1) xo6)) := by
  unfold out0_B_6
  unfold kernelRun0_B
  refine (writes_win (i 1) (k0_off1_eq i) (k0_off1_inb i) _ _ _).trans ?_
  sl_unfold_words
  rw [harg8.read_unread]
  refine congrArg (wr (α := Elt F) (i 1) xo6) ?_
  change bDk (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) (View.readAt (Elt F) arg8.view (Rect.unit (s := S2560x128) (k0_off1 i) S768x128.size (k0_off1_inb i)).toLoadRect (harg8.unread xo6)) = _
  rw [load2, load3, load4, load11, load6, load8]

/-- Case B, output 7. -/
theorem out7_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = wr (α := Elt F) (i 1) xo7 (bDv (i 1) x0 (rd (α := Elt F) (i 1) x1) (xs0) x4 (rd (α := Elt F) (i 1) xo7)) := by
  unfold out0_B_7
  unfold kernelRun0_B
  refine (writes_win (i 1) (k0_off1_eq i) (k0_off1_inb i) _ _ _).trans ?_
  sl_unfold_words
  rw [harg9.read_unread]
  refine congrArg (wr (α := Elt F) (i 1) xo7) ?_
  change bDv (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) (View.readAt (Elt F) arg9.view (Rect.unit (s := S2560x128) (k0_off1 i) S768x128.size (k0_off1_inb i)).toLoadRect (harg9.unread xo7)) = _
  rw [load2, load3, load11, load6, load9]

/-- Case B leaves the bias table. -/
theorem sout0_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = xs0 := by
  rfl

/-- Case C, output 5. -/
theorem out5_C (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = bDq (i 1) x0 (rd (α := Elt F) (i 1) x1) (rd (α := Elt F) (i 1) x2) (xs0) x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1)]
  unfold kernelRun0_C
  refine (View.canon_unit_zero (by decide) _ _).trans ?_
  sl_unfold_words
  change bDq (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) = _
  rw [load2, load3, load4, load11, load6]

/-- Case C, output 6. -/
theorem out6_C (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = wr (α := Elt F) (i 1) xo6 (bDk (i 1) x0 (rd (α := Elt F) (i 1) x1) (rd (α := Elt F) (i 1) x2) (xs0) x4 (rd (α := Elt F) (i 1) xo6)) := by
  unfold out0_C_6
  unfold kernelRun0_C
  refine (writes_win (i 1) (k0_off1_eq i) (k0_off1_inb i) _ _ _).trans ?_
  sl_unfold_words
  rw [harg8.read_unread]
  refine congrArg (wr (α := Elt F) (i 1) xo6) ?_
  change bDk (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) (View.readAt (Elt F) arg8.view (Rect.unit (s := S2560x128) (k0_off1 i) S768x128.size (k0_off1_inb i)).toLoadRect (harg8.unread xo6)) = _
  rw [load2, load3, load4, load11, load6, load8]

/-- Case C, output 7. -/
theorem out7_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = wr (α := Elt F) (i 1) xo7 (bDv (i 1) x0 (rd (α := Elt F) (i 1) x1) (xs0) x4 (rd (α := Elt F) (i 1) xo7)) := by
  unfold out0_C_7
  unfold kernelRun0_C
  refine (writes_win (i 1) (k0_off1_eq i) (k0_off1_inb i) _ _ _).trans ?_
  sl_unfold_words
  rw [harg9.read_unread]
  refine congrArg (wr (α := Elt F) (i 1) xo7) ?_
  change bDv (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg11.view (Rect.unit (s := S2x256x768) ![0, 0, 0] S2x256x768.size inb_S2x256x768_S2x256x768_0_0_0).toLoadRect (harg11.unread xs0)) (View.readAt (Elt F) arg6.view (Rect.unit (s := S256x128) ![0, 0] S256x128.size inb_S256x128_S256x128_0_0).toLoadRect (harg6.unread x4)) (View.readAt (Elt F) arg9.view (Rect.unit (s := S2560x128) (k0_off1 i) S768x128.size (k0_off1_inb i)).toLoadRect (harg9.unread xo7)) = _
  rw [load2, load3, load11, load6, load9]

/-- Case C leaves the bias table. -/
theorem sout0_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xo6 xo7 xs0 xs1 = xs0 := by
  rfl
end Cert.Body
end
-- ==== Proof.Host.lean ====
module
public import proofs.«01_k».proof.Proof.Open
public import Idealize.ShloMosaic.Lib.Pipeline.ValueKit.Point
public import Idealize.ShloMosaic.Lib.Claim
/-! What the kernel's windows read: the blocks of each grid point, the padding of keys and values, and the vectors of
the bias, all as entries of the arguments. -/
@[expose] public section
noncomputable section
namespace Cert.Body
open Idealize.ShloMosaic Cert.KernelIdeal Cert.KernelIdeal.Gen Cert.Att Cert.Tile

/-! ## The host's arrays -/

/-- 512 rows of zeros in front. -/
def padK (k : FVec Ideal S2048x1024 .f32) : FVec Ideal S2560x1024 .f32 :=
  pad S2560x1024 ![512, 0] ![0, 0] ![0, 0] k (sitofp .f32 (constantI S_ 32 0#32)) pads_S2048x1024_S2560x1024_51200_000 h_S_
/-- The padded array, at a row. -/
theorem padK_apply (k : FVec Ideal S2048x1024 .f32) (x : Fin 2560) (j : Fin 1024) :
    padK k (ix2 x j) = if h : 512 ≤ x.val then k (ix2 ⟨x.val - 512, by omega⟩ j) else 0 := by
  pointwise [padK]
  have hz : (FloatOps.sitofp (F := Ideal) .f32 (0#32 : BitVec 32) : EReal) = 0 := by
    show (((0#32 : BitVec 32).toInt : ℝ) : EReal) = 0
    simp
  by_cases h : 512 ≤ x.val
  · rw [dif_pos ⟨h, by omega⟩, dif_pos h]
  · rw [dif_neg fun h' => h h'.1, dif_neg h]; exact hz

/-- The vectors of the bias, before they are cut by heads. -/
def vecs (r : FVec Ideal S16x257 .f32) : FVec Ideal S16x1024 .f32 :=
  concatenate S16x1024 1 [⟨S16x1, broadcastInDim S16x1 ![] bcast_S_S16x1 (constant S_ .f32 0x00000000#32)⟩,
    ⟨S16x639, broadcastInDim S16x639 ![0, 1] bcast_S16x1_S16x639_0_1 (extractStridedSlice S16x1 ![0, 256] r slices_S16x257_S16x1_0_256)⟩,
    ⟨S16x257, Host.reverse [1] r⟩,
    ⟨S16x127, broadcastInDim S16x127 ![0, 1] bcast_S16x1_S16x127_0_1 (extractStridedSlice S16x1 ![0, 0] r slices_S16x257_S16x1_0_0)⟩]
    concatenates_S16x1_S16x639_S16x257_S16x127_S16x1024_d1
/-- Entry `j` of a head's vector is the bias of distance `768 - j`, but for entry 0. -/
theorem vecs_apply (r : FVec Ideal S16x257 .f32) (h : Fin 16) (j : Fin 1024) (hj : 1 ≤ j.val) :
    vecs r (ix2 h j) = r (ix2 h (clip (768 - (j.val : ℤ)))) := by
  pointwise [vecs]
  rw [dif_neg (by omega)]
  by_cases h1 : j.val - 1 < 639
  · rw [dif_pos h1]
    refine congrArg (fun e => r (ix2 h e)) (Fin.ext ?_)
    show 256 = (min (max (768 - (j.val : ℤ)) (-128)) 128 + 128).toNat
    omega
  rw [dif_neg h1]
  by_cases h2 : j.val - 1 - 639 < 257
  · rw [dif_pos h2]
    refine (show _ = r (ix2 h (Fin.rev (n := 257) ⟨j.val - 1 - 639, h2⟩)) from rfl).trans (congrArg (fun e => r (ix2 h e)) (Fin.ext ?_))
    rw [Fin.val_rev]
    show 257 - (j.val - 1 - 639 + 1) = (min (max (768 - (j.val : ℤ)) (-128)) 128 + 128).toNat
    omega
  · rw [dif_neg h2]
    refine congrArg (fun e => r (ix2 h e)) (Fin.ext ?_)
    show 0 = (min (max (768 - (j.val : ℤ)) (-128)) 128 + 128).toNat
    omega

variable (m : (ℓ : Loc nD τ sig) → Buf (Elt Ideal) ℓ) (c : Dev nD)

/-- What the region finds as padded keys. -/
theorem V_v0 : (V m c main_v0 : FVec Ideal S2560x1024 .f32) = padK (m (c, Proc.tc.devRef main_arg1)) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rfl
/-- What the region finds as padded values. -/
theorem V_v1 : (V m c main_v1 : FVec Ideal S2560x1024 .f32) = padK (m (c, Proc.tc.devRef main_arg2)) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rfl
set_option maxRecDepth 100000 in
/-- What the region finds as the vectors of the bias. -/
theorem V_v9 : (V m c main_v9 : FVec Ideal S8x2x1024 .f32) = shapeCast S8x2x1024 (vecs (m (c, Proc.tc.devRef main_arg3))) shapeCasts_S16x1024_S8x2x1024 := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rw [StableHlo.reshape_result, StableHlo.nary_result]
  rfl
/-- The vectors cut by pairs of heads, at an entry. -/
theorem cut_apply (x : FVec Ideal S16x1024 .f32) (p : Fin 8) (h : Fin 2) (j : Fin 1024) :
    shapeCast S8x2x1024 x shapeCasts_S16x1024_S8x2x1024 (ix3 p h j) = x (ix2 (hdp p h) j) := by
  pointwise
  exact congrArg (fun e => x (ix2 e j)) (Fin.ext (by show p.val * 2 + h.val = 2 * p.val + h.val; omega))

/-! ## The windows' blocks -/

/-- The block of q at a step. -/
theorem index0 : ∀ t : Fin cfg0.N, win0_0.index t 0 = t.val % 8 ∧ win0_0.index t 1 = t.val / 8 := by decide +kernel
/-- The block of k at a step. -/
theorem index1 : ∀ t : Fin cfg0.N, win0_1.index t 0 = 0 ∧ win0_1.index t 1 = t.val / 8 := by decide +kernel
/-- The block of v at a step. -/
theorem index2 : ∀ t : Fin cfg0.N, win0_2.index t 0 = 0 ∧ win0_2.index t 1 = t.val / 8 := by decide +kernel
/-- The block of the bias vectors at a step. -/
theorem index3 : ∀ t : Fin cfg0.N, win0_3.index t 0 = t.val / 8 ∧ win0_3.index t 1 = 0 ∧ win0_3.index t 2 = 0 := by decide +kernel
/-- The block of the output gradient at a step. -/
theorem index4 : ∀ t : Fin cfg0.N, win0_4.index t 0 = t.val % 8 ∧ win0_4.index t 1 = t.val / 8 := by decide +kernel
/-- The second coordinate of a step. -/
theorem coords1 : ∀ t : Fin cfg0.N, (grid0.coords t 1).val = t.val % 8 := by decide +kernel
/-- There are 64 steps. -/
theorem t_lt (t : Fin cfg0.N) : t.val < 64 := t.isLt

/-- The pair of heads of a grid point. -/
def pr (t : Fin cfg0.N) : Fin 8 := ⟨t.val / 8, by have := t_lt t; omega⟩
/-- The tile of queries of a grid point. -/
def tl (t : Fin cfg0.N) : Fin 8 := ⟨t.val % 8, by omega⟩
/-- The second coordinate of a step, as a block of queries. -/
theorem coords_tl (t : Fin cfg0.N) : grid0.coords t 1 = tl t := Fin.ext (coords1 t)

/-- An entry of the block of q. -/
theorem iblk0 (t : Fin cfg0.N) (i : Fin 256) (d : Fin 128) : (iblk m c 0 t : Vec Ideal S256x128 .f32) (ix2 i d)
    = (m (c, Proc.tc.devRef main_arg0) : FVec Ideal S2048x1024 .f32) (ix2 (row (tl t) i) (colp (pr t) d)) := by
  unfold iblk
  rw [View.read_apply]
  refine (congrFun (V_main_arg0 m c) _).trans (congrArg (m (c, Proc.tc.devRef main_arg0) : FVec Ideal S2048x1024 .f32) (funext fun a => Fin.ext ?_))
  have hi := index0 t
  match a with
  | ⟨0, _⟩ => show win0_0.index t 0 * 256 + 1 * i.val = 256 * (t.val % 8) + i.val; rw [hi.1]; omega
  | ⟨1, _⟩ => show win0_0.index t 1 * 128 + 1 * d.val = 128 * (t.val / 8) + d.val; rw [hi.2]; omega
/-- An entry of the block of the output gradient. -/
theorem iblk4 (t : Fin cfg0.N) (i : Fin 256) (d : Fin 128) : (iblk m c 4 t : Vec Ideal S256x128 .f32) (ix2 i d)
    = (m (c, Proc.tc.devRef main_arg4) : FVec Ideal S2048x1024 .f32) (ix2 (row (tl t) i) (colp (pr t) d)) := by
  unfold iblk
  rw [View.read_apply]
  refine (congrFun (V_main_arg4 m c) _).trans (congrArg (m (c, Proc.tc.devRef main_arg4) : FVec Ideal S2048x1024 .f32) (funext fun a => Fin.ext ?_))
  have hi := index4 t
  match a with
  | ⟨0, _⟩ => show win0_4.index t 0 * 256 + 1 * i.val = 256 * (t.val % 8) + i.val; rw [hi.1]; omega
  | ⟨1, _⟩ => show win0_4.index t 1 * 128 + 1 * d.val = 128 * (t.val / 8) + d.val; rw [hi.2]; omega
/-- An entry of the block of k. -/
theorem iblk1 (t : Fin cfg0.N) (x : Fin 2560) (d : Fin 128) : (iblk m c 1 t : Vec Ideal S2560x128 .f32) (ix2 x d)
    = padK (m (c, Proc.tc.devRef main_arg1)) (ix2 x (colp (pr t) d)) := by
  unfold iblk
  rw [View.read_apply, ← V_v0]
  refine congrArg (V m c main_v0 : FVec Ideal S2560x1024 .f32) (funext fun a => Fin.ext ?_)
  have hi := index1 t
  match a with
  | ⟨0, _⟩ => show win0_1.index t 0 * 2560 + 1 * x.val = x.val; rw [hi.1]; omega
  | ⟨1, _⟩ => show win0_1.index t 1 * 128 + 1 * d.val = 128 * (t.val / 8) + d.val; rw [hi.2]; omega
/-- An entry of the block of v. -/
theorem iblk2 (t : Fin cfg0.N) (x : Fin 2560) (d : Fin 128) : (iblk m c 2 t : Vec Ideal S2560x128 .f32) (ix2 x d)
    = padK (m (c, Proc.tc.devRef main_arg2)) (ix2 x (colp (pr t) d)) := by
  unfold iblk
  rw [View.read_apply, ← V_v1]
  refine congrArg (V m c main_v1 : FVec Ideal S2560x1024 .f32) (funext fun a => Fin.ext ?_)
  have hi := index2 t
  match a with
  | ⟨0, _⟩ => show win0_2.index t 0 * 2560 + 1 * x.val = x.val; rw [hi.1]; omega
  | ⟨1, _⟩ => show win0_2.index t 1 * 128 + 1 * d.val = 128 * (t.val / 8) + d.val; rw [hi.2]; omega
/-- An entry of the block of the bias vectors. -/
theorem iblk3 (t : Fin cfg0.N) (h : Fin 2) (j : Fin 1024) : (iblk m c 3 t : Vec Ideal S1x2x1024 .f32) (ix3 (0 : Fin 1) h j)
    = vecs (m (c, Proc.tc.devRef main_arg3)) (ix2 (hdp (pr t) h) j) := by
  unfold iblk
  rw [View.read_apply, ← cut_apply (vecs (m (c, Proc.tc.devRef main_arg3))), ← V_v9]
  refine congrArg (V m c main_v9 : FVec Ideal S8x2x1024 .f32) (funext fun a => Fin.ext ?_)
  have hi := index3 t
  match a with
  | ⟨0, _⟩ => show win0_3.index t 0 * 1 + 1 * 0 = t.val / 8; rw [hi.1]; omega
  | ⟨1, _⟩ => show win0_3.index t 1 * 2 + 1 * h.val = h.val; rw [hi.2.1]; omega
  | ⟨2, _⟩ => show win0_3.index t 2 * 1024 + 1 * j.val = j.val; rw [hi.2.2]; omega

end Cert.Body
end
-- ==== Proof.BodyRead.lean ====
module
public import proofs.«01_k».proof.Proof.Body
/-! The grid point's printed results at `Ideal`, read at an index, are the tile's real gradients. -/
@[expose] public section
noncomputable section
namespace Cert.Body
open Idealize.ShloMosaic Cert.KernelIdeal Cert.KernelIdeal.Gen Cert.Row Cert.Tile

/-- The value of a sum over one term. -/
theorem sum_one (f : Fin 1 → EReal) : ∑ x, f x = f 0 := by simp

/-- A decided proposition, widened and converted, is one or zero. -/
theorem sitofp_decide (P : Prop) [Decidable P] :
    (FloatOps.sitofp (F := Ideal) .f32 (BitVec.setWidth 32 (BitVec.ofBool (decide P))) : EReal) = if P then 1 else 0 := by
  by_cases h : P
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

/-! ## First head: the printed row operations are the ones of Soft.lean -/
section rows
variable (bias : FVec Ideal S2x256x768 .f32) (M : IVec S256x768 1) (w : FVec Ideal S256x768 .f32) (a : Ideal .f32)
  (i : Fin 256) (x : Fin 768)
/-- First head: the scores of query `i`. -/
abbrev S0 : Fin 768 → EReal := fun x => k0_pay23 (F := Ideal) bias M w a (ix2 i x)

/-- Where the first head's row has its largest score. -/
theorem top0 : k0_pay25 (F := Ideal) bias M w a (ix2 i x) = rTop (S0 bias M w a i) x := by
  pointwise [k0_pay25, k0_pay24]
  rw [bot_lit]
  exact sitofp_decide _
/-- How often the first head's row has its largest score. -/
theorem cnt0 : k0_pay26 (F := Ideal) bias M w a (ix1 i) = ∑ k, rTop (S0 bias M w a i) k := by
  pointwise [k0_pay26]
  exact Finset.sum_congr rfl fun x _ => top0 bias M w a i x
/-- The exponentials of the first head's row. -/
theorem exp0 : k0_pay27 (F := Ideal) bias M w a (ix2 i x) = rExp (S0 bias M w a i) x := by
  pointwise [k0_pay27, k0_pay24]
  rw [bot_lit]; rfl
/-- The sum of the first head's exponentials. -/
theorem sum0 : k0_pay28 (F := Ideal) bias M w a (ix2 i 0) = rSum (S0 bias M w a i) := by
  pointwise [k0_pay28]
  exact Finset.sum_congr rfl fun x _ => exp0 bias M w a i x
/-- The reciprocal of the first head's sum. -/
theorem inv0 : k0_pay29 (F := Ideal) bias M w a (ix2 i 0) = Ideal.div 1 (rSum (S0 bias M w a i) * rSum (S0 bias M w a i)) := by
  rw [← sum0]
  pointwise [k0_pay29]
/-- The weights of the first head's row. -/
theorem wt0 : k0_pay30 (F := Ideal) bias M w a (ix2 i x) = Ideal.div (rExp (S0 bias M w a i) x) (rSum (S0 bias M w a i)) := by
  rw [← sum0, ← exp0]
  pointwise [k0_pay30]

variable (L : IVec S256x128 1) (vb : FVec Ideal S768x128 .f32) (do2 : FVec Ideal S256x128 .f32)
/-- First head: the gradients of the weights of query `i`. -/
abbrev D0 : Fin 768 → EReal := fun x => ∑ d, Scalar.select (L (ix2 i d)) (do2 (ix2 i d) * vb (ix2 x d)) 0
/-- First head: the gradient of the exponents. -/
abbrev g0 : FVec Ideal S256x768 .f32 :=
  k0_pay54 (F := Ideal) L (k0_pay27 bias M w a) (k0_pay28 bias M w a) (k0_pay29 bias M w a) (k0_pay31 (k0_pay16 vb)) (k0_pay42 do2)
/-- First head: its negative. -/
abbrev n0 : FVec Ideal S256x768 .f32 :=
  k0_pay55 (F := Ideal) L (k0_pay27 bias M w a) (k0_pay28 bias M w a) (k0_pay29 bias M w a) (k0_pay31 (k0_pay16 vb)) (k0_pay42 do2)

/-- The gradient of the first head's scores, before its share through the maximum. -/
theorem grad0 : g0 bias M w a L vb do2 (ix2 i x) = rGrad (S0 bias M w a i) (D0 i L vb do2) x := by
  pointwise [g0, k0_pay54, k0_pay52, k0_pay42, k0_pay31, k0_pay16]
  simp only [sum_one, sum0, inv0, exp0]
  rfl
/-- The negated gradient of the first head's scores. -/
theorem neg0 : n0 bias M w a L vb do2 (ix2 i x) = 0 - rGrad (S0 bias M w a i) (D0 i L vb do2) x := by
  rw [← grad0]
  pointwise [n0, k0_pay55]
/-- The gradient of the first head's scores. -/
theorem all0 : k0_pay56 (F := Ideal) M (k0_pay25 bias M w a) (k0_pay26 bias M w a) (g0 bias M w a L vb do2) (n0 bias M w a L vb do2) (ix2 i x)
    = Scalar.select (M (ix2 i x)) (rAll (S0 bias M w a i) (D0 i L vb do2) x) 0 := by
  pointwise [k0_pay56]
  simp only [sum_one, neg0, grad0, cnt0, top0]
  rfl
end rows

/-! ## Second head -/
section rows
variable (q2 : FVec Ideal S256x128 .f32) (k8 : FVec Ideal S768x128 .f32) (bias : FVec Ideal S2x256x768 .f32) (l : IVec S256x128 32) (M : IVec S256x768 1)
  (i : Fin 256) (x : Fin 768)
/-- Second head: the scores of query `i`. -/
abbrev S1 : Fin 768 → EReal := fun x => k0_pay35 (F := Ideal) q2 k8 bias l M (ix2 i x)

/-- The largest score of the second head's row. -/
theorem max1 : k0_pay36 (F := Ideal) q2 k8 bias l M (ix1 i) = rMax (S1 q2 k8 bias l M i) := by
  pointwise [k0_pay36]
  rw [bot_lit]; rfl
/-- Where the second head's row has its largest score. -/
theorem top1 : k0_pay38 (F := Ideal) (k0_pay37 q2 k8 bias l M) (ix2 i x) = rTop (S1 q2 k8 bias l M i) x := by
  pointwise [k0_pay38, k0_pay37]
  rw [max1]
  exact sitofp_decide _
/-- How often the second head's row has its largest score. -/
theorem cnt1 : k0_pay39 (F := Ideal) (k0_pay37 q2 k8 bias l M) (ix1 i) = ∑ k, rTop (S1 q2 k8 bias l M i) k := by
  pointwise [k0_pay39]
  exact Finset.sum_congr rfl fun x _ => top1 q2 k8 bias l M i x
/-- The exponentials of the second head's row. -/
theorem exp1 : k0_pay40 (F := Ideal) (k0_pay35 q2 k8 bias l M) (k0_pay36 q2 k8 bias l M) (ix2 i x) = rExp (S1 q2 k8 bias l M i) x := by
  pointwise [k0_pay40]
  rw [max1]; rfl
/-- The sum of the second head's exponentials. -/
theorem sum1 : k0_pay41 (F := Ideal) (k0_pay35 q2 k8 bias l M) (k0_pay36 q2 k8 bias l M) (ix2 i 0) = rSum (S1 q2 k8 bias l M i) := by
  pointwise [k0_pay41]
  exact Finset.sum_congr rfl fun x _ => exp1 q2 k8 bias l M i x

variable (L : IVec S256x128 1) (vb : FVec Ideal S768x128 .f32) (do2 : FVec Ideal S256x128 .f32)
/-- Second head: the gradient of the exponents. -/
abbrev g1 : FVec Ideal S256x768 .f32 :=
  k0_pay45 (F := Ideal) (k0_pay16 vb) L (k0_pay35 q2 k8 bias l M) (k0_pay36 q2 k8 bias l M) do2
/-- Second head: the sum of its negatives. -/
abbrev n1 : FVec Ideal S256x1 .f32 :=
  k0_pay46 (F := Ideal) (k0_pay16 vb) L (k0_pay35 q2 k8 bias l M) (k0_pay36 q2 k8 bias l M) do2

/-- The gradient of the second head's scores, before its share through the maximum. -/
theorem grad1 : g1 q2 k8 bias l M L vb do2 (ix2 i x) = rGrad (S1 q2 k8 bias l M i) (D0 i L vb do2) x := by
  pointwise [g1, k0_pay45, k0_pay43, k0_pay16]
  simp only [sum_one, sum1, exp1, one_lit]
  rfl
/-- The sum of the negated gradients of the second head's scores. -/
theorem neg1 : n1 q2 k8 bias l M L vb do2 (ix2 i 0) = ∑ k, (0 - rGrad (S1 q2 k8 bias l M i) (D0 i L vb do2) k) := by
  simp only [← grad1]
  pointwise [n1, k0_pay46]
/-- The gradient of the second head's scores. -/
theorem all1 : k0_pay47 (F := Ideal) M (k0_pay38 (k0_pay37 q2 k8 bias l M)) (k0_pay39 (k0_pay37 q2 k8 bias l M))
      (g1 q2 k8 bias l M L vb do2) (n1 q2 k8 bias l M L vb do2) (ix2 i x)
    = Scalar.select (M (ix2 i x)) (rAll (S1 q2 k8 bias l M i) (D0 i L vb do2) x) 0 := by
  pointwise [k0_pay47]
  simp only [sum_one, neg1, grad1, cnt1, top1]
  rfl
end rows

/-! ## The tile's operands as real numbers -/
variable (c : Fin 8) (Q G : Fin 256 → Fin 128 → ℝ) (K V : Fin 768 → Fin 128 → ℝ) (b : Fin 2 → Fin 256 → Fin 768 → ℝ)
  (q2 do2 : FVec Ideal S256x128 .f32) (kb vb : FVec Ideal S768x128 .f32) (bias : FVec Ideal S2x256x768 .f32)

section
variable (hq : ∀ i d, q2 (ix2 i d) = (Q i d : EReal)) (hk : ∀ x d, kb (ix2 x d) = (K x d : EReal))
  (hv : ∀ x d, vb (ix2 x d) = (V x d : EReal)) (hb : ∀ h i x, bias (ix3 h i x) = (b h i x : EReal))
  (hg : ∀ i d, do2 (ix2 i d) = (G i d : EReal)) (i : Fin 256) (x : Fin 768)

/-- The literal 0.125 is `c8`. -/
theorem eighth_c8 : Ideal.ofBits .f32 0x3E000000#32 = c8 (F := Ideal) := rfl

/-- A number chosen or zero is a real number. -/
theorem ite_coe (P : Prop) [Decidable P] (r : ℝ) : (if P then (r : EReal) else 0) = ((if P then r else 0 : ℝ) : EReal) := by
  split_ifs <;> simp

include hq hk hb in
/-- The first head's masked scores as reals. -/
theorem score0 : S0 bias (mask c) (w84 q2 kb) c8 i = scores (okB c i) (scB Q K b 0 i) := by
  funext x
  pointwise [S0, k0_pay23, w84, k0_pay22, k0_pay20, k0_pay21, k0_pay15, c8]
  simp only [mask_apply, low_apply, select_decide, hq, hk, hb, ite_coe, ← EReal.coe_mul, coe_sum]
  simp only [eighth, mask_lit, ← EReal.coe_mul, ← EReal.coe_add]
  simp only [scores, scB, ite_mul, zero_mul]

include hq hk hb in
/-- The second head's masked scores as reals. -/
theorem score1 : S1 q2 (k0_pay15 kb) bias lane (mask c) i = scores (okB c i) (scB Q K b 1 i) := by
  funext x
  pointwise [S1, k0_pay35, k0_pay33, k0_pay34, k0_pay15]
  simp only [mask_apply, high_apply, select_decide, hq, hk, hb, ite_coe, ← EReal.coe_mul, coe_sum]
  simp only [eighth, mask_lit, ← EReal.coe_mul, ← EReal.coe_add]
  simp only [scores, scB, ite_mul, zero_mul]

include hg hv in
/-- The first head's weight gradients as reals. -/
theorem dp0 : D0 i (k0_pay19 lane) vb do2 = fun x => (dpB G V 0 i x : EReal) := by
  funext x
  simp only [D0, low_apply, select_decide, hg, hv, ← EReal.coe_mul, ite_coe, coe_sum]
  simp only [dpB, ite_mul, zero_mul]

include hg hv in
/-- The second head's weight gradients as reals. -/
theorem dp1 : D0 i (k0_pay32 lane) vb do2 = fun x => (dpB G V 1 i x : EReal) := by
  funext x
  simp only [D0, high_apply, select_decide, hg, hv, ← EReal.coe_mul, ite_coe, coe_sum]
  simp only [dpB, ite_mul, zero_mul]

include hq hk hb in
/-- First head: the weights. -/
theorem pw0 : k0_pay30 (F := Ideal) bias (mask c) (w84 q2 kb) c8 (ix2 i x) = (pwB c Q K b 0 i x : EReal) := by
  rw [wt0, score0 c Q K b q2 kb bias hq hk hb, weight_scores _ _ ⟨_, okB_self c i⟩]; rfl

include hq hk hb hg hv in
/-- First head: the gradients of the scores. -/
theorem ds0 : k0_pay56 (F := Ideal) (mask c) (k0_pay25 bias (mask c) (w84 q2 kb) c8) (k0_pay26 bias (mask c) (w84 q2 kb) c8)
      (w223 c q2 kb vb bias do2) (w225 c q2 kb vb bias do2) (ix2 i x) = (dsB c Q G K V b 0 i x : EReal) := by
  rw [w223, w225, all0, score0 c Q K b q2 kb bias hq hk hb, dp0 G V do2 vb hv hg, mask_apply, select_decide,
    rAll_scores _ _ _ ⟨_, okB_self c i⟩]; rfl

include hq hk hb hg hv in
/-- Second head: the gradients of the scores. -/
theorem ds1 : k0_pay47 (F := Ideal) (mask c) (k0_pay38 (w132 c q2 kb bias)) (k0_pay39 (w132 c q2 kb bias))
      (w174 c q2 kb vb bias do2) (w178 c q2 kb vb bias do2) (ix2 i x) = (dsB c Q G K V b 1 i x : EReal) := by
  rw [w132, w174, w178, w128, w129, all1, score1 c Q K b q2 kb bias hq hk hb, dp1 G V do2 vb hv hg, mask_apply, select_decide,
    rAll_scores _ _ _ ⟨_, okB_self c i⟩]; rfl

include hq hk hb in
/-- Second head: the weights. -/
theorem pw1 : Ideal.div (k0_pay40 (F := Ideal) (w128 c q2 kb bias) (w129 c q2 kb bias) (ix2 i x))
      (k0_pay41 (w128 c q2 kb bias) (w129 c q2 kb bias) (ix2 i 0)) = (pwB c Q K b 1 i x : EReal) := by
  rw [w128, w129, sum1, exp1, score1 c Q K b q2 kb bias hq hk hb, weight_scores _ _ ⟨_, okB_self c i⟩]; rfl

include hq hk hb hg hv in
/-- First head: the scaled gradients of the scores. -/
theorem dss0 : k0_pay58 (F := Ideal) (mask c) (k0_pay25 bias (mask c) (w84 q2 kb) c8) (k0_pay26 bias (mask c) (w84 q2 kb) c8)
      (w223 c q2 kb vb bias do2) (w225 c q2 kb vb bias do2) (ix2 i x) = (dsB c Q G K V b 0 i x * (1 / 8) : ℝ) := by
  rw [EReal.coe_mul, ← eighth, ← ds0 c Q G K V b q2 do2 kb vb bias hq hk hv hb hg]
  pointwise [k0_pay58]

include hq hk hb hg hv in
/-- Second head: the scaled gradients of the scores. -/
theorem dss1 : k0_pay49 (F := Ideal) (mask c) (k0_pay38 (w132 c q2 kb bias)) (k0_pay39 (w132 c q2 kb bias))
      (w174 c q2 kb vb bias do2) (w178 c q2 kb vb bias do2) (ix2 i x) = (dsB c Q G K V b 1 i x * (1 / 8) : ℝ) := by
  rw [EReal.coe_mul, ← eighth, ← ds1 c Q G K V b q2 do2 kb vb bias hq hk hv hb hg]
  pointwise [k0_pay49]

include hk in
/-- The keys, as the first head uses them. -/
theorem key0 (d : Fin 128) : k0_pay21 (F := Ideal) (k0_pay15 kb) (ix2 x d) = K x d := by
  rw [← hk]; pointwise [k0_pay21, k0_pay15]
include hk in
/-- The keys, as the second head uses them. -/
theorem key1 (d : Fin 128) : k0_pay34 (F := Ideal) (k0_pay15 kb) (ix2 x d) = K x d := by
  rw [← hk]; pointwise [k0_pay34, k0_pay15]
include hq in
/-- The queries, kept in the first head's lanes. -/
theorem qry0 (d : Fin 128) : k0_pay20 (F := Ideal) q2 lane (ix2 i d) = (if half d = 0 then Q i d else 0 : ℝ) := by
  rw [← ite_coe, ← hq, ← select_decide, ← low_apply i]; pointwise [k0_pay20]
include hq in
/-- The queries, kept in the second head's lanes. -/
theorem qry1 (d : Fin 128) : k0_pay33 (F := Ideal) q2 lane (ix2 i d) = (if half d = 1 then Q i d else 0 : ℝ) := by
  rw [← ite_coe, ← hq, ← select_decide, ← high_apply i]; pointwise [k0_pay33]
include hg in
/-- The output gradient, kept in the first head's lanes. -/
theorem do0 (d : Fin 128) : k0_pay52 (F := Ideal) (k0_pay19 lane) (k0_pay42 do2) (ix2 i d) = (if half d = 0 then G i d else 0 : ℝ) := by
  rw [← ite_coe, ← hg, ← select_decide, ← low_apply i]; pointwise [k0_pay52, k0_pay42]
include hg in
/-- The output gradient, kept in the second head's lanes. -/
theorem do1 (d : Fin 128) : k0_pay43 (F := Ideal) (k0_pay32 lane) do2 (ix2 i d) = (if half d = 1 then G i d else 0 : ℝ) := by
  rw [← ite_coe, ← hg, ← select_decide, ← high_apply i]; pointwise [k0_pay43]

/-- Every column lies in one of the two heads. -/
theorem half_cases (d : Fin 128) : half d = 0 ∨ half d = 1 := by
  have := (half d).isLt
  rcases (by omega : (half d).val = 0 ∨ (half d).val = 1) with h | h
  · exact Or.inl (Fin.ext h)
  · exact Or.inr (Fin.ext h)

include hq hk hb hg hv in
/-- The point's gradient of its queries is the tile's. -/
theorem bDq_apply (d : Fin 128) : bDq c q2 kb vb bias do2 (ix2 i d) = (dqB c Q G K V b i d : EReal) := by
  pointwise [bDq, k0_pay59, k0_pay51]
  simp only [eighth_c8, low_apply, high_apply, select_decide, dss1 c Q G K V b q2 do2 kb vb bias hq hk hv hb hg,
    dss0 c Q G K V b q2 do2 kb vb bias hq hk hv hb hg, key0 K kb hk, key1 K kb hk, ← EReal.coe_mul, coe_sum, ite_coe, ← EReal.coe_add]
  rcases half_cases d with h | h <;> simp [dqB, h]

include hq hk hb hg hv in
/-- The point adds the tile's gradient of the keys. -/
theorem bDk_apply (acc : FVec Ideal S768x128 .f32) (d : Fin 128) :
    bDk c q2 kb vb bias do2 acc (ix2 x d) = acc (ix2 x d) + (dkB c Q G K V b x d : EReal) := by
  pointwise [bDk, k0_pay60, k0_pay50]
  simp only [eighth_c8, dss1 c Q G K V b q2 do2 kb vb bias hq hk hv hb hg, dss0 c Q G K V b q2 do2 kb vb bias hq hk hv hb hg,
    qry0 Q q2 hq, qry1 Q q2 hq, ← EReal.coe_mul, coe_sum, ← EReal.coe_add]
  rcases half_cases d with h | h <;> simp [dkB, h]

include hq hk hb hg in
/-- The point adds the tile's gradient of the values. -/
theorem bDv_apply (acc : FVec Ideal S768x128 .f32) (d : Fin 128) :
    bDv c q2 kb bias do2 acc (ix2 x d) = acc (ix2 x d) + (dvB c Q G K b x d : EReal) := by
  pointwise [bDv, k0_pay61, k0_pay53, k0_pay44]
  simp only [eighth_c8, pw1 c Q K b q2 kb bias hq hk hb, pw0 c Q K b q2 kb bias hq hk hb,
    do0 G do2 hg, do1 G do2 hg, ← EReal.coe_mul, coe_sum, ← EReal.coe_add]
  rcases half_cases d with h | h <;> simp [dvB, h]
end
end Cert.Body
end
-- ==== Proof.Fold.lean ====
module
public import proofs.«01_k».proof.Proof.Host
public import proofs.«01_k».proof.Proof.BodyRead
public import proofs.«01_k».proof.Proof.Gen.KernelIdeal.Value
/-! What the kernel's arrays hold when the grid has run: the whole gradients. -/
@[expose] public section
noncomputable section
namespace Cert.Body
open Idealize.ShloMosaic Cert.KernelIdeal Cert.KernelIdeal.Gen Cert.KernelIdeal.Value Cert.Att Cert.Tile

/-- The sum of the first `n` of eight numbers. -/
def part (f : Fin 8 → ℝ) (n : ℕ) : ℝ := ∑ c : Fin 8, if c.val < n then f c else 0
/-- No term is summed before the first step. -/
theorem part_zero (f : Fin 8 → ℝ) : part f 0 = 0 := by simp [part]
/-- All terms are summed after the last step. -/
theorem part_all (f : Fin 8 → ℝ) : part f 8 = ∑ c, f c := Finset.sum_congr rfl fun c _ => if_pos c.isLt
/-- One step adds one term. -/
theorem part_succ (f : Fin 8 → ℝ) (n : Fin 8) : part f n.val + f n = part f (n.val + 1) := by
  unfold part
  fin_cases n <;> simp [Fin.sum_univ_eight]

variable (m : (ℓ : Loc nD τ sig) → Buf (Elt Ideal) ℓ) (c : Dev nD) (q k v g : Arr) (r : Tab)

/-- The arguments hold these real numbers. -/
structure Args : Prop where
  q : ∀ a e, (m (c, Proc.tc.devRef main_arg0) : FVec Ideal S2048x1024 .f32) (ix2 a e) = (q a e : EReal)
  k : ∀ a e, (m (c, Proc.tc.devRef main_arg1) : FVec Ideal S2048x1024 .f32) (ix2 a e) = (k a e : EReal)
  v : ∀ a e, (m (c, Proc.tc.devRef main_arg2) : FVec Ideal S2048x1024 .f32) (ix2 a e) = (v a e : EReal)
  r : ∀ h j, (m (c, Proc.tc.devRef main_arg3) : FVec Ideal S16x257 .f32) (ix2 h j) = (r h j : EReal)
  g : ∀ a e, (m (c, Proc.tc.devRef main_arg4) : FVec Ideal S2048x1024 .f32) (ix2 a e) = (g a e : EReal)

/-- The padded array of reals. -/
theorem padK_coe {k : Arr} {K : FVec Ideal S2048x1024 .f32} (h : ∀ a e, K (ix2 a e) = (k a e : EReal)) (p : Fin 8) (x : Fin 2560) (d : Fin 128) :
    padK K (ix2 x (colp p d)) = (padded k p x d : EReal) := by
  rw [padK_apply]
  unfold padded
  split_ifs
  · exact h _ _
  · rfl

variable {m c q k v g r} (H : Args m c q k v g r) (t : Fin cfg0.N)
include H

/-- The queries of a step. -/
theorem hq (i : Fin 256) (d : Fin 128) : (iblk m c 0 t : Vec Ideal S256x128 .f32) (ix2 i d) = (qT q (pr t) (tl t) i d : EReal) :=
  (iblk0 m c t i d).trans (H.q _ _)
/-- The output gradient of a step. -/
theorem hg (i : Fin 256) (d : Fin 128) : (iblk m c 4 t : Vec Ideal S256x128 .f32) (ix2 i d) = (qT g (pr t) (tl t) i d : EReal) :=
  (iblk4 m c t i d).trans (H.g _ _)
/-- The keys of a step. -/
theorem hk (x : Fin 768) (d : Fin 128) :
    rd (α := Elt Ideal) (tl t) (iblk m c 1 t : Vec Ideal S2560x128 .f32) (ix2 x d) = (kT k (pr t) (tl t) x d : EReal) :=
  (iblk1 m c t _ d).trans (padK_coe H.k _ _ _)
/-- The values of a step. -/
theorem hv (x : Fin 768) (d : Fin 128) :
    rd (α := Elt Ideal) (tl t) (iblk m c 2 t : Vec Ideal S2560x128 .f32) (ix2 x d) = (kT v (pr t) (tl t) x d : EReal) :=
  (iblk2 m c t _ d).trans (padK_coe H.v _ _ _)
/-- The bias of a step. -/
theorem hb (h : Fin 2) (i : Fin 256) (x : Fin 768) :
    bias0 (F := Ideal) (iblk m c 3 t) (ix3 h i x) = (bT r (pr t) h i x : EReal) := by
  refine (iblk3 m c t h _).trans ?_
  have e : (256 + x.val + 1024 - i.val % 1024) % 1024 = 256 + x.val - i.val := by omega
  rw [vecs_apply _ _ _ (by show 1 ≤ (256 + x.val + 1024 - i.val % 1024) % 1024; omega), H.r]
  unfold bT
  congr 3
  show 768 - (((256 + x.val + 1024 - i.val % 1024) % 1024 : ℕ) : ℤ) = _
  rw [e]; omega
omit H

/-- A window of the accumulator after the point added to it. -/
theorem wr_coe (n : Fin 8) (acc : Vec Ideal S2560x128 .f32) (P : FVec Ideal S768x128 .f32) (A : Fin 2560 → Fin 128 → ℝ) (B : Fin 768 → Fin 128 → ℝ)
    (hA : ∀ x d, acc (ix2 x d) = (A x d : EReal)) (hP : ∀ x d, P (ix2 x d) = rd (α := Elt Ideal) n acc (ix2 x d) + (B x d : EReal))
    (x : Fin 2560) (d : Fin 128) : wr (α := Elt Ideal) n acc P (ix2 x d)
      = ((A x d + if h : 256 * n.val ≤ x.val ∧ x.val < 256 * n.val + 768 then B ⟨x.val - 256 * n.val, by omega⟩ d else 0 : ℝ) : EReal) := by
  unfold wr
  by_cases h : 256 * n.val ≤ x.val ∧ x.val < 256 * n.val + 768
  · rw [dif_pos h]
    refine (dif_pos (show 256 * n.val ≤ x.val ∧ x.val < 256 * n.val + 768 from h)).trans ?_
    refine (hP ⟨x.val - 256 * n.val, by omega⟩ d).trans ?_
    rw [rd_apply, hA, ← EReal.coe_add]
    have e : (⟨256 * n.val + (x.val - 256 * n.val), by omega⟩ : Fin 2560) = x := Fin.ext (by dsimp only; omega)
    exact congrArg (fun y => ((A y d + B ⟨x.val - 256 * n.val, by omega⟩ d : ℝ) : EReal)) e
  · rw [dif_neg h, add_zero]
    exact (dif_neg (show ¬(256 * n.val ≤ x.val ∧ x.val < 256 * n.val + 768) from h)).trans (hA x d)

/-- The state a point leaves. -/
abbrev St := Vec Ideal S256x128 .f32 × Vec Ideal S2560x128 .f32 × Vec Ideal S2560x128 .f32 × Vec Ideal S1x2x1024 .f32
  × Vec Ideal S2x256x768 .f32 × Vec Ideal S2x256x768 .f32

variable (q k v g r) in
/-- What the state carries from point to point of a pair: the bias, and the sums of the first `n` tiles. -/
structure Sums (p : Fin 8) (n : ℕ) (b : Vec Ideal S2x256x768 .f32) (dk dv : Vec Ideal S2560x128 .f32) : Prop where
  b : ∀ h i x, b (ix3 h i x) = (bT r p h i x : EReal)
  dk : ∀ x d, dk (ix2 x d) = (part (fun n => dkT q k v g r p n x d) n : EReal)
  dv : ∀ x d, dv (ix2 x d) = (part (fun n => dvT q k g r p n x d) n : EReal)

variable (q k v g r) in
/-- What a point leaves: its tile of the gradient of the queries, and the sums with its tile added. -/
structure Left (p n : Fin 8) (s : St) : Prop where
  dq : ∀ i d, s.1 (ix2 i d) = (dq q k v g r (row n i) (colp p d) : EReal)
  sums : Sums q k v g r p (n.val + 1) s.2.2.2.2.1 s.2.1 s.2.2.1

include H in
/-- One point's work, on a state that holds the sums so far. -/
theorem point (b : Vec Ideal S2x256x768 .f32) (ak av : Vec Ideal S2560x128 .f32) (hs : Sums q k v g r (pr t) (tl t).val b ak av) (s : St)
    (e5 : s.1 = bDq (F := Ideal) (tl t) (iblk m c 0 t) (rd (α := Elt Ideal) (tl t) (iblk m c 1 t)) (rd (α := Elt Ideal) (tl t) (iblk m c 2 t)) b (iblk m c 4 t))
    (e6 : s.2.1 = wr (α := Elt Ideal) (tl t) ak (bDk (F := Ideal) (tl t) (iblk m c 0 t) (rd (α := Elt Ideal) (tl t) (iblk m c 1 t)) (rd (α := Elt Ideal) (tl t) (iblk m c 2 t)) b (iblk m c 4 t) (rd (α := Elt Ideal) (tl t) ak)))
    (e7 : s.2.2.1 = wr (α := Elt Ideal) (tl t) av (bDv (F := Ideal) (tl t) (iblk m c 0 t) (rd (α := Elt Ideal) (tl t) (iblk m c 1 t)) b (iblk m c 4 t) (rd (α := Elt Ideal) (tl t) av)))
    (e9 : s.2.2.2.2.1 = b) : Left q k v g r (pr t) (tl t) s where
  dq i d := by
    rw [e5, ← dqB_eq]
    exact bDq_apply _ _ _ _ _ _ _ _ _ _ _ (hq H t) (hk H t) (hv H t) hs.b (hg H t) i d
  sums :=
    { b := by rw [e9]; exact hs.b
      dk := fun x d => by
        rw [e6, ← part_succ]
        exact wr_coe _ _ _ _ _ hs.dk (fun x d => bDk_apply _ _ _ _ _ _ _ _ _ _ _ (hq H t) (hk H t) (hv H t) hs.b (hg H t) x _ d) x d
      dv := fun x d => by
        rw [e7, ← part_succ]
        exact wr_coe _ _ _ _ _ hs.dv (fun x d => bDv_apply _ _ _ _ _ _ _ _ _ (hq H t) (hk H t) hs.b (hg H t) x _ d) x d }

include H in
/-- One step of the grid. -/
theorem step (acc : St) (ha : ¬t.val % 8 = 0 → Sums q k v g r (pr t) (tl t).val acc.2.2.2.2.1 acc.2.1 acc.2.2.1) :
    Left q k v g r (pr t) (tl t) (stAt0 m c t.val t.isLt acc) := by
  by_cases h0 : t.val % 8 = 0
  · have h1 : ¬t.val % 8 = 7 := by omega
    rw [stAt0_A m c t acc h0 h1]
    refine point H t (bias0 (F := Ideal) (iblk m c 3 t)) (k0_pay12 (F := Ideal)) (k0_pay13 (F := Ideal)) ⟨hb H t, fun x d => ?_, fun x d => ?_⟩ _ ?_ ?_ ?_ ?_
    · rw [show (tl t).val = 0 from h0, part_zero]; pointwise [k0_pay12]; rfl
    · rw [show (tl t).val = 0 from h0, part_zero]; pointwise [k0_pay13]; rfl
    · dsimp only; rw [out5_A, coords_tl]
    · dsimp only; rw [out6_A, coords_tl]
    · dsimp only; rw [out7_A, coords_tl]
    · dsimp only; rw [sout0_A]
  · by_cases h1 : t.val % 8 = 7
    · rw [stAt0_C m c t acc h0 h1]
      refine point H t _ _ _ (ha h0) _ ?_ ?_ ?_ ?_
      · dsimp only; rw [out5_C, coords_tl]
      · dsimp only; rw [out6_C, coords_tl]
      · dsimp only; rw [out7_C, coords_tl]
      · dsimp only; rw [sout0_C]
    · rw [stAt0_B m c t acc h0 h1]
      refine point H t _ _ _ (ha h0) _ ?_ ?_ ?_ ?_
      · dsimp only; rw [out5_B, coords_tl]
      · dsimp only; rw [out6_B, coords_tl]
      · dsimp only; rw [out7_B, coords_tl]
      · dsimp only; rw [sout0_B]

include H in
/-- What every point leaves. -/
theorem left (n : ℕ) (hn : n < cfg0.N) (h' : 0 + n < cfg0.N) : Left q k v g r (pr ⟨n, hn⟩) (tl ⟨n, hn⟩)
    (Pipeline.accAt (fun n h => stAt0 m c n h junk0) (stAt0 m c) 0 n h') := by
  induction n with
  | zero => exact step H ⟨0, hn⟩ junk0 fun h => absurd (Nat.zero_mod 8) h
  | succ n ih =>
    have e : ∀ (j : ℕ) (hj : j < cfg0.N) (j' : ℕ) (hj' : j' < cfg0.N) (acc : St), j = j' → stAt0 m c j hj acc = stAt0 m c j' hj' acc := by
      intro j hj j' hj' acc h; subst h; rfl
    have ih' := ih (by omega) (by omega)
    show Left q k v g r _ _ (stAt0 m c (0 + (n + 1)) h' (Pipeline.accAt (fun n h => stAt0 m c n h junk0) (stAt0 m c) 0 n (by omega)))
    rw [e _ _ (n + 1) hn _ (Nat.zero_add _)]
    refine step H ⟨n + 1, hn⟩ _ fun h0 => ?_
    have hN : n + 1 < 64 := hn
    have ep : pr ⟨n + 1, hn⟩ = pr ⟨n, by omega⟩ := Fin.ext (by show (n + 1) / 8 = n / 8; dsimp only at h0; omega)
    have et : (tl ⟨n + 1, hn⟩).val = (tl ⟨n, by omega⟩).val + 1 := by show (n + 1) % 8 = n % 8 + 1; dsimp only at h0; omega
    rw [ep, et]
    exact ih'.sums

include H in
/-- The kernel's first result: the gradient of the queries. -/
theorem G5_eq (a : Fin 2048) (e : Fin 1024) : (G5 m c : FVec Ideal S2048x1024 .f32) (ix2 a e) = (dq q k v g r a e : EReal) := by
  have hp : pt5Of (ix2 a e) < cfg0.N := by
    show 1 * (a.val / 256 - 0) + 8 * (e.val / 128 - 0) < 64
    omega
  unfold G5
  rw [dif_pos hp]
  have h := (left H (pt5Of (ix2 a e)) hp (by omega)).dq ⟨a.val % 256, by omega⟩ ⟨e.val % 128, by omega⟩
  have hr : row (tl ⟨pt5Of (ix2 a e), hp⟩) ⟨a.val % 256, by omega⟩ = a := Fin.ext (by
    show 256 * ((1 * (a.val / 256 - 0) + 8 * (e.val / 128 - 0)) % 8) + a.val % 256 = a.val; omega)
  have hc : colp (pr ⟨pt5Of (ix2 a e), hp⟩) ⟨e.val % 128, by omega⟩ = e := Fin.ext (by
    show 128 * ((1 * (a.val / 256 - 0) + 8 * (e.val / 128 - 0)) / 8) + e.val % 128 = e.val; omega)
  rw [hr, hc] at h
  refine Eq.trans (congrArg _ (funext fun a => ?_)) h
  match a with
  | ⟨0, _⟩ => rfl
  | ⟨1, _⟩ => rfl

/-- A gradient with 512 rows of zeros in front. -/
def padA (k : Arr) (x : Fin 2560) (e : Fin 1024) : ℝ := if h : 512 ≤ x.val then k ⟨x.val - 512, by omega⟩ e else 0

include H in
/-- The kernel's second result: the gradient of the keys, with zeros in the padding. -/
theorem G6_eq (x : Fin 2560) (e : Fin 1024) : (G6 m c : FVec Ideal S2560x1024 .f32) (ix2 x e) = (padA (dk q k v g r) x e : EReal) := by
  have hp : pt6Of (ix2 x e) < cfg0.N := by
    show 8 * (8 * (x.val / 2560 - 0) + 1 * (e.val / 128 - 0)) + 7 < 64
    omega
  unfold G6
  rw [dif_pos hp]
  have h := (left H (pt6Of (ix2 x e)) hp (by omega)).sums.dk x ⟨e.val % 128, by omega⟩
  have ht : (tl ⟨pt6Of (ix2 x e), hp⟩).val + 1 = 8 := by
    show (8 * (8 * (x.val / 2560 - 0) + 1 * (e.val / 128 - 0)) + 7) % 8 + 1 = 8; omega
  have hc : colp (pr ⟨pt6Of (ix2 x e), hp⟩) ⟨e.val % 128, by omega⟩ = e := Fin.ext (by
    show 128 * ((8 * (8 * (x.val / 2560 - 0) + 1 * (e.val / 128 - 0)) + 7) / 8) + e.val % 128 = e.val; omega)
  rw [ht, part_all, sum_dkT] at h
  unfold padded at h
  rw [hc] at h
  refine Eq.trans (congrArg _ (funext fun a => ?_)) h
  match a with
  | ⟨0, _⟩ => exact Fin.ext (Nat.mod_eq_of_lt x.isLt)
  | ⟨1, _⟩ => rfl

include H in
/-- The kernel's third result: the gradient of the values, with zeros in the padding. -/
theorem G7_eq (x : Fin 2560) (e : Fin 1024) : (G7 m c : FVec Ideal S2560x1024 .f32) (ix2 x e) = (padA (dv q k g r) x e : EReal) := by
  have hp : pt7Of (ix2 x e) < cfg0.N := by
    show 8 * (8 * (x.val / 2560 - 0) + 1 * (e.val / 128 - 0)) + 7 < 64
    omega
  unfold G7
  rw [dif_pos hp]
  have h := (left H (pt7Of (ix2 x e)) hp (by omega)).sums.dv x ⟨e.val % 128, by omega⟩
  have ht : (tl ⟨pt7Of (ix2 x e), hp⟩).val + 1 = 8 := by
    show (8 * (8 * (x.val / 2560 - 0) + 1 * (e.val / 128 - 0)) + 7) % 8 + 1 = 8; omega
  have hc : colp (pr ⟨pt7Of (ix2 x e), hp⟩) ⟨e.val % 128, by omega⟩ = e := Fin.ext (by
    show 128 * ((8 * (8 * (x.val / 2560 - 0) + 1 * (e.val / 128 - 0)) + 7) / 8) + e.val % 128 = e.val; omega)
  rw [ht, part_all, sum_dvT] at h
  unfold padded at h
  rw [hc] at h
  refine Eq.trans (congrArg _ (funext fun a => ?_)) h
  match a with
  | ⟨0, _⟩ => exact Fin.ext (Nat.mod_eq_of_lt x.isLt)
  | ⟨1, _⟩ => rfl

end Cert.Body
end
-- ==== Proof.RefWords.lean ====
module
public import proofs.«01_k».proof.Proof.Gen.ReferenceIdeal.Read
public import Idealize.ShloMosaic.Lib.Pipeline.ValueKit.Point
public import Idealize.ShloMosaic.Lib.Claim
public import proofs.«01_k».proof.Proof.Spec
/-! The reference's integers: the distance that picks a bias and the mask of the chunks. -/
@[expose] public section
noncomputable section
namespace Cert.Ref
open Idealize.ShloMosaic Cert.ReferenceIdeal Cert.ReferenceIdeal.Gen Cert.ReferenceIdeal.Read Cert.Att

/-- The printed index of a distance. -/
def distW (d : BitVec 32) : BitVec 32 :=
  let z := IntOp.addi (IntOp.minsi 128#32 (IntOp.maxsi 4294967168#32 d)) 128#32
  Scalar.select (IntOp.cmpi CmpIPredicate.slt z 0#32) (IntOp.addi z 257#32) z
/-- The clipped distance as a table index. -/
theorem distW_eq : ∀ n : Fin 4096, distW (BitVec.ofNat 32 n.val - 2048#32) = BitVec.ofNat 32 (clip ((n.val : ℤ) - 2048)).val := by
  decide +kernel
/-- The difference of two positions. -/
theorem sub_word (a b : Fin 2048) : IntOp.subi (BitVec.ofNat 32 a.val) (BitVec.ofNat 32 b.val) = BitVec.ofNat 32 (2048 + a.val - b.val) - 2048#32 := by
  show BitVec.ofNat 32 a.val - BitVec.ofNat 32 b.val = _
  apply BitVec.eq_of_toNat_eq
  simp only [BitVec.toNat_sub, BitVec.toNat_ofNat]
  omega
/-- The index of the bias of two positions. -/
theorem index_word (a b : Fin 2048) : val_main_v16 (F := Ideal) (ix2 a b) = BitVec.ofNat 32 (clip ((a.val : ℤ) - b.val)).val := by
  pointwise [val_main_v16, val_main_v13, val_main_v15, val_main_v11, val_main_v10, val_main_v9, val_main_c_1, val_main_v8, val_main_call0_v2, val_main_call0_v4,
    val_main_call0_v3, val_main_call0_v1, val_main_call0_v0, val_main_c, val_main_c_0, val_main_c_2, val_main_c_3, val_main_v12, val_main_v14, val_main_v7, val_main_v6, val_main_v5, val_main_v4, val_main_v3]
  change distW (IntOp.subi (BitVec.ofNat 32 a.val) (BitVec.ofNat 32 b.val)) = _
  rw [sub_word, distW_eq ⟨2048 + a.val - b.val, by omega⟩]
  congr 3
  dsimp only
  omega

/-- The chunk of a position. -/
theorem div_word : ∀ a : Fin 2048, IntOp.divsi ArithUnit.host (BitVec.ofNat 32 a.val) 64#32 = BitVec.ofNat 32 (a.val / 64) := by
  decide +kernel
/-- Which chunks a query sees, decided over all of them. -/
theorem chunk_word : ∀ x y : Fin 32, IntOp.andi
    (IntOp.cmpi CmpIPredicate.sge (IntOp.subi (BitVec.ofNat 32 x.val) (BitVec.ofNat 32 y.val)) 0#32)
    (IntOp.cmpi CmpIPredicate.sle (IntOp.subi (BitVec.ofNat 32 x.val) (BitVec.ofNat 32 y.val)) 8#32)
      = if y.val ≤ x.val ∧ x.val ≤ y.val + 8 then 1#1 else 0#1 := by
  decide +kernel
/-- The mask of two positions. -/
theorem mask_word (a b : Fin 2048) : val_main_v34 (F := Ideal) (ix2 a b) = if ok a b then 1#1 else 0#1 := by
  pointwise [val_main_v34, val_main_v31, val_main_v33, val_main_v25, val_main_v30, val_main_v32, val_main_c_5, val_main_c_6, val_main_v23, val_main_v24, val_main_v21, val_main_v22, val_main_v20, val_main_v19, val_main_v3, val_main_c_4]
  rw [div_word a, div_word b, chunk_word ⟨a.val / 64, by omega⟩ ⟨b.val / 64, by omega⟩]
  rfl

/-- The bias the reference picks. -/
theorem bias_read (x3 : FVec Ideal S16x257 .f32) (h : Fin 16) (a b : Fin 2048) :
    val_main_v18 (F := Ideal) x3 (ix3 h a b) = x3 (ix2 h (clip ((a.val : ℤ) - b.val))) := by
  have hw : (val_main_v17 (F := Ideal) : IVec S2048x2048x1 32) (ix3 a b (0 : Fin 1)) = BitVec.ofNat 32 (clip ((a.val : ℤ) - b.val)).val := by
    rw [← index_word]
    pointwise [val_main_v17]
  unfold val_main_v18 Host.gather
  refine congrArg x3 (funext fun e => Fin.ext ?_)
  show GatherDims.start _ _ _ e + GatherDims.batchCoord _ _ e + GatherDims.offCoord _ _ e = _
  have h01 : e = (0 : Fin 2) ∨ e = (1 : Fin 2) := by
    match e with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show ¬(0 : Fin 2) ∈ gather_S16x257_S2048x2048x1_S16x2048x2048_0_1_n_n_1_2_161.startIndexMap from fun h => absurd (List.mem_singleton.mp h) (by decide)),
      dif_pos ((GatherDims.mem_sKept _ _).mpr ⟨fun h => absurd (List.mem_singleton.mp h) (show ¬(0 : Fin 2) = 1 by decide), List.not_mem_nil⟩)]
    exact (Nat.zero_add _).trans rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S16x257_S2048x2048x1_S16x2048x2048_0_1_n_n_1_2_161.startIndexMap from List.mem_singleton.mpr rfl)]
    have hc := (clip ((a.val : ℤ) - b.val)).isLt
    have hz : (BitVec.ofNat 32 (clip ((a.val : ℤ) - b.val)).val).toInt.toNat = (clip ((a.val : ℤ) - b.val)).val := by
      rw [BitVec.toInt_eq_toNat_of_lt (by rw [BitVec.toNat_ofNat]; omega), BitVec.toNat_ofNat, Int.toNat_natCast]
      omega
    refine (show _ = min ((val_main_v17 (F := Ideal) : IVec S2048x2048x1 32) (ix3 a b (0 : Fin 1))).toInt.toNat 256 + 0 + 0 from ?_).trans ?_
    · have hsi : ∀ q, gather_S16x257_S2048x2048x1_S16x2048x2048_0_1_n_n_1_2_161.siIdx (ix3 h a b) q = ix3 a b (0 : Fin 1) := by
        intro q
        funext e; refine Fin.ext ?_
        match e with
        | ⟨0, _⟩ => rfl
        | ⟨1, _⟩ => rfl
        | ⟨2, _⟩ => have := q.isLt; show q.val = 0; exact Nat.lt_one_iff.mp this
      rw [hsi]
      rfl
    · rw [hw, hz]
      show min _ 256 + 0 + 0 = (clip ((a.val : ℤ) - b.val)).val
      omega
end Cert.Ref
end
-- ==== Proof.Ref.lean ====
module
public import proofs.«01_k».proof.Proof.RefWords
public import proofs.«01_k».proof.Proof.Soft
/-! What the reference computes, entry by entry: the gradients of masked attention over all keys. -/
@[expose] public section
noncomputable section
namespace Cert.Ref
open Idealize.ShloMosaic Cert.ReferenceIdeal Cert.ReferenceIdeal.Gen Cert.ReferenceIdeal.Read Cert.Att Cert.Row

/-- A selection by the word of a condition is the conditional. -/
theorem sel_if {α : Type} (P : Prop) [Decidable P] (x y : α) : Scalar.select (if P then 1#1 else 0#1) x y = if P then x else y := by
  by_cases h : P <;> simp [Scalar.select, h]
/-- The literal 0.125. -/
theorem eighth : Ideal.ofBits .f32 1040187392#32 = ((1 / 8 : ℝ) : EReal) := by
  simp [Ideal.ofBits, Ideal.ieee, -EReal.coe_mul]; norm_num
/-- The literal of minus infinity. -/
theorem bot_lit : Ideal.ofBits .f32 4286578688#32 = ⊥ := by
  simp [Ideal.ofBits, Ideal.ieee, -EReal.coe_mul]

variable (x0 x1 x2 x4 : FVec Ideal S2048x1024 .f32) (x3 : FVec Ideal S16x257 .f32)
variable (q k v g : Arr) (r : Tab)
variable (hq : ∀ a e, x0 (ix2 a e) = (q a e : EReal)) (hk : ∀ a e, x1 (ix2 a e) = (k a e : EReal))
  (hv : ∀ a e, x2 (ix2 a e) = (v a e : EReal)) (hr : ∀ h j, x3 (ix2 h j) = (r h j : EReal)) (hg : ∀ a e, x4 (ix2 a e) = (g a e : EReal))
variable (h : Fin 16) (a b : Fin 2048)

/-- A masked score as printed. -/
theorem where_read : val_main_v35_0 (F := Ideal) x0 x1 x3 (ix3 h a b)
    = Scalar.select (val_main_v34 (F := Ideal) (ix2 a b)) (val_main_v29 (F := Ideal) x0 x1 x3 (ix3 h a b)) (Ideal.ofBits .f32 4286578688#32) := by
  pointwise [val_main_v35_0, val_main_v35_1, val_main_call1_v2, val_main_call1_v0, val_main_cst_7]
  rfl
include hq hk hr in
/-- The masked scores. -/
theorem score_read : val_main_v35_0 (F := Ideal) x0 x1 x3 (ix3 h a b) = scores (ok a) (sc q k r h a) b := by
  rw [where_read, mask_word, sel_if, bot_lit]
  refine if_congr Iff.rfl ?_ rfl
  pointwise [val_main_v29, val_main_v28, val_main_v26, val_main_v27, val_main_cst, val_main_v0, val_main_v1]
  rw [bias_read, hr, eighth]
  simp only [hq, hk, ← EReal.coe_mul, coe_sum, ← EReal.coe_add]
  unfold sc
  congr 4
  refine funext fun d => ?_
  rw [show (⟨h.val * 64 + d.val, by omega⟩ : Fin 1024) = col h d from Fin.ext (by simp only [col]; omega)]

/-- The scores of a row, as printed. -/
abbrev row (j : Fin 2048) : EReal := val_main_v35_0 (F := Ideal) x0 x1 x3 (ix3 h a j)

/-- The largest score of a row. -/
theorem max_read : val_main_v36 (F := Ideal) x0 x1 x3 (ix2 h a) = rMax (row x0 x1 x3 h a) := by
  pointwise [val_main_v36, val_main_cst_8]
  rw [bot_lit]; rfl
/-- The largest score of a row, as the softmax uses it. -/
theorem top_read : val_main_v43 (F := Ideal) x0 x1 x3 (ix2 h a) = rMax (row x0 x1 x3 h a) := by
  rw [val_main_v43_apply, max_read]
  exact (congrArg (max · _) bot_lit).trans (bot_sup_eq _)
/-- The exponentials of a row. -/
theorem exp_read : val_main_v56 (F := Ideal) x0 x1 x3 (ix3 h a b) = rExp (row x0 x1 x3 h a) b := by
  have e : val_main_v54 (F := Ideal) x0 x1 x3 (ix3 h a b) = val_main_v43 (F := Ideal) x0 x1 x3 (ix2 h a) := by
    pointwise [val_main_v54, val_main_v53]
  rw [val_main_v56_apply, val_main_v55_apply, e, top_read]
  rfl
/-- Their sum. -/
theorem sum_read : val_main_v58 (F := Ideal) x0 x1 x3 (ix3 h a (0 : Fin 1)) = rSum (row x0 x1 x3 h a) := by
  pointwise [val_main_v58, val_main_v57, val_main_cst_16]
  exact Finset.sum_congr rfl fun j _ => exp_read x0 x1 x3 h a j
/-- The weights. -/
theorem weight_read : val_main_v60 (F := Ideal) x0 x1 x3 (ix3 h a b) = Ideal.div (rExp (row x0 x1 x3 h a) b) (rSum (row x0 x1 x3 h a)) := by
  have e : val_main_v59 (F := Ideal) x0 x1 x3 (ix3 h a b) = val_main_v58 (F := Ideal) x0 x1 x3 (ix3 h a (0 : Fin 1)) := by
    pointwise [val_main_v59]
  rw [val_main_v60_apply, e, sum_read, exp_read]
  rfl
/-- One over the square of the sum. -/
theorem inv_read : val_main_v63 (F := Ideal) x0 x1 x3 (ix3 h a (0 : Fin 1)) = Ideal.div 1 (rSum (row x0 x1 x3 h a) * rSum (row x0 x1 x3 h a)) := by
  pointwise [val_main_v63, val_main_v62, val_main_v61, val_main_cst_17]
  rw [sum_read]

/-- The gradients of a row's weights, as printed. -/
abbrev grow (j : Fin 2048) : EReal := val_main_v69 (F := Ideal) x2 x4 (ix3 h a j)

/-- The gradient of a score as printed, before the mask. -/
theorem grad_read : val_main_v83 (F := Ideal) x0 x1 x2 x3 x4 (ix3 h a b) = rGrad (row x0 x1 x3 h a) (grow x2 x4 h a) b := by
  have e81 : val_main_v81 (F := Ideal) x0 x1 x2 x3 x4 (ix3 h a b) = val_main_v77 (F := Ideal) x0 x1 x2 x3 x4 (ix3 h a (0 : Fin 1)) := by
    pointwise [val_main_v81, val_main_v80, val_main_cst_19]
    exact Fin.sum_univ_one _
  have e77 : val_main_v77 (F := Ideal) x0 x1 x2 x3 x4 (ix3 h a (0 : Fin 1)) = -∑ j, val_main_v74 (F := Ideal) x0 x1 x2 x3 x4 (ix3 h a j) := by
    pointwise [val_main_v77, val_main_v76, val_main_v75, val_main_cst_18]
  have e74 : ∀ j, val_main_v74 (F := Ideal) x0 x1 x2 x3 x4 (ix3 h a j)
      = grow x2 x4 h a j * Ideal.div 1 (rSum (row x0 x1 x3 h a) * rSum (row x0 x1 x3 h a)) * rExp (row x0 x1 x3 h a) j := by
    intro j
    have e72 : val_main_v72 (F := Ideal) x0 x1 x3 (ix3 h a j) = val_main_v63 (F := Ideal) x0 x1 x3 (ix3 h a (0 : Fin 1)) := by
      pointwise [val_main_v72]
    rw [val_main_v74_apply, val_main_v73_apply, e72, inv_read, exp_read]
    rfl
  have e78 : val_main_v78 (F := Ideal) x0 x1 x3 (ix3 h a b) = val_main_v58 (F := Ideal) x0 x1 x3 (ix3 h a (0 : Fin 1)) := by
    pointwise [val_main_v78]
  rw [val_main_v83_apply, val_main_v82_apply, val_main_v79_apply, e81, e77, e78, sum_read, exp_read, Finset.sum_congr rfl fun j _ => e74 j, ← zero_sub]
  rfl

include hv hg in
/-- The gradients of the weights. -/
theorem grow_read : val_main_v69 (F := Ideal) x2 x4 (ix3 h a b) = (dp v g h a b : EReal) := by
  pointwise [val_main_v69, val_main_v68, val_main_v67, val_main_v2]
  simp only [hv, hg, ← EReal.coe_mul, coe_sum]
  unfold dp
  congr 2
  refine funext fun d => ?_
  rw [show (⟨h.val * 64 + d.val, by omega⟩ : Fin 1024) = col h d from Fin.ext (by simp only [col]; omega)]

include hq hk hr hv hg in
/-- The scaled gradient of a score. -/
theorem ds_read : val_main_v86 (F := Ideal) x0 x1 x2 x3 x4 (ix3 h a b) = (ds q k v g r h a b * (1 / 8) : ℝ) := by
  have e : val_main_v86 (F := Ideal) x0 x1 x2 x3 x4 (ix3 h a b) = Scalar.select (val_main_v34 (F := Ideal) (ix2 a b))
      (val_main_v83 (F := Ideal) x0 x1 x2 x3 x4 (ix3 h a b)) 0 * Ideal.ofBits .f32 1040187392#32 := by
    pointwise [val_main_v86, val_main_v85, val_main_v84, val_main_call2_v0, val_main_call2_cst, val_main_cst_20, val_main_v35_1]
  rw [e, mask_word, sel_if, eighth, grad_read]
  have e1 : row x0 x1 x3 h a = scores (ok a) (sc q k r h a) := funext fun j => score_read x0 x1 x3 q k r hq hk hr h a j
  have e2 : grow x2 x4 h a = fun j => (dp v g h a j : EReal) := funext fun j => grow_read x2 x4 v g hv hg h a j
  rw [e1, e2, rGrad_scores _ _ _ ⟨a, ok_self a⟩, EReal.coe_mul]
  refine congrArg (· * _) ?_
  split_ifs with hn
  · rfl
  · rw [ds_of_not _ _ _ _ _ _ _ _ hn]; rfl

include hq hk hr in
/-- A weight. -/
theorem pw_read : val_main_v60 (F := Ideal) x0 x1 x3 (ix3 h a b) = (pw q k r h a b : EReal) := by
  have e1 : row x0 x1 x3 h a = scores (ok a) (sc q k r h a) := funext fun j => score_read x0 x1 x3 q k r hq hk hr h a j
  rw [weight_read, e1, weight_scores _ _ ⟨a, ok_self a⟩]
  rfl

variable (e : Fin 1024)
include hq hk hr hv hg in
/-- The gradient of the queries. -/
theorem dq_read : val_main_v93 (F := Ideal) x0 x1 x2 x3 x4 (ix2 a e) = (dq q k v g r a e : EReal) := by
  have e1 : val_main_v93 (F := Ideal) x0 x1 x2 x3 x4 (ix2 a e) = ∑ b, val_main_v86 (F := Ideal) x0 x1 x2 x3 x4 (ix3 (hd e) a b) * x1 (ix2 b e) := by
    pointwise [val_main_v93, val_main_v90, val_main_v89, val_main_v1]
    rfl
  rw [e1, Finset.sum_congr rfl fun b _ => congrArg (· * x1 (ix2 b e)) (ds_read x0 x1 x2 x4 x3 q k v g r hq hk hv hr hg (hd e) a b)]
  simp only [hk, ← EReal.coe_mul, coe_sum]
  rfl
include hq hk hr hv hg in
/-- The gradient of the keys. -/
theorem dk_read : val_main_v92 (F := Ideal) x0 x1 x2 x3 x4 (ix2 a e) = (dk q k v g r a e : EReal) := by
  have e1 : val_main_v92 (F := Ideal) x0 x1 x2 x3 x4 (ix2 a e) = ∑ b, val_main_v86 (F := Ideal) x0 x1 x2 x3 x4 (ix3 (hd e) b a) * x0 (ix2 b e) := by
    pointwise [val_main_v92, val_main_v88, val_main_v87, val_main_v0]
    rfl
  rw [e1, Finset.sum_congr rfl fun b _ => congrArg (· * x0 (ix2 b e)) (ds_read x0 x1 x2 x4 x3 q k v g r hq hk hv hr hg (hd e) b a)]
  simp only [hq, ← EReal.coe_mul, coe_sum]
  rfl
include hq hk hr hg in
/-- The gradient of the values. -/
theorem dv_read : val_main_v91 (F := Ideal) x0 x1 x3 x4 (ix2 a e) = (dv q k g r a e : EReal) := by
  have e1 : val_main_v91 (F := Ideal) x0 x1 x3 x4 (ix2 a e) = ∑ b, x4 (ix2 b e) * val_main_v60 (F := Ideal) x0 x1 x3 (ix3 (hd e) b a) := by
    pointwise [val_main_v91, val_main_v71, val_main_v70, val_main_v68, val_main_v67]
    rfl
  rw [e1, Finset.sum_congr rfl fun b _ => congrArg (x4 (ix2 b e) * ·) (pw_read x0 x1 x3 q k r hq hk hr (hd e) b a)]
  simp only [hg, ← EReal.coe_mul, coe_sum]
  rfl
end Cert.Ref
end
-- ==== Proof.Final.lean ====
module
public import proofs.«01_k».proof.Proof.Pre
public import proofs.«01_k».proof.Proof.Fold
public import proofs.«01_k».proof.Proof.Ref
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import Idealize.ShloMosaic.Adequacy
public import Idealize.ShloMosaic.Init
/-! The claims, from the two sides' closed forms: both hold the same real gradients. -/
@[expose] public section
noncomputable section
namespace Cert.Final
open Idealize.ShloMosaic Idealize.SL.Sem Cert.Att

section pads
open Cert.ReferenceIdeal Cert.ReferenceIdeal.Gen Cert.ReferenceIdeal.Read
/-- The reference's padding of 512 rows of zeros in front, read. -/
theorem pad_read (y : FVec Ideal S2048x1024 .f32) (d : Arr) (hy : ∀ a e, y (ix2 a e) = (d a e : EReal)) (x : Fin 2560) (e : Fin 1024) :
    pad S2560x1024 ![512, 0] ![0, 0] ![0, 0] y (sitofp .f32 (constantI S_ 32 0#32) : FVec Ideal S_ .f32) pads_S2048x1024_S2560x1024_51200_000 h_S_ (ix2 x e)
      = (Cert.Body.padA d x e : EReal) := by
  pointwise []
  have hz : (FloatOps.sitofp (F := Ideal) .f32 (0#32 : BitVec 32) : EReal) = 0 := by
    show (((0#32 : BitVec 32).toInt : ℝ) : EReal) = 0
    simp
  unfold Cert.Body.padA
  by_cases h : 512 ≤ x.val
  · rw [dif_pos ⟨h, by omega⟩, dif_pos h]; exact hy _ _
  · rw [dif_neg fun h' => h h'.1, dif_neg h]; exact hz
end pads

/-- The entries of an array as real numbers. -/
def re2 {n k : ℕ} (x : FVec Ideal ⟨2, ![n, k]⟩ .f32) (a : Fin n) (e : Fin k) : ℝ := (x (ix2 a e) : EReal).toReal

/-- The precondition at five arrays: every entry is a real number. -/
theorem reals (x0 x1 x2 : FVec Ideal ⟨2, ![2048, 1024]⟩ .f32) (x3 : FVec Ideal ⟨2, ![16, 257]⟩ .f32) (x4 : FVec Ideal ⟨2, ![2048, 1024]⟩ .f32)
    (h : @Cert.Pre_finite.fn Cert.Pre_finite.facts Ideal _ x0 x1 x2 x3 x4 = fun _ => 1#1) :
    (∀ a e, x0 (ix2 a e) = (re2 x0 a e : EReal)) ∧ (∀ a e, x1 (ix2 a e) = (re2 x1 a e : EReal))
      ∧ (∀ a e, x2 (ix2 a e) = (re2 x2 a e : EReal)) ∧ (∀ a e, x3 (ix2 a e) = (re2 x3 a e : EReal))
      ∧ (∀ a e, x4 (ix2 a e) = (re2 x4 a e : EReal)) := by
  haveI : Subsingleton Cert.Pre_finite.S_.Idx := ⟨fun a b => funext fun i => i.elim0⟩
  have e := congrFun h (fun i => i.elim0)
  unfold Cert.Pre_finite.fn Cert.Pre_finite.fn_part1 at e
  dsimp only [andi] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun a b => Cert.Fin.all_real x0 _ _ _ _ _ e0 _, fun a b => Cert.Fin.all_real x1 _ _ _ _ _ e1 _,
    fun a b => Cert.Fin.all_real x2 _ _ _ _ _ e2 _, fun a b => Cert.Fin.all_real x3 _ _ _ _ _ e3 _,
    fun a b => Cert.Fin.all_real x4 _ _ _ _ _ e4 _⟩

/-- The reference run ends with its arguments kept and all counters at zero. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

section
open Cert.KernelIdeal Cert.KernelIdeal.Gen

/-- The kernel's arguments, read as real numbers. -/
theorem args (m : (ℓ : Loc nD τ sig) → Buf (Elt Ideal) ℓ) (c : Dev nD)
    (h : Cert.Pre_KernelIdeal_finite (hPre_finite := Cert.Pre_finite.facts) m) :
    Cert.Body.Args m c (re2 (n := 2048) (k := 1024) (m ((c.tc : Thread nD τ).loc main_arg0)))
      (re2 (n := 2048) (k := 1024) (m ((c.tc : Thread nD τ).loc main_arg1))) (re2 (n := 2048) (k := 1024) (m ((c.tc : Thread nD τ).loc main_arg2)))
      (re2 (n := 2048) (k := 1024) (m ((c.tc : Thread nD τ).loc main_arg4))) (re2 (n := 16) (k := 257) (m ((c.tc : Thread nD τ).loc main_arg3))) := by
  obtain ⟨h0, h1, h2, h3, h4⟩ := reals _ _ _ _ _ (h c)
  exact ⟨h0, h1, h2, h3, h4⟩
end

/-- Two arrays of two axes agree when they agree at every pair of indices with one array of reals. -/
theorem same {n k : ℕ} (x y : FVec Ideal ⟨2, ![n, k]⟩ .f32) (d : Fin n → Fin k → ℝ) (hx : ∀ a e, x (ix2 a e) = (d a e : EReal))
    (hy : ∀ a e, y (ix2 a e) = (d a e : EReal)) : x = y := by
  funext i
  have hi := eq_ix2 i
  exact (congrArg x hi).trans (((hx (i 0) (i 1)).trans (hy (i 0) (i 1)).symm).trans (congrArg y hi).symm)

section refs
open Cert.ReferenceIdeal Cert.ReferenceIdeal.Gen Cert.ReferenceIdeal.Read
variable (m : (ℓ : Loc nD τ sig) → Buf (Elt Ideal) ℓ) (c : Dev nD) (x0 x1 x2 x4 : FVec Ideal S2048x1024 .f32) (x3 : FVec Ideal S16x257 .f32)
variable (q k v g : Arr) (r : Tab)
variable (a0 : m ((c.tc : Thread nD τ).loc main_arg0) = x0) (a1 : m ((c.tc : Thread nD τ).loc main_arg1) = x1)
  (a2 : m ((c.tc : Thread nD τ).loc main_arg2) = x2) (a3 : m ((c.tc : Thread nD τ).loc main_arg3) = x3)
  (a4 : m ((c.tc : Thread nD τ).loc main_arg4) = x4)
variable (hq : ∀ a e, x0 (ix2 a e) = (q a e : EReal)) (hk : ∀ a e, x1 (ix2 a e) = (k a e : EReal))
  (hv : ∀ a e, x2 (ix2 a e) = (v a e : EReal)) (hr : ∀ h j, x3 (ix2 h j) = (r h j : EReal)) (hg : ∀ a e, x4 (ix2 a e) = (g a e : EReal))
include a0 a1 a2 a3 a4 hq hk hv hr hg
/-- The reference's first result, the gradient of q. -/
theorem out0 (a : Fin 2048) (e : Fin 1024) : (Cert.ReferenceIdeal.Value.res_main_v93 (F := Ideal) m c : FVec Ideal S2048x1024 .f32) (ix2 a e) = (dq q k v g r a e : EReal) := by
  subst a0 a1 a2 a3 a4
  rw [val_main_v93_eq]
  exact Cert.Ref.dq_read _ _ _ _ _ _ _ _ _ _ hq hk hv hr hg a e
/-- The reference's second result, the gradient of k under 512 rows of zeros. -/
theorem out1 (a : Fin 2560) (e : Fin 1024) : (Cert.ReferenceIdeal.Value.res_main_v94 (F := Ideal) m c : FVec Ideal S2560x1024 .f32) (ix2 a e)
    = (Cert.Body.padA (dk q k v g r) a e : EReal) := by
  subst a0 a1 a2 a3 a4
  rw [val_main_v94_eq]
  exact pad_read _ _ (fun a e => Cert.Ref.dk_read _ _ _ _ _ _ _ _ _ _ hq hk hv hr hg a e) a e
omit a2 hv in
/-- The reference's third result, the gradient of v under 512 rows of zeros. -/
theorem out2 (a : Fin 2560) (e : Fin 1024) : (Cert.ReferenceIdeal.Value.res_main_v95 (F := Ideal) m c : FVec Ideal S2560x1024 .f32) (ix2 a e)
    = (Cert.Body.padA (dv q k g r) a e : EReal) := by
  subst a0 a1 a3 a4
  rw [val_main_v95_eq]
  exact pad_read _ _ (fun a e => Cert.Ref.dv_read _ _ _ _ _ _ _ _ hq hk hr hg a e) a e
end refs

/-- The value claim: dq and the padded dk and dv of the two programs are the same arrays. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hp hag
  refine ⟨Cert.KernelIdeal.Value.G5 m, Cert.KernelIdeal.Value.G6 m, Cert.KernelIdeal.Value.G7 m, ?_, ?_⟩
  · exact (θ_run Cert.KernelIdeal.defs _ _).mono
      (fun r h c => ⟨(h c).1, (h c).2.1, (h c).2.2.1, (h c).2.2.2.2⟩) (Cert.KernelIdeal.Value.run (F := Ideal) m ρ)
  · refine (θ_run Cert.ReferenceIdeal.defs _ _).mono (fun r h c => ?_) (Cert.ReferenceIdeal.Value.run (F := Ideal) m' ρ')
    obtain ⟨e0, e1, e2, ek⟩ := h c
    obtain ⟨a0, a1, a2, a3, a4⟩ := hag c
    have H := args m c hp
    obtain ⟨h0, h1, h2, h3, h4⟩ := reals _ _ _ _ _ (hp c)
    refine ⟨e0.trans (same (n := 2048) (k := 1024) _ _ _ ?_ (Cert.Body.G5_eq H)), e1.trans (same (n := 2560) (k := 1024) _ _ _ ?_ (Cert.Body.G6_eq H)),
      e2.trans (same (n := 2560) (k := 1024) _ _ _ ?_ (Cert.Body.G7_eq H)), ek⟩
    · exact out0 m' c _ _ _ _ _ _ _ _ _ _ a0 a1 a2 a3 a4 h0 h1 h2 h3 h4
    · exact out1 m' c _ _ _ _ _ _ _ _ _ _ a0 a1 a2 a3 a4 h0 h1 h2 h3 h4
    · exact out2 m' c _ _ _ _ _ _ _ _ a0 a1 a3 a4 h0 h1 h3 h4

end Cert.Final
-- ==== Proof.Cols.lean ====
module
public import Idealize.ShloMosaic.Lib.Pipeline.ValueKit.Point
public import Idealize.ShloMosaic.Lib.Claim
public import Idealize.ShloMosaic.Lib.IdealHost
/-! The columns of the hidden layer, cut by device, and the scalar identity of the gate's derivative. -/
@[expose] public section
noncomputable section
namespace Cert.Cols
open Idealize.ShloMosaic

/-- Column `c` of device `j`'s shard among the 2816 columns. -/
def col (j : Fin 8) (c : Fin 352) : Fin 2816 := ⟨352 * j.val + c.val, by omega⟩

/-- A sum over all columns is the sum over the devices of the sums over their shards. -/
theorem sum_cols {M : Type} [AddCommMonoid M] (f : Fin 2816 → M) : ∑ k, f k = ∑ j : Fin 8, ∑ c : Fin 352, f (col j c) := by
  rw [← Fintype.sum_prod_type', ← (finProdFinEquiv (m := 8) (n := 352)).sum_comp]
  refine Finset.sum_congr rfl fun p _ => congrArg f (Fin.ext ?_)
  show p.2.val + 352 * p.1.val = 352 * p.1.val + p.2.val
  omega

/-- An array's columns put by device: entry of shard `j`. -/
theorem cols_apply {α : Type} {n : ℕ} (x : (⟨2, ![n, 2816]⟩ : Shape).Idx → α) (h : Shape.ShapeCasts ⟨2, ![n, 2816]⟩ ⟨3, ![n, 8, 352]⟩)
    (h' : Shape.Transposes ⟨3, ![n, 8, 352]⟩ [1, 0, 2] ⟨3, ![8, n, 352]⟩) (j : Fin 8) (i : Fin n) (c : Fin 352) :
    transpose ⟨3, ![8, n, 352]⟩ [1, 0, 2] (shapeCast ⟨3, ![n, 8, 352]⟩ x h) h' (ix3 j i c) = x (ix2 i (col j c)) := by
  rw [transpose_apply [1, 0, 2] _ h' (ix3 j i c) (ix3 i j c) (fun b => match b with
    | ⟨0, _⟩ => rfl
    | ⟨1, _⟩ => rfl
    | ⟨2, _⟩ => rfl)]
  refine shapeCast_apply x h _ _ ?_
  rw [Shape.rowMajor_val_two, Shape.rowMajor_val_three]
  show i.val * 2816 + (352 * j.val + c.val) = (i.val * 8 + j.val) * 352 + c.val
  omega

/-- The rows of an array put by device. -/
theorem rows_apply {α : Type} (x : (⟨2, ![2816, 1024]⟩ : Shape).Idx → α) (h : Shape.ShapeCasts ⟨2, ![2816, 1024]⟩ ⟨3, ![8, 352, 1024]⟩)
    (j : Fin 8) (c : Fin 352) (k : Fin 1024) : shapeCast ⟨3, ![8, 352, 1024]⟩ x h (ix3 j c k) = x (ix2 (col j c) k) := by
  refine shapeCast_apply x h _ _ ?_
  rw [Shape.rowMajor_val_two, Shape.rowMajor_val_three]
  show (352 * j.val + c.val) * 1024 + k.val = (j.val * 352 + c.val) * 1024 + k.val
  omega

/-- The literal zero. -/
theorem zero_lit : Ideal.ofBits .f32 0x00000000#32 = 0 := by
  simp [Ideal.ofBits, Ideal.ieee, -EReal.coe_mul]
/-- The literal one. -/
theorem one_lit : Ideal.ofBits .f32 0x3F800000#32 = 1 := by
  exact Idealize.ShloMosaic.Ideal.ofBits_one_f32

/-- The logistic function, as both sides write it. -/
def sig (g : EReal) : EReal := Ideal.div 1 (1 + Ideal.exp (-g))

/-- The quotient rule's form of the gate's derivative is the logistic form, at every extended real. -/
theorem gate (g d : EReal) :
    d * Ideal.div 1 (1 + Ideal.exp (0 - g)) + (0 - (0 - g * d * Ideal.div 1 ((1 + Ideal.exp (0 - g)) * (1 + Ideal.exp (0 - g)))) * Ideal.exp (0 - g))
      = d * sig g + g * d * (sig g * (1 - sig g)) := by
  rw [zero_sub, zero_sub, zero_sub, EReal.neg_mul, neg_neg, mul_assoc (g * d)]
  have key : Ideal.div 1 ((1 + Ideal.exp (-g)) * (1 + Ideal.exp (-g))) * Ideal.exp (-g) = sig g * (1 - sig g) := by
    unfold sig
    induction g with
    | bot =>
      have h : (1 : EReal) + ⊤ = ⊤ := EReal.add_top_of_ne_bot (by decide)
      simp [Ideal.div, h]
    | top =>
      have h : (1 : EReal) - 1 = 0 := by rw [← EReal.coe_one, ← EReal.coe_sub, sub_self, EReal.coe_zero]
      simp [Ideal.div, h]
    | coe r =>
      have he : Ideal.exp (-(r : EReal)) = ((Real.exp (-r) : ℝ) : EReal) := rfl
      have hp := Real.exp_pos (-r)
      rw [he, ← EReal.coe_one, ← EReal.coe_add, ← EReal.coe_mul, Ideal.div_coe (by positivity), Ideal.div_coe (by positivity)]
      norm_cast
      field_simp
      ring
  rw [key]
  rfl

/-- A fold whose steps each add a part is the sum of the parts. -/
theorem fold_sum {α : Type} {M : Type} [AddCommMonoid M] {N : ℕ} (a : (n : ℕ) → n < N → α) (g : (n : ℕ) → n < N → α → α) (v : α → M) (P : ℕ → M) (b : ℕ)
    (J : ℕ) (h0 : ∀ h, v (a b h) = P b) (hs : ∀ n h x, b < n → n < b + J → v (g n h x) = v x + P n) :
    ∀ (j : ℕ) (h : b + j < N), j < J → v (Pipeline.accAt a g b j h) = ∑ i ∈ Finset.range (j + 1), P (b + i)
  | 0, h, _ => by
    rw [Finset.sum_range_one]
    exact h0 h
  | j + 1, h, hj => by
    rw [Finset.sum_range_succ, ← fold_sum a g v P b J h0 hs j (Nat.lt_of_succ_lt h) (by omega)]
    exact hs _ h _ (by omega) (by omega)

/-- A part for each of eight devices, indexed by any number. -/
def part {M : Type} [AddCommMonoid M] (f : Fin 8 → M) (n : ℕ) : M := if h : n < 8 then f ⟨n, h⟩ else 0
/-- The eight parts together. -/
theorem sum_part {M : Type} [AddCommMonoid M] (f : Fin 8 → M) : ∑ n ∈ Finset.range 8, part f n = ∑ j, f j := by
  rw [Finset.sum_range]
  refine Finset.sum_congr rfl fun j _ => ?_
  exact dif_pos j.isLt

/-- A part of a fold's state that every eighth step sets and the steps between keep. -/
theorem fold_carry {α M : Type} {N : ℕ} (a : (n : ℕ) → n < N → α) (g : (n : ℕ) → n < N → α → α) (v : α → M) (Q : ℕ → M)
    (h0 : ∀ h, v (a 0 h) = Q 0) (h1 : ∀ n h x, n % 8 = 0 → v (g n h x) = Q (n / 8)) (h2 : ∀ n h x, ¬n % 8 = 0 → v (g n h x) = v x) :
    ∀ (j : ℕ) (h : 0 + j < N), v (Pipeline.accAt a g 0 j h) = Q (j / 8)
  | 0, h => h0 h
  | j + 1, h => by
    have hj : 0 + (j + 1) = j + 1 := Nat.zero_add _
    show v (g (0 + (j + 1)) h (Pipeline.accAt a g 0 j _)) = _
    by_cases hm : (j + 1) % 8 = 0
    · rw [h1 _ _ _ (by rw [hj]; exact hm), hj]
    · rw [h2 _ _ _ (by rw [hj]; exact hm), fold_carry a g v Q h0 h1 h2 j]
      exact congrArg Q (by omega)

/-- A part of a fold's state that every eighth step starts anew and the steps between add to, read before the eighth adds. -/
theorem fold_groups {α M : Type} [AddCommMonoid M] {N : ℕ} (a : (n : ℕ) → n < N → α) (g : (n : ℕ) → n < N → α → α) (v : α → M) (P : ℕ → M)
    (h0 : ∀ h, v (a 0 h) = P 0) (h1 : ∀ n h x, n % 8 = 0 → v (g n h x) = P n) (h2 : ∀ n h x, ¬n % 8 = 0 → ¬n % 8 = 7 → v (g n h x) = v x + P n) :
    ∀ (j : ℕ) (h : 0 + j < N), ¬j % 8 = 7 → v (Pipeline.accAt a g 0 j h) = ∑ i ∈ Finset.range (j % 8 + 1), P (8 * (j / 8) + i)
  | 0, h, _ => by
    rw [Nat.zero_mod, Finset.sum_range_one]
    exact h0 h
  | j + 1, h, h7 => by
    have hj : 0 + (j + 1) = j + 1 := Nat.zero_add _
    show v (g (0 + (j + 1)) h (Pipeline.accAt a g 0 j _)) = _
    by_cases hm : (j + 1) % 8 = 0
    · rw [h1 _ _ _ (by rw [hj]; exact hm), hj, hm, Finset.sum_range_one]
      exact congrArg P (by omega)
    · rw [h2 _ _ _ (by rw [hj]; exact hm) (by rw [hj]; exact h7), fold_groups a g v P h0 h1 h2 j _ (by omega), hj,
        show (j + 1) % 8 = j % 8 + 1 by omega, show (j + 1) / 8 = j / 8 by omega, Finset.sum_range_succ _ (j % 8 + 1)]
      exact congrArg (fun z => _ + P z) (by omega)

end Cert.Cols
-- ==== Proof.Dh.lean ====
module
public import proofs.«01_k».proof.Proof.Gen.Kernel2Ideal.Value
public import proofs.«01_k».proof.Proof.Gen.Reference2Ideal.Read
public import proofs.«01_k».proof.Proof.Cols
/-! What the call for the gradient of the gate leaves in its results, block by block. -/
@[expose] public section
noncomputable section
namespace Cert.Dh
open Idealize.ShloMosaic Idealize.SL.Sem Cert.Cols Cert.Kernel2Ideal Cert.Kernel2Ideal.Gen

section body
variable {F : FTy → Type} [FloatOps F]
variable (c : Dev nD) (i : grid0.Coords) (arg3 : Memref sig .tc .vmem S2048x1024 .f32) (harg3 : arg3.IsWhole) (arg4 : Memref sig .tc .vmem S1x352x1024 .bf16) (harg4 : arg4.IsWhole) (arg5 : Memref sig .tc .vmem S1x2048x352 .bf16) (harg5 : arg5.IsWhole) (arg6 : Memref sig .tc .vmem S1x2048x352 .bf16) (harg6 : arg6.IsWhole) (arg7 : Memref sig .tc .vmem S1x2048x352 .bf16) (harg7 : arg7.IsWhole) (arg8 : Memref sig .tc .vmem S1x2048x352 .bf16) (harg8 : arg8.IsWhole) (arg9 : Memref sig .tc .vmem S2048x352 .f32) (harg9 : arg9.IsWhole) (hc0 : cond0_0 i) (hc1 : cond0_1 i)
    (x0 : Vec F S2048x1024 .f32) (x1 : Vec F S1x352x1024 .bf16) (x2 : Vec F S1x2048x352 .bf16) (x3 : Vec F S1x2048x352 .bf16)

/-- What a point leaves of the first result. -/
theorem out4 : out0_A_4 c i arg3 harg3 arg4 harg4 arg5 harg5 arg6 harg6 arg7 harg7 arg8 harg8 arg9 harg9 hc0 hc1 x0 x1 x2 x3
    = k0_pay8 x2 x3 (k0_pay2 k0_pay1 x0 x1) := by
  unfold out0_A_4
  rw [View.read_writes_junk_eq_canon]
  unfold kernelRun0_A
  refine (View.canon_unit_zero (by decide) _ _).trans ?_
  sl_unfold_words
  simp only [View.readAt_eq_ld, harg3.read_unread, harg4.read_unread, harg5.read_unread, harg6.read_unread]
  simp only [View.readCov_cons_toLoadRect]
  simp only [View.ld_unit_zero (S := S2048x1024) (off := ![0, 0]) (by decide), View.ld_unit_zero (S := S1x352x1024) (off := ![0, 0, 0]) (by decide), View.ld_unit_zero (S := S1x2048x352) (off := ![0, 0, 0]) (by decide)]

/-- What a point leaves of the second result. -/
theorem out5 : out0_A_5 c i arg3 harg3 arg4 harg4 arg5 harg5 arg6 harg6 arg7 harg7 arg8 harg8 arg9 harg9 hc0 hc1 x0 x1 x2 x3
    = k0_pay3 (k0_pay9 x2 (k0_pay2 k0_pay1 x0 x1)) := by
  unfold out0_A_5
  rw [View.read_writes_junk_eq_canon]
  unfold kernelRun0_A
  refine (View.canon_unit_zero (by decide) _ _).trans ?_
  sl_unfold_words
  simp only [View.readAt_eq_ld, harg3.read_unread, harg4.read_unread, harg5.read_unread, harg6.read_unread]
  simp only [View.readCov_cons_toLoadRect]
  simp only [View.ld_unit_zero (S := S2048x1024) (off := ![0, 0]) (by decide), View.ld_unit_zero (S := S1x352x1024) (off := ![0, 0, 0]) (by decide), View.ld_unit_zero (S := S1x2048x352) (off := ![0, 0, 0]) (by decide)]
end body

/-! ## Entries -/

/-- An entry of the product of the output's gradient and the transposed weights. -/
theorem prod_apply (x0 : Vec Ideal S2048x1024 .f32) (x1 : Vec Ideal S1x352x1024 .bf16) (i : Fin 2048) (q : Fin 352) :
    k0_pay2 (F := Ideal) (k0_pay1 (F := Ideal)) x0 x1 (ix2 i q) = ∑ k : Fin 1024, (x0 (ix2 i k) : EReal) * x1 (ix3 (0 : Fin 1) q k) := by
  pointwise [k0_pay2, k0_pay1]

/-- An entry of the first result's block. -/
theorem pay8_apply (x2 x3 : Vec Ideal S1x2048x352 .bf16) (w : Vec Ideal S2048x352 .f32) (i : Fin 2048) (q : Fin 352) :
    k0_pay8 (F := Ideal) x2 x3 w (ix3 (0 : Fin 1) i q)
      = w (ix2 i q) * x3 (ix3 0 i q) * sig (x2 (ix3 0 i q)) + x2 (ix3 0 i q) * (w (ix2 i q) * x3 (ix3 0 i q)) * (sig (x2 (ix3 0 i q)) * (1 - sig (x2 (ix3 0 i q)))) := by
  pointwise [k0_pay8, k0_pay7, k0_pay6, k0_pay5, k0_pay4]
  exact gate _ _

/-- An entry of the second result's block. -/
theorem pay9_apply (x2 : Vec Ideal S1x2048x352 .bf16) (w : Vec Ideal S2048x352 .f32) (i : Fin 2048) (q : Fin 352) :
    k0_pay3 (F := Ideal) (k0_pay9 x2 w) (ix3 (0 : Fin 1) i q) = x2 (ix3 0 i q) * sig (x2 (ix3 0 i q)) * w (ix2 i q) := by
  pointwise [k0_pay3, k0_pay9, k0_pay7, k0_pay6, k0_pay5, k0_pay4]
  rw [zero_sub]
  rfl

/-! ## The windows' blocks -/

variable (m : (ℓ : Loc nD τ sig) → Buf (Elt Ideal) ℓ) (d : Dev nD)

/-- The gate's columns as the region finds them. -/
theorem V_v1 : (V m d main_v1 : FVec Ideal S8x2048x352 .bf16) = transpose S8x2048x352 [1, 0, 2]
    (shapeCast S2048x8x352 (m (d, Proc.tc.devRef main_arg0) : FVec Ideal S2048x2816 .bf16) shapeCasts_S2048x2816_S2048x8x352) transposes_S2048x8x352_S8x2048x352_1_0_2 := by
  simp only [V, hostOps0, StableHlo.after_cons, StableHlo.after_nil]
  rfl
/-- The columns of the factor beside the gate as the region finds them. -/
theorem V_v3 : (V m d main_v3 : FVec Ideal S8x2048x352 .bf16) = transpose S8x2048x352 [1, 0, 2]
    (shapeCast S2048x8x352 (m (d, Proc.tc.devRef main_arg1) : FVec Ideal S2048x2816 .bf16) shapeCasts_S2048x2816_S2048x8x352) transposes_S2048x8x352_S8x2048x352_1_0_2 := by
  simp only [V, hostOps0, StableHlo.after_cons, StableHlo.after_nil]
  rfl
/-- The weights' rows by device as the region finds them. -/
theorem V_v4 : (V m d main_v4 : FVec Ideal S8x352x1024 .bf16)
    = shapeCast S8x352x1024 (m (d, Proc.tc.devRef main_arg2) : FVec Ideal S2816x1024 .bf16) shapeCasts_S2816x1024_S8x352x1024 := by
  simp only [V, hostOps0, StableHlo.after_cons, StableHlo.after_nil]
  rfl

/-- The output gradient's block is the whole array. -/
theorem index0 : ∀ t : Fin cfg0.N, win0_0.index t 0 = 0 ∧ win0_0.index t 1 = 0 := by decide +kernel
/-- The weights' block of a step. -/
theorem index1 : ∀ t : Fin cfg0.N, win0_1.index t 0 = t.val ∧ win0_1.index t 1 = 0 ∧ win0_1.index t 2 = 0 := by decide +kernel
/-- The gate's block of a step. -/
theorem index2 : ∀ t : Fin cfg0.N, win0_2.index t 0 = t.val ∧ win0_2.index t 1 = 0 ∧ win0_2.index t 2 = 0 := by decide +kernel
/-- The other factor's block of a step. -/
theorem index3 : ∀ t : Fin cfg0.N, win0_3.index t 0 = t.val ∧ win0_3.index t 1 = 0 ∧ win0_3.index t 2 = 0 := by decide +kernel
/-- The first result's block of a step. -/
theorem index4 : ∀ t : Fin cfg0.N, win0_4.index t 0 = t.val ∧ win0_4.index t 1 = 0 ∧ win0_4.index t 2 = 0 := by decide +kernel
/-- The second result's block of a step. -/
theorem index5 : ∀ t : Fin cfg0.N, win0_5.index t 0 = t.val ∧ win0_5.index t 1 = 0 ∧ win0_5.index t 2 = 0 := by decide +kernel
/-- Every step writes its block of the first result back. -/
theorem flush4 : ∀ t : Fin cfg0.N, (cfg0.win 4).flush t = true := by decide +kernel
/-- Every step writes its block of the second result back. -/
theorem flush5 : ∀ t : Fin cfg0.N, (cfg0.win 5).flush t = true := by decide +kernel

/-- The step of a device's shard. -/
def step (j : Fin 8) : Fin cfg0.N := ⟨j.val, lt_of_lt_of_eq j.isLt N_0.symm⟩

/-- An entry of the output gradient's block. -/
theorem iblk0 (t : Fin cfg0.N) (i : Fin 2048) (k : Fin 1024) : (iblk m d 0 t : Vec Ideal S2048x1024 .f32) (ix2 i k)
    = (m (d, Proc.tc.devRef main_arg3) : FVec Ideal S2048x1024 .f32) (ix2 i k) := by
  unfold iblk
  rw [View.read_apply]
  refine (congrFun (V_main_arg3 m d) _).trans (congrArg (m (d, Proc.tc.devRef main_arg3) : FVec Ideal S2048x1024 .f32) (funext fun a => Fin.ext ?_))
  have hi := index0 t
  match a with
  | ⟨0, _⟩ => show win0_0.index t 0 * 2048 + 1 * i.val = i.val; rw [hi.1]; omega
  | ⟨1, _⟩ => show win0_0.index t 1 * 1024 + 1 * k.val = k.val; rw [hi.2]; omega
/-- An entry of the weights' block. -/
theorem iblk1 (j : Fin 8) (q : Fin 352) (k : Fin 1024) : (iblk m d 1 (step j) : Vec Ideal S1x352x1024 .bf16) (ix3 (0 : Fin 1) q k)
    = (m (d, Proc.tc.devRef main_arg2) : FVec Ideal S2816x1024 .bf16) (ix2 (col j q) k) := by
  unfold iblk
  rw [View.read_apply]
  refine (congrArg (V m d main_v4 : FVec Ideal S8x352x1024 .bf16) (funext fun a => Fin.ext ?_ : _ = ix3 j q k)).trans ?_
  · have hi := index1 (step j)
    match a with
    | ⟨0, _⟩ => show win0_1.index (step j) 0 * 1 + 1 * 0 = j.val; rw [hi.1]; show j.val * 1 + 1 * 0 = j.val; omega
    | ⟨1, _⟩ => show win0_1.index (step j) 1 * 352 + 1 * q.val = q.val; rw [hi.2.1]; omega
    | ⟨2, _⟩ => show win0_1.index (step j) 2 * 1024 + 1 * k.val = k.val; rw [hi.2.2]; omega
  · rw [V_v4]
    exact rows_apply _ _ j q k
/-- An entry of the gate's block. -/
theorem iblk2 (j : Fin 8) (i : Fin 2048) (q : Fin 352) : (iblk m d 2 (step j) : Vec Ideal S1x2048x352 .bf16) (ix3 (0 : Fin 1) i q)
    = (m (d, Proc.tc.devRef main_arg0) : FVec Ideal S2048x2816 .bf16) (ix2 i (col j q)) := by
  unfold iblk
  rw [View.read_apply]
  refine (congrArg (V m d main_v1 : FVec Ideal S8x2048x352 .bf16) (funext fun a => Fin.ext ?_ : _ = ix3 j i q)).trans ?_
  · have hi := index2 (step j)
    match a with
    | ⟨0, _⟩ => show win0_2.index (step j) 0 * 1 + 1 * 0 = j.val; rw [hi.1]; show j.val * 1 + 1 * 0 = j.val; omega
    | ⟨1, _⟩ => show win0_2.index (step j) 1 * 2048 + 1 * i.val = i.val; rw [hi.2.1]; omega
    | ⟨2, _⟩ => show win0_2.index (step j) 2 * 352 + 1 * q.val = q.val; rw [hi.2.2]; omega
  · rw [V_v1]
    exact cols_apply _ _ _ j i q
/-- An entry of the other factor's block. -/
theorem iblk3 (j : Fin 8) (i : Fin 2048) (q : Fin 352) : (iblk m d 3 (step j) : Vec Ideal S1x2048x352 .bf16) (ix3 (0 : Fin 1) i q)
    = (m (d, Proc.tc.devRef main_arg1) : FVec Ideal S2048x2816 .bf16) (ix2 i (col j q)) := by
  unfold iblk
  rw [View.read_apply]
  refine (congrArg (V m d main_v3 : FVec Ideal S8x2048x352 .bf16) (funext fun a => Fin.ext ?_ : _ = ix3 j i q)).trans ?_
  · have hi := index3 (step j)
    match a with
    | ⟨0, _⟩ => show win0_3.index (step j) 0 * 1 + 1 * 0 = j.val; rw [hi.1]; show j.val * 1 + 1 * 0 = j.val; omega
    | ⟨1, _⟩ => show win0_3.index (step j) 1 * 2048 + 1 * i.val = i.val; rw [hi.2.1]; omega
    | ⟨2, _⟩ => show win0_3.index (step j) 2 * 352 + 1 * q.val = q.val; rw [hi.2.2]; omega
  · rw [V_v3]
    exact cols_apply _ _ _ j i q

/-! ## The two results -/

/-- The gradient at the gated factor: an entry of `dy · wᵀ`. -/
def dh (w : FVec Ideal S2816x1024 .bf16) (dy : FVec Ideal S2048x1024 .f32) (i : Fin 2048) (k : Fin 2816) : EReal :=
  ∑ e : Fin 1024, (dy (ix2 i e) : EReal) * w (ix2 k e)
/-- The gradient of the gate. -/
def dg (g u : FVec Ideal S2048x2816 .bf16) (w : FVec Ideal S2816x1024 .bf16) (dy : FVec Ideal S2048x1024 .f32) (i : Fin 2048) (k : Fin 2816) : EReal :=
  dh w dy i k * u (ix2 i k) * sig (g (ix2 i k)) + g (ix2 i k) * (dh w dy i k * u (ix2 i k)) * (sig (g (ix2 i k)) * (1 - sig (g (ix2 i k))))
/-- The gradient of the factor beside the gate. -/
def du (g : FVec Ideal S2048x2816 .bf16) (w : FVec Ideal S2816x1024 .bf16) (dy : FVec Ideal S2048x1024 .f32) (i : Fin 2048) (k : Fin 2816) : EReal :=
  g (ix2 i k) * sig (g (ix2 i k)) * dh w dy i k

/-- The first result's array, entry by entry. -/
theorem arr4 (j : Fin 8) (i : Fin 2048) (q : Fin 352) : ((dats m 0 d).arrAt 4 cfg0.N : FVec Ideal S8x2048x352 .bf16) (ix3 j i q)
    = dg (m (d, Proc.tc.devRef main_arg0)) (m (d, Proc.tc.devRef main_arg1)) (m (d, Proc.tc.devRef main_arg2)) (m (d, Proc.tc.devRef main_arg3)) i (col j q) := by
  have h := congrFun (Cert.Kernel2Ideal.Value.blocks4 m d (step j) (flush4 _)) (ix3 (0 : Fin 1) i q)
  rw [View.read_apply, Cert.Kernel2Ideal.Value.flushed4_A, out4] at h
  refine ((congrArg ((dats m 0 d).arrAt 4 cfg0.N : FVec Ideal S8x2048x352 .bf16) (funext fun a => Fin.ext ?_)).trans h).trans ?_
  · have hi := index4 (step j)
    match a with
    | ⟨0, _⟩ => show j.val = win0_4.index (step j) 0 * 1 + 1 * 0; rw [hi.1]; show j.val = j.val * 1 + 1 * 0; omega
    | ⟨1, _⟩ => show i.val = win0_4.index (step j) 1 * 2048 + 1 * i.val; rw [hi.2.1]; omega
    | ⟨2, _⟩ => show q.val = win0_4.index (step j) 2 * 352 + 1 * q.val; rw [hi.2.2]; omega
  · refine (pay8_apply _ _ _ i q).trans ?_
    rw [prod_apply]
    simp only [iblk0, iblk1, iblk2, iblk3]
    rfl
/-- The second result's array, entry by entry. -/
theorem arr5 (j : Fin 8) (i : Fin 2048) (q : Fin 352) : ((dats m 0 d).arrAt 5 cfg0.N : FVec Ideal S8x2048x352 .bf16) (ix3 j i q)
    = du (m (d, Proc.tc.devRef main_arg0)) (m (d, Proc.tc.devRef main_arg2)) (m (d, Proc.tc.devRef main_arg3)) i (col j q) := by
  have h := congrFun (Cert.Kernel2Ideal.Value.blocks5 m d (step j) (flush5 _)) (ix3 (0 : Fin 1) i q)
  rw [View.read_apply, Cert.Kernel2Ideal.Value.flushed5_A, out5] at h
  refine ((congrArg ((dats m 0 d).arrAt 5 cfg0.N : FVec Ideal S8x2048x352 .bf16) (funext fun a => Fin.ext ?_)).trans h).trans ?_
  · have hi := index5 (step j)
    match a with
    | ⟨0, _⟩ => show j.val = win0_5.index (step j) 0 * 1 + 1 * 0; rw [hi.1]; show j.val = j.val * 1 + 1 * 0; omega
    | ⟨1, _⟩ => show i.val = win0_5.index (step j) 1 * 2048 + 1 * i.val; rw [hi.2.1]; omega
    | ⟨2, _⟩ => show q.val = win0_5.index (step j) 2 * 352 + 1 * q.val; rw [hi.2.2]; omega
  · refine (pay9_apply _ _ i q).trans ?_
    rw [prod_apply]
    simp only [iblk0, iblk1, iblk2]
    rfl

end Cert.Dh
-- ==== Proof.DhValue.lean ====
module
public import proofs.«01_k».proof.Defs
public import proofs.«01_k».proof.Proof.Dh
public import Idealize.ShloMosaic.Adequacy
public import Idealize.ShloMosaic.Init
/-! The value claim of the gate's gradient: both programs hold the same entries. -/
@[expose] public section
noncomputable section
namespace Cert.Dh
open Idealize.ShloMosaic Idealize.SL.Sem Cert.Cols

section ref
open Cert.Reference2Ideal Cert.Reference2Ideal.Gen Cert.Reference2Ideal.Read
variable (x0 x1 : FVec Ideal S2048x2816 .bf16) (x2 : FVec Ideal S2816x1024 .bf16) (x3 : FVec Ideal S2048x1024 .f32)

/-- The reference's gradient at the gated factor. -/
theorem ref_dh (i : Fin 2048) (k : Fin 2816) : val_main_v6 (F := Ideal) x2 x3 (ix2 i k) = dh x2 x3 i k := by
  rw [val_main_v6_apply]
  refine Finset.sum_congr rfl fun e _ => ?_
  rw [val_main_v4_apply]
  refine congrArg₂ (fun a b : EReal => a * b) (congrArg x3 (eq_ix2 _)) (congrArg x2 (eq_ix2 _))
/-- The reference's logistic factor. -/
theorem ref_sig (i : Fin 2048) (k : Fin 2816) : val_main_v1_2 (F := Ideal) x0 (ix2 i k) = sig (x0 (ix2 i k)) := by
  pointwise [val_main_v1_2, val_main_call0_v4, val_main_call0_cst_0, val_main_call0_v3, val_main_call0_v2, val_main_call0_cst, val_main_call0_v1, val_main_call0_v0, val_main_v0]
  rfl
/-- The reference's gradient of the gate, before it is put by device. -/
theorem ref_dg (i : Fin 2048) (k : Fin 2816) : val_main_v11 (F := Ideal) x0 x1 x2 x3 (ix2 i k) = dg x0 x1 x2 x3 i k := by
  rw [val_main_v11_apply, val_main_v10_apply, val_main_call1_v1_apply, val_main_call1_v2_apply, val_main_call1_v0_apply, val_main_v8_apply,
    val_main_v1_1_apply, val_main_call0_v7_apply, ref_dh, ref_sig, val_main_v0_apply, val_main_v2_apply]
  have h1 : val_main_call0_v6 (F := Ideal) (ix2 i k) = 1 := by
    pointwise [val_main_call0_v6, val_main_call0_cst_1]
  rw [h1]
  rfl
/-- The reference's gradient of the other factor, before it is put by device. -/
theorem ref_du (i : Fin 2048) (k : Fin 2816) : val_main_v9 (F := Ideal) x0 x2 x3 (ix2 i k) = du x0 x2 x3 i k := by
  rw [val_main_v9_apply, val_main_v7_apply, val_main_v1_0_apply, ref_dh, ref_sig, val_main_v0_apply]
  rfl
/-- The reference's first result. -/
theorem ref13 (j : Fin 8) (i : Fin 2048) (q : Fin 352) : val_main_v13 (F := Ideal) x0 x1 x2 x3 (ix3 j i q) = dg x0 x1 x2 x3 i (col j q) := by
  unfold val_main_v13 val_main_v12
  exact (cols_apply _ _ _ j i q).trans (ref_dg _ _ _ _ _ _)
/-- The reference's second result. -/
theorem ref15 (j : Fin 8) (i : Fin 2048) (q : Fin 352) : val_main_v15 (F := Ideal) x0 x2 x3 (ix3 j i q) = du x0 x2 x3 i (col j q) := by
  unfold val_main_v15 val_main_v14
  exact (cols_apply _ _ _ j i q).trans (ref_du _ _ _ _ _)
end ref

/-- The reference run ends with its arguments kept and all counters at zero. -/
theorem frame_ref : Cert.quiescent_Reference2Ideal (hReference2Ideal := Cert.Reference2Ideal.Gen.facts) := by
  intro m ρ _
  exact (θ_run Cert.Reference2Ideal.defs _ _).mono (fun r h => ⟨fun c => (h c).2.2, sem_eq_zero_of_no_sems (by decide) r.2⟩)
    (Cert.Reference2Ideal.Value.run (F := Ideal) m ρ)

/-- Two arrays put by device agree when they hold the same entries. -/
theorem same (x y : FVec Ideal ⟨3, ![8, 2048, 352]⟩ .bf16) (f : Fin 2048 → Fin 2816 → EReal) (hx : ∀ j i q, x (ix3 j i q) = f i (col j q))
    (hy : ∀ j i q, y (ix3 j i q) = f i (col j q)) : x = y := by
  funext i
  have hi := eq_ix3 i
  exact (congrArg x hi).trans (((hx _ _ _).trans (hy _ _ _).symm).trans (congrArg y hi).symm)

section out
open Cert.Reference2Ideal Cert.Reference2Ideal.Gen Cert.Reference2Ideal.Read
variable (m : (ℓ : Loc nD τ sig) → Buf (Elt Ideal) ℓ) (c : Dev nD) (x0 x1 : FVec Ideal S2048x2816 .bf16) (x2 : FVec Ideal S2816x1024 .bf16) (x3 : FVec Ideal S2048x1024 .f32)
variable (a0 : m ((c.tc : Thread nD τ).loc main_arg0) = x0) (a1 : m ((c.tc : Thread nD τ).loc main_arg1) = x1)
  (a2 : m ((c.tc : Thread nD τ).loc main_arg2) = x2) (a3 : m ((c.tc : Thread nD τ).loc main_arg3) = x3)
include a0 a1 a2 a3
/-- The reference's first result, the gradient of the gate. -/
theorem out13 (j : Fin 8) (i : Fin 2048) (q : Fin 352) : val_main_v13 (F := Ideal) (m ((c.tc : Thread nD τ).loc main_arg0)) (m ((c.tc : Thread nD τ).loc main_arg1)) (m ((c.tc : Thread nD τ).loc main_arg2)) (m ((c.tc : Thread nD τ).loc main_arg3)) (ix3 j i q)
    = dg x0 x1 x2 x3 i (col j q) := by
  subst a0 a1 a2 a3
  exact ref13 _ _ _ _ j i q
omit a1 in
/-- The reference's second result, the gradient of the other factor. -/
theorem out15 (j : Fin 8) (i : Fin 2048) (q : Fin 352) : val_main_v15 (F := Ideal) (m ((c.tc : Thread nD τ).loc main_arg0)) (m ((c.tc : Thread nD τ).loc main_arg2)) (m ((c.tc : Thread nD τ).loc main_arg3)) (ix3 j i q)
    = du x0 x2 x3 i (col j q) := by
  subst a0 a2 a3
  exact ref15 _ _ _ j i q
end out

/-- The value claim: the gradients of the gate and of the other factor are the same arrays in both programs. -/
theorem value : Cert.algebraic_Kernel2Ideal_Reference2Ideal (hKernel2Ideal := Cert.Kernel2Ideal.Gen.facts) (hReference2Ideal := Cert.Reference2Ideal.Gen.facts) := by
  intro m ρ m' ρ' _ hag
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N, ?_, ?_⟩
  · exact Cert.Kernel2Ideal.Value.run_blocks (F := Ideal) m ρ
  · refine (θ_run Cert.Reference2Ideal.defs _ _).mono (fun r h c => ?_) (Cert.Reference2Ideal.Value.run (F := Ideal) m' ρ')
    obtain ⟨e0, e1, ek⟩ := h c
    obtain ⟨a0, a1, a2, a3⟩ := hag c
    exact ⟨e0.trans ((Cert.Reference2Ideal.Read.val_main_v13_eq _ _ _ _).trans (same _ _ _ (out13 m' c _ _ _ _ a0 a1 a2 a3) (arr4 m c))), e1.trans ((Cert.Reference2Ideal.Read.val_main_v15_eq _ _ _).trans (same _ _ _ (out15 m' c _ _ _ a0 a2 a3) (arr5 m c))), ek⟩

end Cert.Dh
-- ==== Proof.Dw.lean ====
module
public import proofs.«01_k».proof.Proof.Gen.Kernel3Ideal.Value
public import proofs.«01_k».proof.Proof.Gen.Reference3Ideal.Read
public import proofs.«01_k».proof.Proof.Cols
/-! What the call for the gradient of the output weights leaves in its result, block by block. -/
@[expose] public section
noncomputable section
namespace Cert.Dw
open Idealize.ShloMosaic Idealize.SL.Sem Cert.Cols Cert.Kernel3Ideal Cert.Kernel3Ideal.Gen

section body
variable {F : FTy → Type} [FloatOps F]
variable (c : Dev nD) (i : grid0.Coords) (arg3 : Memref sig .tc .vmem S1x2048x352 .bf16) (harg3 : arg3.IsWhole) (arg4 : Memref sig .tc .vmem S1x2048x352 .bf16) (harg4 : arg4.IsWhole) (arg5 : Memref sig .tc .vmem S2048x512 .f32) (harg5 : arg5.IsWhole) (arg6 : Memref sig .tc .vmem S1x352x512 .bf16) (harg6 : arg6.IsWhole) (arg7 : Memref sig .tc .vmem S352x512 .f32) (harg7 : arg7.IsWhole) (hc0 : cond0_0 i) (hc1 : cond0_1 i)
    (x0 : Vec F S1x2048x352 .bf16) (x1 : Vec F S1x2048x352 .bf16) (x2 : Vec F S2048x512 .f32)

/-- What a point leaves of the result. -/
theorem out3 : out0_A_3 c i arg3 harg3 arg4 harg4 arg5 harg5 arg6 harg6 arg7 harg7 hc0 hc1 x0 x1 x2
    = k0_pay3 (k0_pay2 k0_pay1 x0 x1 x2) := by
  unfold out0_A_3
  rw [View.read_writes_junk_eq_canon]
  unfold kernelRun0_A
  refine (View.canon_unit_zero (by decide) _ _).trans ?_
  sl_unfold_words
  simp only [View.readAt_eq_ld, harg3.read_unread, harg4.read_unread, harg5.read_unread]
  simp only [View.readCov_cons_toLoadRect]
  simp only [View.ld_unit_zero (S := S1x2048x352) (off := ![0, 0, 0]) (by decide), View.ld_unit_zero (S := S2048x512) (off := ![0, 0]) (by decide)]
end body

/-! ## Entries -/

/-- An entry of the result's block. -/
theorem pay3_apply (x0 x1 : Vec Ideal S1x2048x352 .bf16) (x2 : Vec Ideal S2048x512 .f32) (q : Fin 352) (e : Fin 512) :
    k0_pay3 (F := Ideal) (k0_pay2 (F := Ideal) (k0_pay1 (F := Ideal)) x0 x1 x2) (ix3 (0 : Fin 1) q e)
      = ∑ i : Fin 2048, (x0 (ix3 0 i q) * sig (x0 (ix3 0 i q)) * x1 (ix3 0 i q)) * (x2 (ix2 i e) : EReal) := by
  pointwise [k0_pay3, k0_pay2, k0_pay1]
  simp only [zero_sub]
  rfl

/-! ## The windows' blocks -/

variable (m : (ℓ : Loc nD τ sig) → Buf (Elt Ideal) ℓ) (d : Dev nD)

/-- The gate's columns as the region finds them. -/
theorem V_v1 : (V m d main_v1 : FVec Ideal S8x2048x352 .bf16) = transpose S8x2048x352 [1, 0, 2]
    (shapeCast S2048x8x352 (m (d, Proc.tc.devRef main_arg0) : FVec Ideal S2048x2816 .bf16) shapeCasts_S2048x2816_S2048x8x352) transposes_S2048x8x352_S8x2048x352_1_0_2 := by
  simp only [V, hostOps0, StableHlo.after_cons, StableHlo.after_nil]
  rfl
/-- The columns of the factor beside the gate as the region finds them. -/
theorem V_v3 : (V m d main_v3 : FVec Ideal S8x2048x352 .bf16) = transpose S8x2048x352 [1, 0, 2]
    (shapeCast S2048x8x352 (m (d, Proc.tc.devRef main_arg1) : FVec Ideal S2048x2816 .bf16) shapeCasts_S2048x2816_S2048x8x352) transposes_S2048x8x352_S8x2048x352_1_0_2 := by
  simp only [V, hostOps0, StableHlo.after_cons, StableHlo.after_nil]
  rfl
/-- The gate's block of a step. -/
theorem index0 : ∀ t : Fin cfg0.N, win0_0.index t 0 = t.val / 2 ∧ win0_0.index t 1 = 0 ∧ win0_0.index t 2 = 0 := by decide +kernel
/-- The other factor's block of a step. -/
theorem index1 : ∀ t : Fin cfg0.N, win0_1.index t 0 = t.val / 2 ∧ win0_1.index t 1 = 0 ∧ win0_1.index t 2 = 0 := by decide +kernel
/-- The output gradient's block of a step. -/
theorem index2 : ∀ t : Fin cfg0.N, win0_2.index t 0 = 0 ∧ win0_2.index t 1 = t.val % 2 := by decide +kernel
/-- The result's block of a step. -/
theorem index3 : ∀ t : Fin cfg0.N, win0_3.index t 0 = t.val / 2 ∧ win0_3.index t 1 = 0 ∧ win0_3.index t 2 = t.val % 2 := by decide +kernel
/-- Every step writes its block of the result back. -/
theorem flush3 : ∀ t : Fin cfg0.N, (cfg0.win 3).flush t = true := by decide +kernel

/-- The step of a device's shard and a half of the output's columns. -/
def step (j : Fin 8) (b : Fin 2) : Fin cfg0.N := ⟨2 * j.val + b.val, lt_of_lt_of_eq (by omega) N_0.symm⟩
/-- Column `e` of half `b`. -/
def half (b : Fin 2) (e : Fin 512) : Fin 1024 := ⟨512 * b.val + e.val, by omega⟩

/-- An entry of the gate's block. -/
theorem iblk0 (j : Fin 8) (b : Fin 2) (i : Fin 2048) (q : Fin 352) : (iblk m d 0 (step j b) : Vec Ideal S1x2048x352 .bf16) (ix3 (0 : Fin 1) i q)
    = (m (d, Proc.tc.devRef main_arg0) : FVec Ideal S2048x2816 .bf16) (ix2 i (col j q)) := by
  unfold iblk
  rw [View.read_apply]
  refine (congrArg (V m d main_v1 : FVec Ideal S8x2048x352 .bf16) (funext fun a => Fin.ext ?_ : _ = ix3 j i q)).trans ?_
  · have hi := index0 (step j b)
    match a with
    | ⟨0, _⟩ => show win0_0.index (step j b) 0 * 1 + 1 * 0 = j.val; rw [hi.1]; show (2 * j.val + b.val) / 2 * 1 + 1 * 0 = j.val; omega
    | ⟨1, _⟩ => show win0_0.index (step j b) 1 * 2048 + 1 * i.val = i.val; rw [hi.2.1]; omega
    | ⟨2, _⟩ => show win0_0.index (step j b) 2 * 352 + 1 * q.val = q.val; rw [hi.2.2]; omega
  · rw [V_v1]
    exact cols_apply _ _ _ j i q
/-- An entry of the other factor's block. -/
theorem iblk1 (j : Fin 8) (b : Fin 2) (i : Fin 2048) (q : Fin 352) : (iblk m d 1 (step j b) : Vec Ideal S1x2048x352 .bf16) (ix3 (0 : Fin 1) i q)
    = (m (d, Proc.tc.devRef main_arg1) : FVec Ideal S2048x2816 .bf16) (ix2 i (col j q)) := by
  unfold iblk
  rw [View.read_apply]
  refine (congrArg (V m d main_v3 : FVec Ideal S8x2048x352 .bf16) (funext fun a => Fin.ext ?_ : _ = ix3 j i q)).trans ?_
  · have hi := index1 (step j b)
    match a with
    | ⟨0, _⟩ => show win0_1.index (step j b) 0 * 1 + 1 * 0 = j.val; rw [hi.1]; show (2 * j.val + b.val) / 2 * 1 + 1 * 0 = j.val; omega
    | ⟨1, _⟩ => show win0_1.index (step j b) 1 * 2048 + 1 * i.val = i.val; rw [hi.2.1]; omega
    | ⟨2, _⟩ => show win0_1.index (step j b) 2 * 352 + 1 * q.val = q.val; rw [hi.2.2]; omega
  · rw [V_v3]
    exact cols_apply _ _ _ j i q
/-- An entry of the output gradient's block. -/
theorem iblk2 (j : Fin 8) (b : Fin 2) (i : Fin 2048) (e : Fin 512) : (iblk m d 2 (step j b) : Vec Ideal S2048x512 .f32) (ix2 i e)
    = (m (d, Proc.tc.devRef main_arg3) : FVec Ideal S2048x1024 .f32) (ix2 i (half b e)) := by
  unfold iblk
  rw [View.read_apply]
  refine (congrFun (V_main_arg3 m d) _).trans (congrArg (m (d, Proc.tc.devRef main_arg3) : FVec Ideal S2048x1024 .f32) (funext fun a => Fin.ext ?_))
  have hi := index2 (step j b)
  match a with
  | ⟨0, _⟩ => show win0_2.index (step j b) 0 * 2048 + 1 * i.val = i.val; rw [hi.1]; omega
  | ⟨1, _⟩ => show win0_2.index (step j b) 1 * 512 + 1 * e.val = 512 * b.val + e.val; rw [hi.2]; show (2 * j.val + b.val) % 2 * 512 + 1 * e.val = _; omega

/-! ## The result -/

/-- The gradient of the output weights: an entry of `actᵀ · dy`. -/
def dw (g u : FVec Ideal S2048x2816 .bf16) (dy : FVec Ideal S2048x1024 .f32) (k : Fin 2816) (e : Fin 1024) : EReal :=
  ∑ i : Fin 2048, (g (ix2 i k) * sig (g (ix2 i k)) * u (ix2 i k)) * (dy (ix2 i e) : EReal)

/-- The result's array, entry by entry. -/
theorem arr3_half (j : Fin 8) (q : Fin 352) (b : Fin 2) (e : Fin 512) : ((dats m 0 d).arrAt 3 cfg0.N : FVec Ideal S8x352x1024 .bf16) (ix3 j q (half b e))
    = dw (m (d, Proc.tc.devRef main_arg0)) (m (d, Proc.tc.devRef main_arg1)) (m (d, Proc.tc.devRef main_arg3)) (col j q) (half b e) := by
  have h := congrFun (Cert.Kernel3Ideal.Value.blocks3 m d (step j b) (flush3 _)) (ix3 (0 : Fin 1) q e)
  rw [View.read_apply, Cert.Kernel3Ideal.Value.flushed3_A, out3] at h
  refine ((congrArg ((dats m 0 d).arrAt 3 cfg0.N : FVec Ideal S8x352x1024 .bf16) (funext fun a => Fin.ext ?_)).trans h).trans ?_
  · have hi := index3 (step j b)
    match a with
    | ⟨0, _⟩ => show j.val = win0_3.index (step j b) 0 * 1 + 1 * 0; rw [hi.1]; show j.val = (2 * j.val + b.val) / 2 * 1 + 1 * 0; omega
    | ⟨1, _⟩ => show q.val = win0_3.index (step j b) 1 * 352 + 1 * q.val; rw [hi.2.1]; omega
    | ⟨2, _⟩ => show 512 * b.val + e.val = win0_3.index (step j b) 2 * 512 + 1 * e.val; rw [hi.2.2]; show _ = (2 * j.val + b.val) % 2 * 512 + 1 * e.val; omega
  · refine (pay3_apply _ _ _ q e).trans ?_
    simp only [iblk0, iblk1, iblk2]
    rfl
/-- The result's array at any column. -/
theorem arr3 (j : Fin 8) (q : Fin 352) (e : Fin 1024) : ((dats m 0 d).arrAt 3 cfg0.N : FVec Ideal S8x352x1024 .bf16) (ix3 j q e)
    = dw (m (d, Proc.tc.devRef main_arg0)) (m (d, Proc.tc.devRef main_arg1)) (m (d, Proc.tc.devRef main_arg3)) (col j q) e := by
  have he : e = half ⟨e.val / 512, by omega⟩ ⟨e.val % 512, by omega⟩ := Fin.ext (by show e.val = 512 * (e.val / 512) + e.val % 512; omega)
  rw [he]
  exact arr3_half m d j q _ _

end Cert.Dw
-- ==== Proof.DwValue.lean ====
module
public import proofs.«01_k».proof.Defs
public import proofs.«01_k».proof.Proof.Dw
public import Idealize.ShloMosaic.Adequacy
public import Idealize.ShloMosaic.Init
/-! The value claim of the output weights' gradient: both programs hold the same entries. -/
@[expose] public section
noncomputable section
namespace Cert.Dw
open Idealize.ShloMosaic Idealize.SL.Sem Cert.Cols

section ref
open Cert.Reference3Ideal Cert.Reference3Ideal.Gen Cert.Reference3Ideal.Read
variable (x0 x1 : FVec Ideal S2048x2816 .bf16) (x3 : FVec Ideal S2048x1024 .f32)

/-- The reference's gated activation. -/
theorem ref_act (i : Fin 2048) (k : Fin 2816) : val_main_v3 (F := Ideal) x0 x1 (ix2 i k) = x0 (ix2 i k) * sig (x0 (ix2 i k)) * x1 (ix2 i k) := by
  pointwise [val_main_v3, val_main_v2, val_main_v1, val_main_call0_v5, val_main_call0_v4, val_main_call0_cst_0, val_main_call0_v3, val_main_call0_v2, val_main_call0_cst,
    val_main_call0_v1, val_main_call0_v0, val_main_v0]
  rfl
/-- The reference's result. -/
theorem ref9 (j : Fin 8) (q : Fin 352) (e : Fin 1024) : val_main_v9 (F := Ideal) x0 x1 x3 (ix3 j q e) = dw x0 x1 x3 (col j q) e := by
  unfold val_main_v9
  refine (rows_apply _ _ j q e).trans ?_
  rw [val_main_v8_apply, val_main_v7_apply, val_main_v6_apply]
  refine Finset.sum_congr rfl fun i _ => ?_
  refine (mul_comm _ _).trans (congrArg₂ (fun a b : EReal => a * b) ?_ (congrArg x3 (eq_ix2 _)))
  exact (congrArg (val_main_v3 (F := Ideal) x0 x1) (eq_ix2 _)).trans (ref_act x0 x1 i (col j q))
end ref

/-- The reference run ends with its arguments kept and all counters at zero. -/
theorem frame_ref : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- Two arrays put by device agree when they hold the same entries. -/
theorem same (x y : FVec Ideal ⟨3, ![8, 352, 1024]⟩ .bf16) (f : Fin 2816 → Fin 1024 → EReal) (hx : ∀ j q e, x (ix3 j q e) = f (col j q) e)
    (hy : ∀ j q e, y (ix3 j q e) = f (col j q) e) : x = y := by
  funext i
  have hi := eq_ix3 i
  exact (congrArg x hi).trans (((hx _ _ _).trans (hy _ _ _).symm).trans (congrArg y hi).symm)

section out
open Cert.Reference3Ideal Cert.Reference3Ideal.Gen Cert.Reference3Ideal.Read
/-- The reference's result on the kernel's arguments. -/
theorem out9 (m : (ℓ : Loc nD τ sig) → Buf (Elt Ideal) ℓ) (c : Dev nD) (x0 x1 : FVec Ideal S2048x2816 .bf16) (x3 : FVec Ideal S2048x1024 .f32)
    (a0 : m ((c.tc : Thread nD τ).loc main_arg0) = x0) (a1 : m ((c.tc : Thread nD τ).loc main_arg1) = x1) (a3 : m ((c.tc : Thread nD τ).loc main_arg3) = x3)
    (j : Fin 8) (q : Fin 352) (e : Fin 1024) :
    val_main_v9 (F := Ideal) (m ((c.tc : Thread nD τ).loc main_arg0)) (m ((c.tc : Thread nD τ).loc main_arg1)) (m ((c.tc : Thread nD τ).loc main_arg3)) (ix3 j q e)
      = dw x0 x1 x3 (col j q) e := by
  subst a0 a1 a3
  exact ref9 _ _ _ j q e
end out

/-- The value claim: the gradient of the output weights is the same array in both programs. -/
theorem value : Cert.algebraic_Kernel3Ideal_Reference3Ideal (hKernel3Ideal := Cert.Kernel3Ideal.Gen.facts) (hReference3Ideal := Cert.Reference3Ideal.Gen.facts) := by
  intro m ρ m' ρ' _ hag
  refine ⟨fun c => (Cert.Kernel3Ideal.Gen.dats m 0 c).arrAt 3 Cert.Kernel3Ideal.cfg0.N, ?_, ?_⟩
  · exact Cert.Kernel3Ideal.Value.run_blocks (F := Ideal) m ρ
  · refine (θ_run Cert.Reference3Ideal.defs _ _).mono (fun r h c => ?_) (Cert.Reference3Ideal.Value.run (F := Ideal) m' ρ')
    obtain ⟨e0, ek⟩ := h c
    obtain ⟨a0, a1, a2, a3⟩ := hag c
    exact ⟨e0.trans ((Cert.Reference3Ideal.Read.val_main_v9_eq _ _ _).trans (same _ _ _ (out9 m' c _ _ _ a0 a1 a3) (arr3 m c))), ek⟩

end Cert.Dw
-- ==== Proof.Da.lean ====
module
public import proofs.«01_k».proof.Proof.Gen.Kernel4Ideal.Value
public import proofs.«01_k».proof.Proof.Gen.Reference4Ideal.Read
public import proofs.«01_k».proof.Proof.Cols
/-! What the call for the gradient at the input of a column-parallel product leaves: the fold over the devices' shards. -/
@[expose] public section
noncomputable section
namespace Cert.Da
open Idealize.ShloMosaic Idealize.SL.Sem Cert.Cols Cert.Kernel4Ideal Cert.Kernel4Ideal.Gen Cert.Kernel4Ideal.Value

section body
variable {F : FTy → Type} [FloatOps F] (c : Dev nD) (i : grid0.Coords)

/-- What the first step leaves of the running sum. -/
theorem sA (arg3 : Memref sig .tc .vmem S1x2048x352 .bf16) (harg3 : arg3.IsWhole) (arg4 : Memref sig .tc .vmem S1x1024x352 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i) (x0 : Vec F S1x2048x352 .bf16) (x1 : Vec F S1x1024x352 .bf16) : sout0_A_0 c i arg3 harg3 arg4 harg4 arg5 harg5 arg6 harg6 hc0 hc1 x0 x1 = k0_pay2 x0 x1 k0_pay1 := by
  unfold sout0_A_0
  rw [View.read_writes_junk_eq_canon]
  unfold kernelRun0_A
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1x2048x352) (off := ![0, 0, 0]) (by decide), View.ld_unit_zero (S := S1x1024x352) (off := ![0, 0, 0]) (by decide),
    View.ld_unit_zero (S := S2048x1024) (off := ![0, 0]) (by decide)]
/-- What a middle step leaves of the running sum. -/
theorem sB (arg3 : Memref sig .tc .vmem S1x2048x352 .bf16) (harg3 : arg3.IsWhole) (arg4 : Memref sig .tc .vmem S1x1024x352 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i) (x0 : Vec F S1x2048x352 .bf16) (x1 : Vec F S1x1024x352 .bf16) (xs0 : Vec F S2048x1024 .f32) : sout0_B_0 c i arg3 harg3 arg4 harg4 arg5 harg5 arg6 harg6 hc0 hc1 x0 x1 xs0 = k0_pay2 x0 x1 xs0 := by
  unfold sout0_B_0
  rw [View.read_writes_junk_eq_canon]
  unfold kernelRun0_B
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1x2048x352) (off := ![0, 0, 0]) (by decide), View.ld_unit_zero (S := S1x1024x352) (off := ![0, 0, 0]) (by decide),
    View.ld_unit_zero (S := S2048x1024) (off := ![0, 0]) (by decide)]
/-- What the last step leaves of the result. -/
theorem oC (arg3 : Memref sig .tc .vmem S1x2048x352 .bf16) (harg3 : arg3.IsWhole) (arg4 : Memref sig .tc .vmem S1x1024x352 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i) (x0 : Vec F S1x2048x352 .bf16) (x1 : Vec F S1x1024x352 .bf16) (xs0 : Vec F S2048x1024 .f32) : out0_C_2 c i arg3 harg3 arg4 harg4 arg5 harg5 arg6 harg6 hc0 hc1 x0 x1 xs0 = k0_pay2 x0 x1 xs0 := by
  unfold out0_C_2
  rw [View.read_writes_junk_eq_canon]
  unfold kernelRun0_C
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1x2048x352) (off := ![0, 0, 0]) (by decide), View.ld_unit_zero (S := S1x1024x352) (off := ![0, 0, 0]) (by decide),
    View.ld_unit_zero (S := S2048x1024) (off := ![0, 0]) (by decide)]
end body

/-- An entry of a step's running sum. -/
theorem pay2_apply (x0 : Vec Ideal S1x2048x352 .bf16) (x1 : Vec Ideal S1x1024x352 .bf16) (x : Vec Ideal S2048x1024 .f32) (i : Fin 2048) (e : Fin 1024) :
    k0_pay2 (F := Ideal) x0 x1 x (ix2 i e) = x (ix2 i e) + ∑ q : Fin 352, (x0 (ix3 (0 : Fin 1) i q) : EReal) * x1 (ix3 (0 : Fin 1) e q) := by
  pointwise [k0_pay2]
/-- The running sum starts at zero. -/
theorem pay1_apply (i : Fin 2048) (e : Fin 1024) : k0_pay1 (F := Ideal) (ix2 i e) = (0 : EReal) := by
  pointwise [k0_pay1]

/-! ## The windows' blocks -/

variable (m : (ℓ : Loc nD τ sig) → Buf (Elt Ideal) ℓ) (d : Dev nD)

/-- The output gradient's columns as the region finds them. -/
theorem V_v1 : (V m d main_v1 : FVec Ideal S8x2048x352 .bf16) = transpose S8x2048x352 [1, 0, 2]
    (shapeCast S2048x8x352 (m (d, Proc.tc.devRef main_arg2) : FVec Ideal S2048x2816 .bf16) shapeCasts_S2048x2816_S2048x8x352) transposes_S2048x8x352_S8x2048x352_1_0_2 := by
  simp only [V, hostOps0, StableHlo.after_cons, StableHlo.after_nil]
  rfl
/-- The weights' columns as the region finds them. -/
theorem V_v3 : (V m d main_v3 : FVec Ideal S8x1024x352 .bf16) = transpose S8x1024x352 [1, 0, 2]
    (shapeCast S1024x8x352 (m (d, Proc.tc.devRef main_arg1) : FVec Ideal S1024x2816 .bf16) shapeCasts_S1024x2816_S1024x8x352) transposes_S1024x8x352_S8x1024x352_1_0_2 := by
  simp only [V, hostOps0, StableHlo.after_cons, StableHlo.after_nil]
  rfl
/-- The output gradient's block of a step. -/
theorem index0 : ∀ t : Fin cfg0.N, win0_0.index t 0 = t.val ∧ win0_0.index t 1 = 0 ∧ win0_0.index t 2 = 0 := by decide +kernel
/-- The weights' block of a step. -/
theorem index1 : ∀ t : Fin cfg0.N, win0_1.index t 0 = t.val ∧ win0_1.index t 1 = 0 ∧ win0_1.index t 2 = 0 := by decide +kernel
/-- There are eight steps. -/
theorem t_lt (t : Fin cfg0.N) : t.val < 8 := lt_of_lt_of_eq t.isLt N_0

/-- An entry of the output gradient's block. -/
theorem iblk0 (t : Fin cfg0.N) (i : Fin 2048) (q : Fin 352) : (iblk m d 0 t : Vec Ideal S1x2048x352 .bf16) (ix3 (0 : Fin 1) i q)
    = (m (d, Proc.tc.devRef main_arg2) : FVec Ideal S2048x2816 .bf16) (ix2 i (col ⟨t.val, t_lt t⟩ q)) := by
  unfold iblk
  rw [View.read_apply]
  refine (congrArg (V m d main_v1 : FVec Ideal S8x2048x352 .bf16) (funext fun a => Fin.ext ?_ : _ = ix3 (⟨t.val, t_lt t⟩ : Fin 8) i q)).trans ?_
  · have hi := index0 t
    match a with
    | ⟨0, _⟩ => show win0_0.index t 0 * 1 + 1 * 0 = t.val; rw [hi.1]; omega
    | ⟨1, _⟩ => show win0_0.index t 1 * 2048 + 1 * i.val = i.val; rw [hi.2.1]; omega
    | ⟨2, _⟩ => show win0_0.index t 2 * 352 + 1 * q.val = q.val; rw [hi.2.2]; omega
  · rw [V_v1]
    exact cols_apply _ _ _ _ i q
/-- An entry of the weights' block. -/
theorem iblk1 (t : Fin cfg0.N) (e : Fin 1024) (q : Fin 352) : (iblk m d 1 t : Vec Ideal S1x1024x352 .bf16) (ix3 (0 : Fin 1) e q)
    = (m (d, Proc.tc.devRef main_arg1) : FVec Ideal S1024x2816 .bf16) (ix2 e (col ⟨t.val, t_lt t⟩ q)) := by
  unfold iblk
  rw [View.read_apply]
  refine (congrArg (V m d main_v3 : FVec Ideal S8x1024x352 .bf16) (funext fun a => Fin.ext ?_ : _ = ix3 (⟨t.val, t_lt t⟩ : Fin 8) e q)).trans ?_
  · have hi := index1 t
    match a with
    | ⟨0, _⟩ => show win0_1.index t 0 * 1 + 1 * 0 = t.val; rw [hi.1]; omega
    | ⟨1, _⟩ => show win0_1.index t 1 * 1024 + 1 * e.val = e.val; rw [hi.2.1]; omega
    | ⟨2, _⟩ => show win0_1.index t 2 * 352 + 1 * q.val = q.val; rw [hi.2.2]; omega
  · rw [V_v3]
    exact cols_apply _ _ _ _ e q

/-! ## The result -/

/-- What one device's shard adds to an entry of the product of the output gradient and the transposed weights. -/
def shard (w : FVec Ideal S1024x2816 .bf16) (dy : FVec Ideal S2048x2816 .bf16) (i : Fin 2048) (e : Fin 1024) (j : Fin 8) : EReal :=
  ∑ q : Fin 352, (dy (ix2 i (col j q)) : EReal) * w (ix2 e (col j q))
/-- An entry of the product of the output gradient and the transposed weights. -/
def da (w : FVec Ideal S1024x2816 .bf16) (dy : FVec Ideal S2048x2816 .bf16) (i : Fin 2048) (e : Fin 1024) : EReal :=
  ∑ k : Fin 2816, (dy (ix2 i k) : EReal) * w (ix2 e k)

/-- What a step adds to the running sum. -/
theorem pay2_step (t : Fin cfg0.N) (x : Vec Ideal S2048x1024 .f32) (i : Fin 2048) (e : Fin 1024) :
    k0_pay2 (F := Ideal) (iblk m d 0 t) (iblk m d 1 t) x (ix2 i e)
      = x (ix2 i e) + part (shard (m (d, Proc.tc.devRef main_arg1)) (m (d, Proc.tc.devRef main_arg2)) i e) t.val := by
  refine (pay2_apply _ _ _ i e).trans ?_
  simp only [iblk0, iblk1]
  unfold part
  rw [dif_pos (t_lt t)]
  rfl

/-- The first step leaves its product. -/
theorem step_first (h : 0 < cfg0.N) (x : Vec Ideal S2048x1024 .f32 × Vec Ideal S2048x1024 .f32) (i : Fin 2048) (e : Fin 1024) :
    ((stAt0 m d 0 h x).2 (ix2 i e) : EReal) = part (shard (m (d, Proc.tc.devRef main_arg1)) (m (d, Proc.tc.devRef main_arg2)) i e) 0 := by
  have hs := congrArg Prod.snd (stAt0_A m d ⟨0, h⟩ x (Nat.zero_mod 8) (by show ¬0 % 8 = 7; decide))
  dsimp only at hs
  rw [sA] at hs
  refine (congrFun hs (ix2 i e)).trans ?_
  refine (pay2_step m d _ _ i e).trans ?_
  rw [pay1_apply, zero_add]
/-- A middle step adds its product. -/
theorem step_mid (n : ℕ) (h : n < cfg0.N) (x : Vec Ideal S2048x1024 .f32 × Vec Ideal S2048x1024 .f32) (h0 : ¬n % 8 = 0) (h7 : ¬n % 8 = 7) (i : Fin 2048) (e : Fin 1024) :
    ((stAt0 m d n h x).2 (ix2 i e) : EReal) = x.2 (ix2 i e) + part (shard (m (d, Proc.tc.devRef main_arg1)) (m (d, Proc.tc.devRef main_arg2)) i e) n := by
  have hs := congrArg Prod.snd (stAt0_B m d ⟨n, h⟩ x h0 h7)
  dsimp only at hs
  rw [sB] at hs
  refine (congrFun hs (ix2 i e)).trans ?_
  exact pay2_step m d _ _ i e
/-- The last step writes the sum and its product. -/
theorem step_last (n : ℕ) (h : n < cfg0.N) (x : Vec Ideal S2048x1024 .f32 × Vec Ideal S2048x1024 .f32) (h0 : ¬n % 8 = 0) (h7 : n % 8 = 7) (i : Fin 2048) (e : Fin 1024) :
    ((stAt0 m d n h x).1 (ix2 i e) : EReal) = x.2 (ix2 i e) + part (shard (m (d, Proc.tc.devRef main_arg1)) (m (d, Proc.tc.devRef main_arg2)) i e) n := by
  have hs := congrArg Prod.fst (stAt0_C m d ⟨n, h⟩ x h0 h7)
  dsimp only at hs
  rw [oC] at hs
  refine (congrFun hs (ix2 i e)).trans ?_
  exact pay2_step m d _ _ i e

/-- The fold's last step, taken apart. -/
theorem accAt_seven {α : Type} {N : ℕ} (a : ∀ n, n < N → α) (g : ∀ n, n < N → α → α) (h : 0 + 7 < N) (h' : 7 < N) :
    Pipeline.accAt a g 0 7 h = g 7 h' (Pipeline.accAt a g 0 6 (by omega)) := rfl

/-- The result's array, entry by entry. -/
theorem G2_eq (i : Fin 2048) (e : Fin 1024) : (G2 m d : FVec Ideal S2048x1024 .f32) (ix2 i e)
    = da (m (d, Proc.tc.devRef main_arg1)) (m (d, Proc.tc.devRef main_arg2)) i e := by
  have hN : cfg0.N = 8 := N_0
  have hf := fold_sum (fun n h => stAt0 m d n h junk0) (stAt0 m d) (fun x => (x.2 (ix2 i e) : EReal))
    (part (shard (m (d, Proc.tc.devRef main_arg1)) (m (d, Proc.tc.devRef main_arg2)) i e)) 0 7
    (fun h => step_first m d h _ i e) (fun n h x h1 h2 => step_mid m d n h x (by omega) (by omega) i e) 6 (by omega) (by decide)
  have hl := step_last m d 7 (by omega) (Pipeline.accAt (fun n h => stAt0 m d n h junk0) (stAt0 m d) 0 6 (by omega)) (by decide) (by decide) i e
  have hg : (G2 m d : FVec Ideal S2048x1024 .f32) (ix2 i e)
      = (stAt0 m d 7 (by omega) (Pipeline.accAt (fun n h => stAt0 m d n h junk0) (stAt0 m d) 0 6 (by omega))).1 (ix2 i e) :=
    (congrFun (G2_last m d) (ix2 i e)).trans (congrFun (congrArg Prod.fst (accAt_seven (fun n h => stAt0 m d n h junk0) (stAt0 m d) _ (by omega))) (ix2 i e))
  rw [hf] at hl
  refine hg.trans (hl.trans ?_)
  unfold da
  rw [sum_cols, ← sum_part]
  simp only [Nat.zero_add]
  exact (Finset.sum_range_succ _ 7).symm

end Cert.Da
-- ==== Proof.DaValue.lean ====
module
public import proofs.«01_k».proof.Defs
public import proofs.«01_k».proof.Proof.Da
public import Idealize.ShloMosaic.Adequacy
public import Idealize.ShloMosaic.Init
/-! The value claim of the product's gradient at its input: both programs hold the same entries. -/
@[expose] public section
noncomputable section
namespace Cert.Da
open Idealize.ShloMosaic Idealize.SL.Sem Cert.Cols

section ref
open Cert.Reference4Ideal Cert.Reference4Ideal.Gen Cert.Reference4Ideal.Read
/-- The reference's result. -/
theorem ref3 (x1 : FVec Ideal S1024x2816 .bf16) (x2 : FVec Ideal S2048x2816 .bf16) (i : Fin 2048) (e : Fin 1024) :
    val_main_v3 (F := Ideal) x1 x2 (ix2 i e) = da x1 x2 i e := by
  rw [val_main_v3_apply]
  refine Finset.sum_congr rfl fun k _ => ?_
  rw [val_main_v2_apply, val_main_v0_apply]
  exact congrArg₂ (fun a b : EReal => a * b) (congrArg x2 (eq_ix2 _)) (congrArg x1 (eq_ix2 _))
/-- The reference's result on the kernel's arguments. -/
theorem out3 (m : (ℓ : Loc nD τ sig) → Buf (Elt Ideal) ℓ) (c : Dev nD) (x1 : FVec Ideal S1024x2816 .bf16) (x2 : FVec Ideal S2048x2816 .bf16)
    (a1 : m ((c.tc : Thread nD τ).loc main_arg1) = x1) (a2 : m ((c.tc : Thread nD τ).loc main_arg2) = x2) (i : Fin 2048) (e : Fin 1024) :
    val_main_v3 (F := Ideal) (m ((c.tc : Thread nD τ).loc main_arg1)) (m ((c.tc : Thread nD τ).loc main_arg2)) (ix2 i e) = da x1 x2 i e := by
  subst a1 a2
  exact ref3 _ _ i e
end ref

/-- The reference run ends with its arguments kept and all counters at zero. -/
theorem frame_ref : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- Two arrays of two axes agree when they hold the same entries. -/
theorem same (x y : FVec Ideal ⟨2, ![2048, 1024]⟩ .f32) (f : Fin 2048 → Fin 1024 → EReal) (hx : ∀ i e, x (ix2 i e) = f i e)
    (hy : ∀ i e, y (ix2 i e) = f i e) : x = y := by
  funext i
  have hi := eq_ix2 i
  exact (congrArg x hi).trans (((hx _ _).trans (hy _ _).symm).trans (congrArg y hi).symm)

/-- The value claim: the product's gradient at its input is the same array in both programs. -/
theorem value : Cert.algebraic_Kernel4Ideal_Reference4Ideal (hKernel4Ideal := Cert.Kernel4Ideal.Gen.facts) (hReference4Ideal := Cert.Reference4Ideal.Gen.facts) := by
  intro m ρ m' ρ' _ hag
  refine ⟨Cert.Kernel4Ideal.Value.G2 m, ?_, ?_⟩
  · exact Cert.Kernel4Ideal.Value.run (F := Ideal) m ρ
  · refine (θ_run Cert.Reference4Ideal.defs _ _).mono (fun r h c => ?_) (Cert.Reference4Ideal.Value.run (F := Ideal) m' ρ')
    obtain ⟨e0, ek⟩ := h c
    obtain ⟨a0, a1, a2⟩ := hag c
    exact ⟨e0.trans ((Cert.Reference4Ideal.Read.val_main_v3_eq _ _).trans (same _ _ _ (out3 m' c _ _ a1 a2) (G2_eq m c))), ek⟩

end Cert.Da
-- ==== Proof.Dg.lean ====
module
public import proofs.«01_k».proof.Proof.Gen.Kernel5Ideal.Value
public import proofs.«01_k».proof.Proof.Gen.Reference5Ideal.Read
public import proofs.«01_k».proof.Proof.Cols
/-! What the call for the weight gradient of a column-parallel product leaves: each shard's columns of the gradient. -/
@[expose] public section
noncomputable section
namespace Cert.Dg
open Idealize.ShloMosaic Idealize.SL.Sem Cert.Cols Cert.Kernel5Ideal Cert.Kernel5Ideal.Gen Cert.Kernel5Ideal.Value

section body
variable {F : FTy → Type} [FloatOps F] (c : Dev nD) (i : grid0.Coords)

/-- What a first step leaves of the carried copy. -/
theorem sA (arg3 : Memref sig .tc .vmem S2048x512 .f32) (harg3 : arg3.IsWhole) (arg4 : Memref sig .tc .vmem S1x2048x352 .bf16) (harg4 : arg4.IsWhole) (arg5 : Memref sig .tc .vmem S1x512x352 .bf16) (harg5 : arg5.IsWhole) (arg6 : Memref sig .tc .vmem S512x352 .f32) (harg6 : arg6.IsWhole) (arg7 : Memref sig .tc .vmem S2048x512 .bf16) (harg7 : arg7.IsWhole) (hc0 : cond0_0 i) (hc1 : cond0_1 i) (hc2 : cond0_2 i) (x0 : Vec F S2048x512 .f32) (x1 : Vec F S1x2048x352 .bf16) : sout0_A_1 c i arg3 harg3 arg4 harg4 arg5 harg5 arg6 harg6 arg7 harg7 hc0 hc1 hc2 x0 x1 = k0_pay2 x0 := by
  unfold sout0_A_1
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x352) (off := ![0, 0]) (by decide), View.ld_unit_zero (S := S1x2048x352) (off := ![0, 0, 0]) (by decide)]
/-- What a first step writes back. -/
theorem oA (arg3 : Memref sig .tc .vmem S2048x512 .f32) (harg3 : arg3.IsWhole) (arg4 : Memref sig .tc .vmem S1x2048x352 .bf16) (harg4 : arg4.IsWhole) (arg5 : Memref sig .tc .vmem S1x512x352 .bf16) (harg5 : arg5.IsWhole) (arg6 : Memref sig .tc .vmem S512x352 .f32) (harg6 : arg6.IsWhole) (arg7 : Memref sig .tc .vmem S2048x512 .bf16) (harg7 : arg7.IsWhole) (hc0 : cond0_0 i) (hc1 : cond0_1 i) (hc2 : cond0_2 i) (x0 : Vec F S2048x512 .f32) (x1 : Vec F S1x2048x352 .bf16) : out0_A_2 c i arg3 harg3 arg4 harg4 arg5 harg5 arg6 harg6 arg7 harg7 hc0 hc1 hc2 x0 x1 = k0_pay4 (k0_pay3 (k0_pay2 x0) x1 k0_pay1) := by
  unfold out0_A_2
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x352) (off := ![0, 0]) (by decide), View.ld_unit_zero (S := S1x2048x352) (off := ![0, 0, 0]) (by decide)]
/-- What a later step writes back. -/
theorem oB (arg3 : Memref sig .tc .vmem S2048x512 .f32) (harg3 : arg3.IsWhole) (arg4 : Memref sig .tc .vmem S1x2048x352 .bf16) (harg4 : arg4.IsWhole) (arg5 : Memref sig .tc .vmem S1x512x352 .bf16) (harg5 : arg5.IsWhole) (arg6 : Memref sig .tc .vmem S512x352 .f32) (harg6 : arg6.IsWhole) (arg7 : Memref sig .tc .vmem S2048x512 .bf16) (harg7 : arg7.IsWhole) (hc0 : cond0_0 i) (hc1 : ¬cond0_1 i) (hc2 : cond0_2 i) (x0 : Vec F S2048x512 .f32) (x1 : Vec F S1x2048x352 .bf16) (xs1 : Vec F S2048x512 .bf16) : out0_B_2 c i arg3 harg3 arg4 harg4 arg5 harg5 arg6 harg6 arg7 harg7 hc0 hc1 hc2 x0 x1 xs1 = k0_pay4 (k0_pay3 xs1 x1 k0_pay1) := by
  unfold out0_B_2
  rw [View.read_writes_junk_eq_canon]
  unfold kernelRun0_B
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x352) (off := ![0, 0]) (by decide), View.ld_unit_zero (S := S1x2048x352) (off := ![0, 0, 0]) (by decide)]
end body

/-- An entry of the carried copy. -/
theorem pay2_apply (x0 : Vec Ideal S2048x512 .f32) (i : Fin 2048) (e : Fin 512) : (k0_pay2 (F := Ideal) x0 (ix2 i e) : EReal) = x0 (ix2 i e) := by
  pointwise [k0_pay2]
/-- An entry of the block a step writes back. -/
theorem pay4_apply (s : Vec Ideal S2048x512 .bf16) (x1 : Vec Ideal S1x2048x352 .bf16) (i : Fin 512) (q : Fin 352) :
    (k0_pay4 (F := Ideal) (k0_pay3 s x1 (k0_pay1 (F := Ideal))) (ix3 (0 : Fin 1) i q) : EReal) = ∑ k : Fin 2048, (s (ix2 k i) : EReal) * x1 (ix3 (0 : Fin 1) k q) := by
  pointwise [k0_pay4, k0_pay3, k0_pay1]

/-! ## The windows' blocks -/

variable (m : (ℓ : Loc nD τ sig) → Buf (Elt Ideal) ℓ) (d : Dev nD)

/-- The columns as the region finds them. -/
theorem V_v1 : (V m d main_v1 : FVec Ideal S8x2048x352 .bf16) = transpose S8x2048x352 [1, 0, 2]
    (shapeCast S2048x8x352 (m (d, Proc.tc.devRef main_arg2) : FVec Ideal S2048x2816 .bf16) shapeCasts_S2048x2816_S2048x8x352) transposes_S2048x8x352_S8x2048x352_1_0_2 := by
  simp only [V, hostOps0, StableHlo.after_cons, StableHlo.after_nil]
  rfl
/-- The first operand as the region finds it. -/
theorem V_arg0 : (V m d main_arg0 : FVec Ideal S2048x1024 .f32) = m (d, Proc.tc.devRef main_arg0) := by
  simp only [V, hostOps0, StableHlo.after_cons, StableHlo.after_nil]
  rfl
/-- The first operand's block of a step. -/
theorem index0 : ∀ t : Fin cfg0.N, win0_0.index t 0 = 0 ∧ win0_0.index t 1 = t.val / 8 := by decide +kernel
/-- The columns' block of a step. -/
theorem index1 : ∀ t : Fin cfg0.N, win0_1.index t 0 = t.val % 8 ∧ win0_1.index t 1 = 0 ∧ win0_1.index t 2 = 0 := by decide +kernel

/-- The column of the first operand that a half's column is. -/
def half (r : ℕ) (e : Fin 512) : Fin 1024 := ⟨(512 * r + e.val) % 1024, Nat.mod_lt _ (by decide)⟩
/-- An entry of the first operand's block. -/
theorem iblk0 (t : Fin cfg0.N) (i : Fin 2048) (e : Fin 512) : (iblk m d 0 t : Vec Ideal S2048x512 .f32) (ix2 i e)
    = (m (d, Proc.tc.devRef main_arg0) : FVec Ideal S2048x1024 .f32) (ix2 i (half (t.val / 8) e)) := by
  unfold iblk
  rw [View.read_apply]
  refine (congrArg (V m d main_arg0 : FVec Ideal S2048x1024 .f32) (funext fun a => Fin.ext ?_ : _ = ix2 i (half (t.val / 8) e))).trans ?_
  · have hi := index0 t
    match a with
    | ⟨0, _⟩ => show win0_0.index t 0 * 2048 + 1 * i.val = i.val; rw [hi.1]; omega
    | ⟨1, _⟩ => show win0_0.index t 1 * 512 + 1 * e.val = (512 * (t.val / 8) + e.val) % 1024; rw [hi.2]; have ht := lt_of_lt_of_eq t.isLt N_0; have he := e.isLt; omega
  · rw [V_arg0]
/-- An entry of the columns' block. -/
theorem iblk1 (t : Fin cfg0.N) (k : Fin 2048) (q : Fin 352) : (iblk m d 1 t : Vec Ideal S1x2048x352 .bf16) (ix3 (0 : Fin 1) k q)
    = (m (d, Proc.tc.devRef main_arg2) : FVec Ideal S2048x2816 .bf16) (ix2 k (col ⟨t.val % 8, Nat.mod_lt _ (by decide)⟩ q)) := by
  unfold iblk
  rw [View.read_apply]
  refine (congrArg (V m d main_v1 : FVec Ideal S8x2048x352 .bf16) (funext fun a => Fin.ext ?_ : _ = ix3 (⟨t.val % 8, Nat.mod_lt _ (by decide)⟩ : Fin 8) k q)).trans ?_
  · have hi := index1 t
    match a with
    | ⟨0, _⟩ => show win0_1.index t 0 * 1 + 1 * 0 = t.val % 8; rw [hi.1]; omega
    | ⟨1, _⟩ => show win0_1.index t 1 * 2048 + 1 * k.val = k.val; rw [hi.2.1]; omega
    | ⟨2, _⟩ => show win0_1.index t 2 * 352 + 1 * q.val = q.val; rw [hi.2.2]; omega
  · rw [V_v1]
    exact cols_apply _ _ _ _ k q

/-! ## The result -/

/-- An entry of the product. -/
def prod (h : FVec Ideal S2048x1024 .f32) (w : FVec Ideal S2048x2816 .bf16) (i : Fin 1024) (f : Fin 2816) : EReal :=
  ∑ k : Fin 2048, (h (ix2 k i) : EReal) * w (ix2 k f)

/-- The carried copy after a first step. -/
theorem step_first (n : ℕ) (h : n < cfg0.N) (x : Vec Ideal S1x512x352 .bf16 × Vec Ideal S2048x512 .bf16) (h0 : n % 8 = 0) (i : Fin 2048) (e : Fin 512) :
    ((stAt0 m d n h x).2 (ix2 i e) : EReal) = (m (d, Proc.tc.devRef main_arg0) : FVec Ideal S2048x1024 .f32) (ix2 i (half (n / 8) e)) := by
  have hs := congrArg Prod.snd (stAt0_A m d ⟨n, h⟩ x h0)
  dsimp only at hs
  rw [sA] at hs
  refine (congrFun hs (ix2 i e)).trans ?_
  exact (pay2_apply _ i e).trans (iblk0 m d ⟨n, h⟩ i e)
/-- The carried copy after a later step. -/
theorem step_later (n : ℕ) (h : n < cfg0.N) (x : Vec Ideal S1x512x352 .bf16 × Vec Ideal S2048x512 .bf16) (h0 : ¬n % 8 = 0) :
    (stAt0 m d n h x).2 = x.2 := by
  have hs := congrArg Prod.snd (stAt0_B m d ⟨n, h⟩ x h0)
  dsimp only at hs
  unfold sout0_B_1 at hs
  exact hs
/-- What any step writes back, from the carried copy it leaves. -/
theorem step_out (n : ℕ) (h : n < cfg0.N) (x : Vec Ideal S1x512x352 .bf16 × Vec Ideal S2048x512 .bf16) :
    (stAt0 m d n h x).1 = k0_pay4 (F := Ideal) (k0_pay3 (stAt0 m d n h x).2 (iblk m d 1 ⟨n, h⟩) (k0_pay1 (F := Ideal))) := by
  by_cases h0 : n % 8 = 0
  · have hs := congrArg Prod.snd (stAt0_A m d ⟨n, h⟩ x h0)
    have ho := congrArg Prod.fst (stAt0_A m d ⟨n, h⟩ x h0)
    dsimp only at hs ho
    rw [sA] at hs
    rw [oA] at ho
    rw [hs]
    exact ho
  · have ho := congrArg Prod.fst (stAt0_B m d ⟨n, h⟩ x h0)
    dsimp only at ho
    rw [oB] at ho
    rw [step_later m d n h x h0]
    exact ho

/-- The fold of the steps up to `n`. -/
abbrev fold (n : ℕ) (h : 0 + n < cfg0.N) : Vec Ideal S1x512x352 .bf16 × Vec Ideal S2048x512 .bf16 :=
  Pipeline.accAt (fun n h => stAt0 m d n h junk0) (stAt0 m d) 0 n h
/-- The carried copy after every step. -/
theorem fold_copy (n : ℕ) (h : 0 + n < cfg0.N) (i : Fin 2048) (e : Fin 512) :
    ((fold m d n h).2 (ix2 i e) : EReal) = (m (d, Proc.tc.devRef main_arg0) : FVec Ideal S2048x1024 .f32) (ix2 i (half (n / 8) e)) :=
  fold_carry (fun n h => stAt0 m d n h junk0) (stAt0 m d) (fun x => (x.2 (ix2 i e) : EReal))
    (fun r => (m (d, Proc.tc.devRef main_arg0) : FVec Ideal S2048x1024 .f32) (ix2 i (half r e)))
    (fun h => step_first m d 0 h _ (Nat.zero_mod 8) i e) (fun n h x h0 => step_first m d n h x h0 i e)
    (fun n h x h0 => congrFun (step_later m d n h x h0) (ix2 i e)) n h
/-- What every step writes back, from the carried copy. -/
theorem fold_out : ∀ (n : ℕ) (h : 0 + n < cfg0.N) (h' : n < cfg0.N),
    (fold m d n h).1 = k0_pay4 (F := Ideal) (k0_pay3 (fold m d n h).2 (iblk m d 1 ⟨n, h'⟩) (k0_pay1 (F := Ideal)))
  | 0, h, _ => step_out m d 0 h junk0
  | n + 1, h, h' => by
    have e := step_out m d (0 + (n + 1)) h (fold m d n (Nat.lt_of_succ_lt h))
    have hn : (⟨0 + (n + 1), h⟩ : Fin cfg0.N) = ⟨n + 1, h'⟩ := Fin.ext (Nat.zero_add _)
    rw [hn] at e
    exact e

/-- The result's array, entry by entry. -/
theorem G2_eq (j : Fin 8) (i : Fin 1024) (q : Fin 352) : (G2 m d : FVec Ideal S8x1024x352 .bf16) (ix3 j i q)
    = prod (m (d, Proc.tc.devRef main_arg0)) (m (d, Proc.tc.devRef main_arg2)) i (col j q) := by
  have hN : cfg0.N = 16 := N_0
  have hj := j.isLt
  have hi := i.isLt
  have hq := q.isLt
  have hp : pt2Of (ix3 j i q) = (j.val + 8 * (i.val / 512)) := by
    show 1 * (j.val / 1 - 0) + 8 * (i.val / 512 - 0) + 16 * (q.val / 352 - 0) = _
    omega
  have hlt : (j.val + 8 * (i.val / 512)) < cfg0.N := by omega
  unfold G2
  rw [dif_pos (by rw [hp]; exact hlt)]
  have hl : loc2Of (ix3 j i q) = ix3 (0 : Fin 1) (⟨i.val % 512, Nat.mod_lt _ (by decide)⟩ : Fin 512) q := funext fun a => Fin.ext (by
    match a with
    | ⟨0, _⟩ => show j.val % 1 = 0; omega
    | ⟨1, _⟩ => rfl
    | ⟨2, _⟩ => show q.val % 352 = q.val; omega)
  have hf := fold_out m d (pt2Of (ix3 j i q)) (by omega) (by omega)
  rw [hl]
  refine (congrFun hf _).trans ?_
  refine (pay4_apply _ _ _ q).trans ?_
  unfold prod
  refine Finset.sum_congr rfl fun k _ => ?_
  rw [fold_copy, iblk1]
  refine congrArg₂ (fun a b : EReal => a * b) (congrArg _ ?_) (congrArg _ ?_)
  · exact congrArg (ix2 k) (Fin.ext (by show (512 * (pt2Of (ix3 j i q) / 8) + i.val % 512) % 1024 = i.val; rw [hp]; omega))
  · exact congrArg (fun z => ix2 k (col z q)) (Fin.ext (by show pt2Of (ix3 j i q) % 8 = j.val; rw [hp]; omega))

end Cert.Dg
-- ==== Proof.DgValue.lean ====
module
public import proofs.«01_k».proof.Defs
public import proofs.«01_k».proof.Proof.Dg
public import Idealize.ShloMosaic.Adequacy
public import Idealize.ShloMosaic.Init
/-! The value claim of the product's gradient at its weights: both programs hold the same entries. -/
@[expose] public section
noncomputable section
namespace Cert.Dg
open Idealize.ShloMosaic Idealize.SL.Sem Cert.Cols

section ref
open Cert.Reference5Ideal Cert.Reference5Ideal.Gen Cert.Reference5Ideal.Read
/-- The reference's product. -/
theorem ref_prod (x0 : FVec Ideal S2048x1024 .f32) (x2 : FVec Ideal S2048x2816 .bf16) (f : Fin 2816) (i : Fin 1024) :
    val_main_v3 (F := Ideal) x0 x2 (ix2 f i) = prod x0 x2 i f := by
  rw [val_main_v3_apply]
  refine Finset.sum_congr rfl fun k _ => ?_
  rw [val_main_v2_apply]
  exact (congrArg₂ (fun a b : EReal => a * b) (congrArg x2 (eq_ix2 _)) (congrArg x0 (eq_ix2 _))).trans (mul_comm _ _)
/-- The reference's gradient, before it is put by device. -/
theorem ref_grad (x0 : FVec Ideal S2048x1024 .f32) (x2 : FVec Ideal S2048x2816 .bf16) (i : Fin 1024) (f : Fin 2816) :
    val_main_v5 (F := Ideal) x0 x2 (ix2 i f) = prod x0 x2 i f := by
  rw [val_main_v5_apply, val_main_v4_apply]
  exact (congrArg (val_main_v3 (F := Ideal) x0 x2) (eq_ix2 _)).trans (ref_prod _ _ _ _)
/-- The reference's result. -/
theorem ref_eq (x0 : FVec Ideal S2048x1024 .f32) (x2 : FVec Ideal S2048x2816 .bf16) (j : Fin 8) (i : Fin 1024) (q : Fin 352) :
    val_main_v7 (F := Ideal) x0 x2 (ix3 j i q) = prod x0 x2 i (col j q) := by
  unfold val_main_v7 val_main_v6
  exact (cols_apply _ _ _ j i q).trans (ref_grad _ _ _ _)
/-- The reference's result on the kernel's arguments. -/
theorem out_eq (m : (ℓ : Loc nD τ sig) → Buf (Elt Ideal) ℓ) (c : Dev nD) (x0 : FVec Ideal S2048x1024 .f32) (x2 : FVec Ideal S2048x2816 .bf16)
    (a0 : m ((c.tc : Thread nD τ).loc main_arg0) = x0) (a2 : m ((c.tc : Thread nD τ).loc main_arg2) = x2) (j : Fin 8) (i : Fin 1024) (q : Fin 352) :
    val_main_v7 (F := Ideal) (m ((c.tc : Thread nD τ).loc main_arg0)) (m ((c.tc : Thread nD τ).loc main_arg2)) (ix3 j i q) = prod x0 x2 i (col j q) := by
  subst a0 a2
  exact ref_eq _ _ j i q
end ref

/-- The reference run ends with its arguments kept and all counters at zero. -/
theorem frame_ref : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- Two arrays put by device agree when they hold the same entries. -/
theorem same (x y : FVec Ideal ⟨3, ![8, 1024, 352]⟩ .bf16) (f : Fin 1024 → Fin 2816 → EReal) (hx : ∀ j i q, x (ix3 j i q) = f i (col j q))
    (hy : ∀ j i q, y (ix3 j i q) = f i (col j q)) : x = y := by
  funext i
  have hi := eq_ix3 i
  exact (congrArg x hi).trans (((hx _ _ _).trans (hy _ _ _).symm).trans (congrArg y hi).symm)

/-- The value claim: the result is the same array in both programs. -/
theorem value : Cert.algebraic_Kernel5Ideal_Reference5Ideal (hKernel5Ideal := Cert.Kernel5Ideal.Gen.facts) (hReference5Ideal := Cert.Reference5Ideal.Gen.facts) := by
  intro m ρ m' ρ' _ hag
  refine ⟨Cert.Kernel5Ideal.Value.G2 m, ?_, ?_⟩
  · exact Cert.Kernel5Ideal.Value.run (F := Ideal) m ρ
  · refine (θ_run Cert.Reference5Ideal.defs _ _).mono (fun r h c => ?_) (Cert.Reference5Ideal.Value.run (F := Ideal) m' ρ')
    obtain ⟨e0, ek⟩ := h c
    obtain ⟨a0, a1, a2⟩ := hag c
    exact ⟨e0.trans ((Cert.Reference5Ideal.Read.val_main_v7_eq _ _).trans (same _ _ _ (out_eq m' c _ _ a0 a2) (G2_eq m c))), ek⟩

end Cert.Dg
-- ==== Proof.ColsFwd.lean ====
module
public import proofs.«01_k».proof.Proof.Gen.Kernel6Ideal.Value
public import proofs.«01_k».proof.Proof.Gen.Reference6Ideal.Read
public import proofs.«01_k».proof.Proof.Cols
/-! What the call for a column-parallel product leaves: each shard's columns of the product. -/
@[expose] public section
noncomputable section
namespace Cert.ColsFwd
open Idealize.ShloMosaic Idealize.SL.Sem Cert.Cols Cert.Kernel6Ideal Cert.Kernel6Ideal.Gen Cert.Kernel6Ideal.Value

section body
variable {F : FTy → Type} [FloatOps F] (c : Dev nD) (i : grid0.Coords)

/-- What a first step leaves of the carried copy. -/
theorem sA (arg3 : Memref sig .tc .vmem S2048x1024 .f32) (harg3 : arg3.IsWhole) (arg4 : Memref sig .tc .vmem S1x1024x352 .bf16) (harg4 : arg4.IsWhole) (arg5 : Memref sig .tc .vmem S1x2048x352 .bf16) (harg5 : arg5.IsWhole) (arg6 : Memref sig .tc .vmem S2048x352 .f32) (harg6 : arg6.IsWhole) (arg7 : Memref sig .tc .vmem S2048x1024 .bf16) (harg7 : arg7.IsWhole) (hc0 : cond0_0 i) (hc1 : cond0_1 i) (hc2 : cond0_2 i) (x0 : Vec F S2048x1024 .f32) (x1 : Vec F S1x1024x352 .bf16) : sout0_A_1 c i arg3 harg3 arg4 harg4 arg5 harg5 arg6 harg6 arg7 harg7 hc0 hc1 hc2 x0 x1 = k0_pay2 x0 := by
  unfold sout0_A_1
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x1024) (off := ![0, 0]) (by decide), View.ld_unit_zero (S := S2048x352) (off := ![0, 0]) (by decide), View.ld_unit_zero (S := S1x1024x352) (off := ![0, 0, 0]) (by decide)]
/-- What a first step writes back. -/
theorem oA (arg3 : Memref sig .tc .vmem S2048x1024 .f32) (harg3 : arg3.IsWhole) (arg4 : Memref sig .tc .vmem S1x1024x352 .bf16) (harg4 : arg4.IsWhole) (arg5 : Memref sig .tc .vmem S1x2048x352 .bf16) (harg5 : arg5.IsWhole) (arg6 : Memref sig .tc .vmem S2048x352 .f32) (harg6 : arg6.IsWhole) (arg7 : Memref sig .tc .vmem S2048x1024 .bf16) (harg7 : arg7.IsWhole) (hc0 : cond0_0 i) (hc1 : cond0_1 i) (hc2 : cond0_2 i) (x0 : Vec F S2048x1024 .f32) (x1 : Vec F S1x1024x352 .bf16) : out0_A_2 c i arg3 harg3 arg4 harg4 arg5 harg5 arg6 harg6 arg7 harg7 hc0 hc1 hc2 x0 x1 = k0_pay4 (k0_pay3 (k0_pay2 x0) x1 k0_pay1) := by
  unfold out0_A_2
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x1024) (off := ![0, 0]) (by decide), View.ld_unit_zero (S := S2048x352) (off := ![0, 0]) (by decide), View.ld_unit_zero (S := S1x1024x352) (off := ![0, 0, 0]) (by decide)]
/-- What a later step writes back. -/
theorem oB (arg3 : Memref sig .tc .vmem S2048x1024 .f32) (harg3 : arg3.IsWhole) (arg4 : Memref sig .tc .vmem S1x1024x352 .bf16) (harg4 : arg4.IsWhole) (arg5 : Memref sig .tc .vmem S1x2048x352 .bf16) (harg5 : arg5.IsWhole) (arg6 : Memref sig .tc .vmem S2048x352 .f32) (harg6 : arg6.IsWhole) (arg7 : Memref sig .tc .vmem S2048x1024 .bf16) (harg7 : arg7.IsWhole) (hc0 : cond0_0 i) (hc1 : ¬cond0_1 i) (hc2 : cond0_2 i) (x0 : Vec F S2048x1024 .f32) (x1 : Vec F S1x1024x352 .bf16) (xs1 : Vec F S2048x1024 .bf16) : out0_B_2 c i arg3 harg3 arg4 harg4 arg5 harg5 arg6 harg6 arg7 harg7 hc0 hc1 hc2 x0 x1 xs1 = k0_pay4 (k0_pay3 xs1 x1 k0_pay1) := by
  unfold out0_B_2
  rw [View.read_writes_junk_eq_canon]
  unfold kernelRun0_B
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x1024) (off := ![0, 0]) (by decide), View.ld_unit_zero (S := S2048x352) (off := ![0, 0]) (by decide), View.ld_unit_zero (S := S1x1024x352) (off := ![0, 0, 0]) (by decide)]
end body

/-- An entry of the carried copy. -/
theorem pay2_apply (x0 : Vec Ideal S2048x1024 .f32) (i : Fin 2048) (e : Fin 1024) : (k0_pay2 (F := Ideal) x0 (ix2 i e) : EReal) = x0 (ix2 i e) := by
  pointwise [k0_pay2]
/-- An entry of the block a step writes back. -/
theorem pay4_apply (s : Vec Ideal S2048x1024 .bf16) (x1 : Vec Ideal S1x1024x352 .bf16) (i : Fin 2048) (q : Fin 352) :
    (k0_pay4 (F := Ideal) (k0_pay3 s x1 (k0_pay1 (F := Ideal))) (ix3 (0 : Fin 1) i q) : EReal) = ∑ k : Fin 1024, (s (ix2 i k) : EReal) * x1 (ix3 (0 : Fin 1) k q) := by
  pointwise [k0_pay4, k0_pay3, k0_pay1]

/-! ## The windows' blocks -/

variable (m : (ℓ : Loc nD τ sig) → Buf (Elt Ideal) ℓ) (d : Dev nD)

/-- The columns as the region finds them. -/
theorem V_v1 : (V m d main_v1 : FVec Ideal S8x1024x352 .bf16) = transpose S8x1024x352 [1, 0, 2]
    (shapeCast S1024x8x352 (m (d, Proc.tc.devRef main_arg1) : FVec Ideal S1024x2816 .bf16) shapeCasts_S1024x2816_S1024x8x352) transposes_S1024x8x352_S8x1024x352_1_0_2 := by
  simp only [V, hostOps0, StableHlo.after_cons, StableHlo.after_nil]
  rfl
/-- The first operand as the region finds it. -/
theorem V_arg0 : (V m d main_arg0 : FVec Ideal S2048x1024 .f32) = m (d, Proc.tc.devRef main_arg0) := by
  simp only [V, hostOps0, StableHlo.after_cons, StableHlo.after_nil]
  rfl
/-- The first operand's block of a step. -/
theorem index0 : ∀ t : Fin cfg0.N, win0_0.index t 0 = 0 ∧ win0_0.index t 1 = 0 := by decide +kernel
/-- The columns' block of a step. -/
theorem index1 : ∀ t : Fin cfg0.N, win0_1.index t 0 = t.val % 8 ∧ win0_1.index t 1 = 0 ∧ win0_1.index t 2 = 0 := by decide +kernel

/-- An entry of the first operand's block. -/
theorem iblk0 (t : Fin cfg0.N) (i : Fin 2048) (e : Fin 1024) : (iblk m d 0 t : Vec Ideal S2048x1024 .f32) (ix2 i e)
    = (m (d, Proc.tc.devRef main_arg0) : FVec Ideal S2048x1024 .f32) (ix2 i e) := by
  unfold iblk
  rw [View.read_apply]
  refine (congrArg (V m d main_arg0 : FVec Ideal S2048x1024 .f32) (funext fun a => Fin.ext ?_ : _ = ix2 i e)).trans ?_
  · have hi := index0 t
    match a with
    | ⟨0, _⟩ => show win0_0.index t 0 * 2048 + 1 * i.val = i.val; rw [hi.1]; omega
    | ⟨1, _⟩ => show win0_0.index t 1 * 1024 + 1 * e.val = e.val; rw [hi.2]; omega
  · rw [V_arg0]
/-- An entry of the columns' block. -/
theorem iblk1 (t : Fin cfg0.N) (k : Fin 1024) (q : Fin 352) : (iblk m d 1 t : Vec Ideal S1x1024x352 .bf16) (ix3 (0 : Fin 1) k q)
    = (m (d, Proc.tc.devRef main_arg1) : FVec Ideal S1024x2816 .bf16) (ix2 k (col ⟨t.val % 8, Nat.mod_lt _ (by decide)⟩ q)) := by
  unfold iblk
  rw [View.read_apply]
  refine (congrArg (V m d main_v1 : FVec Ideal S8x1024x352 .bf16) (funext fun a => Fin.ext ?_ : _ = ix3 (⟨t.val % 8, Nat.mod_lt _ (by decide)⟩ : Fin 8) k q)).trans ?_
  · have hi := index1 t
    match a with
    | ⟨0, _⟩ => show win0_1.index t 0 * 1 + 1 * 0 = t.val % 8; rw [hi.1]; omega
    | ⟨1, _⟩ => show win0_1.index t 1 * 1024 + 1 * k.val = k.val; rw [hi.2.1]; omega
    | ⟨2, _⟩ => show win0_1.index t 2 * 352 + 1 * q.val = q.val; rw [hi.2.2]; omega
  · rw [V_v1]
    exact cols_apply _ _ _ _ k q

/-! ## The result -/

/-- An entry of the product. -/
def prod (h : FVec Ideal S2048x1024 .f32) (w : FVec Ideal S1024x2816 .bf16) (i : Fin 2048) (f : Fin 2816) : EReal :=
  ∑ k : Fin 1024, (h (ix2 i k) : EReal) * w (ix2 k f)

/-- The carried copy after a first step. -/
theorem step_first (n : ℕ) (h : n < cfg0.N) (x : Vec Ideal S1x2048x352 .bf16 × Vec Ideal S2048x1024 .bf16) (h0 : n % 8 = 0) (i : Fin 2048) (e : Fin 1024) :
    ((stAt0 m d n h x).2 (ix2 i e) : EReal) = (m (d, Proc.tc.devRef main_arg0) : FVec Ideal S2048x1024 .f32) (ix2 i e) := by
  have hs := congrArg Prod.snd (stAt0_A m d ⟨n, h⟩ x h0)
  dsimp only at hs
  rw [sA] at hs
  refine (congrFun hs (ix2 i e)).trans ?_
  exact (pay2_apply _ i e).trans (iblk0 m d ⟨n, h⟩ i e)
/-- The carried copy after a later step. -/
theorem step_later (n : ℕ) (h : n < cfg0.N) (x : Vec Ideal S1x2048x352 .bf16 × Vec Ideal S2048x1024 .bf16) (h0 : ¬n % 8 = 0) :
    (stAt0 m d n h x).2 = x.2 := by
  have hs := congrArg Prod.snd (stAt0_B m d ⟨n, h⟩ x h0)
  dsimp only at hs
  unfold sout0_B_1 at hs
  exact hs
/-- What any step writes back, from the carried copy it leaves. -/
theorem step_out (n : ℕ) (h : n < cfg0.N) (x : Vec Ideal S1x2048x352 .bf16 × Vec Ideal S2048x1024 .bf16) :
    (stAt0 m d n h x).1 = k0_pay4 (F := Ideal) (k0_pay3 (stAt0 m d n h x).2 (iblk m d 1 ⟨n, h⟩) (k0_pay1 (F := Ideal))) := by
  by_cases h0 : n % 8 = 0
  · have hs := congrArg Prod.snd (stAt0_A m d ⟨n, h⟩ x h0)
    have ho := congrArg Prod.fst (stAt0_A m d ⟨n, h⟩ x h0)
    dsimp only at hs ho
    rw [sA] at hs
    rw [oA] at ho
    rw [hs]
    exact ho
  · have ho := congrArg Prod.fst (stAt0_B m d ⟨n, h⟩ x h0)
    dsimp only at ho
    rw [oB] at ho
    rw [step_later m d n h x h0]
    exact ho

/-- The fold of the steps up to `n`. -/
abbrev fold (n : ℕ) (h : 0 + n < cfg0.N) : Vec Ideal S1x2048x352 .bf16 × Vec Ideal S2048x1024 .bf16 :=
  Pipeline.accAt (fun n h => stAt0 m d n h junk0) (stAt0 m d) 0 n h
/-- The carried copy after every step. -/
theorem fold_copy (n : ℕ) (h : 0 + n < cfg0.N) (i : Fin 2048) (e : Fin 1024) :
    ((fold m d n h).2 (ix2 i e) : EReal) = (m (d, Proc.tc.devRef main_arg0) : FVec Ideal S2048x1024 .f32) (ix2 i e) :=
  fold_carry (fun n h => stAt0 m d n h junk0) (stAt0 m d) (fun x => (x.2 (ix2 i e) : EReal))
    (fun r => (m (d, Proc.tc.devRef main_arg0) : FVec Ideal S2048x1024 .f32) (ix2 i e))
    (fun h => step_first m d 0 h _ (Nat.zero_mod 8) i e) (fun n h x h0 => step_first m d n h x h0 i e)
    (fun n h x h0 => congrFun (step_later m d n h x h0) (ix2 i e)) n h
/-- What every step writes back, from the carried copy. -/
theorem fold_out : ∀ (n : ℕ) (h : 0 + n < cfg0.N) (h' : n < cfg0.N),
    (fold m d n h).1 = k0_pay4 (F := Ideal) (k0_pay3 (fold m d n h).2 (iblk m d 1 ⟨n, h'⟩) (k0_pay1 (F := Ideal)))
  | 0, h, _ => step_out m d 0 h junk0
  | n + 1, h, h' => by
    have e := step_out m d (0 + (n + 1)) h (fold m d n (Nat.lt_of_succ_lt h))
    have hn : (⟨0 + (n + 1), h⟩ : Fin cfg0.N) = ⟨n + 1, h'⟩ := Fin.ext (Nat.zero_add _)
    rw [hn] at e
    exact e

/-- The result's array, entry by entry. -/
theorem G2_eq (j : Fin 8) (i : Fin 2048) (q : Fin 352) : (G2 m d : FVec Ideal S8x2048x352 .bf16) (ix3 j i q)
    = prod (m (d, Proc.tc.devRef main_arg0)) (m (d, Proc.tc.devRef main_arg1)) i (col j q) := by
  have hN : cfg0.N = 8 := N_0
  have hj := j.isLt
  have hi := i.isLt
  have hq := q.isLt
  have hp : pt2Of (ix3 j i q) = j.val := by
    show 1 * (j.val / 1 - 0) + 1 * (i.val / 2048 - 0) + 1 * (q.val / 352 - 0) = _
    omega
  have hlt : j.val < cfg0.N := by omega
  unfold G2
  rw [dif_pos (by rw [hp]; exact hlt)]
  have hl : loc2Of (ix3 j i q) = ix3 (0 : Fin 1) i q := funext fun a => Fin.ext (by
    match a with
    | ⟨0, _⟩ => show j.val % 1 = 0; omega
    | ⟨1, _⟩ => show i.val % 2048 = i.val; omega
    | ⟨2, _⟩ => show q.val % 352 = q.val; omega)
  have hf := fold_out m d (pt2Of (ix3 j i q)) (by omega) (by omega)
  rw [hl]
  refine (congrFun hf _).trans ?_
  refine (pay4_apply _ _ _ q).trans ?_
  unfold prod
  refine Finset.sum_congr rfl fun k _ => ?_
  rw [fold_copy, iblk1]
  refine congrArg₂ (fun a b : EReal => a * b) (congrArg _ ?_) (congrArg _ ?_)
  · rfl
  · exact congrArg (fun z => ix2 k (col z q)) (Fin.ext (by show pt2Of (ix3 j i q) % 8 = j.val; rw [hp]; omega))

end Cert.ColsFwd
-- ==== Proof.ColsFwdValue.lean ====
module
public import proofs.«01_k».proof.Defs
public import proofs.«01_k».proof.Proof.ColsFwd
public import Idealize.ShloMosaic.Adequacy
public import Idealize.ShloMosaic.Init
/-! The value claim of the column-parallel product: both programs hold the same entries. -/
@[expose] public section
noncomputable section
namespace Cert.ColsFwd
open Idealize.ShloMosaic Idealize.SL.Sem Cert.Cols

section ref
open Cert.Reference6Ideal Cert.Reference6Ideal.Gen Cert.Reference6Ideal.Read
/-- The reference's product. -/
theorem ref_prod (x0 : FVec Ideal S2048x1024 .f32) (x1 : FVec Ideal S1024x2816 .bf16) (i : Fin 2048) (f : Fin 2816) :
    val_main_v1 (F := Ideal) x0 x1 (ix2 i f) = prod x0 x1 i f := by
  rw [val_main_v1_apply]
  refine Finset.sum_congr rfl fun k _ => ?_
  rw [val_main_v0_apply]
  exact congrArg₂ (fun a b : EReal => a * b) (congrArg x0 (eq_ix2 _)) (congrArg x1 (eq_ix2 _))
/-- The reference's result. -/
theorem ref_eq (x0 : FVec Ideal S2048x1024 .f32) (x1 : FVec Ideal S1024x2816 .bf16) (j : Fin 8) (i : Fin 2048) (q : Fin 352) :
    val_main_v4 (F := Ideal) x0 x1 (ix3 j i q) = prod x0 x1 i (col j q) := by
  rw [val_main_v4_apply]
  unfold val_main_v3 val_main_v2
  exact (cols_apply _ _ _ j i q).trans (ref_prod _ _ _ _)
/-- The reference's result on the kernel's arguments. -/
theorem out_eq (m : (ℓ : Loc nD τ sig) → Buf (Elt Ideal) ℓ) (c : Dev nD) (x0 : FVec Ideal S2048x1024 .f32) (x1 : FVec Ideal S1024x2816 .bf16)
    (a0 : m ((c.tc : Thread nD τ).loc main_arg0) = x0) (a1 : m ((c.tc : Thread nD τ).loc main_arg1) = x1) (j : Fin 8) (i : Fin 2048) (q : Fin 352) :
    val_main_v4 (F := Ideal) (m ((c.tc : Thread nD τ).loc main_arg0)) (m ((c.tc : Thread nD τ).loc main_arg1)) (ix3 j i q) = prod x0 x1 i (col j q) := by
  subst a0 a1
  exact ref_eq _ _ j i q
end ref

/-- The reference run ends with its arguments kept and all counters at zero. -/
theorem frame_ref : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- Two arrays put by device agree when they hold the same entries. -/
theorem same (x y : FVec Ideal ⟨3, ![8, 2048, 352]⟩ .bf16) (f : Fin 2048 → Fin 2816 → EReal) (hx : ∀ j i q, x (ix3 j i q) = f i (col j q))
    (hy : ∀ j i q, y (ix3 j i q) = f i (col j q)) : x = y := by
  funext i
  have hi := eq_ix3 i
  exact (congrArg x hi).trans (((hx _ _ _).trans (hy _ _ _).symm).trans (congrArg y hi).symm)

/-- The value claim: the result is the same array in both programs. -/
theorem value : Cert.algebraic_Kernel6Ideal_Reference6Ideal (hKernel6Ideal := Cert.Kernel6Ideal.Gen.facts) (hReference6Ideal := Cert.Reference6Ideal.Gen.facts) := by
  intro m ρ m' ρ' _ hag
  refine ⟨Cert.Kernel6Ideal.Value.G2 m, ?_, ?_⟩
  · exact Cert.Kernel6Ideal.Value.run (F := Ideal) m ρ
  · refine (θ_run Cert.Reference6Ideal.defs _ _).mono (fun r h c => ?_) (Cert.Reference6Ideal.Value.run (F := Ideal) m' ρ')
    obtain ⟨e0, ek⟩ := h c
    obtain ⟨a0, a1⟩ := hag c
    exact ⟨e0.trans ((Cert.Reference6Ideal.Read.val_main_v4_eq _ _).trans (same _ _ _ (out_eq m' c _ _ a0 a1) (G2_eq m c))), ek⟩

end Cert.ColsFwd
-- ==== Proof.Down.lean ====
module
public import proofs.«01_k».proof.Proof.Gen.Kernel7Ideal.Value
public import proofs.«01_k».proof.Proof.Gen.Reference7Ideal.Read
public import proofs.«01_k».proof.Proof.Cols
/-! What the call for the gated down product leaves: the residual stream and the fold over the devices' shards. -/
@[expose] public section
noncomputable section
namespace Cert.Down
open Idealize.ShloMosaic Idealize.SL.Sem Cert.Cols Cert.Kernel7Ideal Cert.Kernel7Ideal.Gen Cert.Kernel7Ideal.Value

section body
variable {F : FTy → Type} [FloatOps F] (c : Dev nD) (i : grid0.Coords)

/-- What a first step leaves of the running sum. -/
theorem sA (arg3 : Memref sig .tc .vmem S1x1024x352 .bf16) (harg3 : arg3.IsWhole) (arg4 : Memref sig .tc .vmem S1x1024x352 .bf16) (harg4 : arg4.IsWhole) (arg5 : Memref sig .tc .vmem S1x352x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1x1024x352 .bf16) (x1 : Vec F S1x1024x352 .bf16) (x2 : Vec F S1x352x1024 .bf16) (x3 : Vec F S1024x1024 .f32) : sout0_A_0 c i arg3 harg3 arg4 harg4 arg5 harg5 arg6 harg6 arg7 harg7 arg8 harg8 hc0 hc1 x0 x1 x2 x3 = k0_pay2 k0_pay1 x0 x1 x2 := by
  unfold sout0_A_0
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg8.read_unread]
  try simp only [View.readCov_cons_toLoadRect]
  simp only [View.ld_unit_zero (S := S1x1024x352) (off := ![0, 0, 0]) (by decide), View.ld_unit_zero (S := S1x352x1024) (off := ![0, 0, 0]) (by decide),
    View.ld_unit_zero (S := S1024x1024) (off := ![0, 0]) (by decide)]
/-- What a middle step leaves of the running sum. -/
theorem sB (arg3 : Memref sig .tc .vmem S1x1024x352 .bf16) (harg3 : arg3.IsWhole) (arg4 : Memref sig .tc .vmem S1x1024x352 .bf16) (harg4 : arg4.IsWhole) (arg5 : Memref sig .tc .vmem S1x352x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1x1024x352 .bf16) (x1 : Vec F S1x1024x352 .bf16) (x2 : Vec F S1x352x1024 .bf16) (x3 : Vec F S1024x1024 .f32) (xs0 : Vec F S1024x1024 .f32) : sout0_B_0 c i arg3 harg3 arg4 harg4 arg5 harg5 arg6 harg6 arg7 harg7 arg8 harg8 hc0 hc1 x0 x1 x2 x3 xs0 = k0_pay2 xs0 x0 x1 x2 := by
  unfold sout0_B_0
  rw [View.read_writes_junk_eq_canon]
  unfold kernelRun0_B
  refine (View.canon_cons_unit_zero (by decide) _ _ _).trans ?_
  sl_unfold_words
  simp only [View.readAt_eq_ld, harg3.read_unread, harg4.read_unread, harg5.read_unread, harg6.read_unread, harg8.read_unread]
  try simp only [View.readCov_cons_toLoadRect]
  simp only [View.ld_unit_zero (S := S1x1024x352) (off := ![0, 0, 0]) (by decide), View.ld_unit_zero (S := S1x352x1024) (off := ![0, 0, 0]) (by decide),
    View.ld_unit_zero (S := S1024x1024) (off := ![0, 0]) (by decide)]
/-- What a last step leaves of the result. -/
theorem oC (arg3 : Memref sig .tc .vmem S1x1024x352 .bf16) (harg3 : arg3.IsWhole) (arg4 : Memref sig .tc .vmem S1x1024x352 .bf16) (harg4 : arg4.IsWhole) (arg5 : Memref sig .tc .vmem S1x352x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1x1024x352 .bf16) (x1 : Vec F S1x1024x352 .bf16) (x2 : Vec F S1x352x1024 .bf16) (x3 : Vec F S1024x1024 .f32) (xs0 : Vec F S1024x1024 .f32) : out0_C_4 c i arg3 harg3 arg4 harg4 arg5 harg5 arg6 harg6 arg7 harg7 arg8 harg8 hc0 hc1 x0 x1 x2 x3 xs0 = k0_pay3 (k0_pay2 xs0 x0 x1 x2) x3 := by
  unfold out0_C_4
  rw [View.read_writes_junk_eq_canon]
  unfold kernelRun0_C
  refine (View.canon_cons_unit_zero (by decide) _ _ _).trans ?_
  sl_unfold_words
  simp only [View.readAt_eq_ld, harg3.read_unread, harg4.read_unread, harg5.read_unread, harg6.read_unread, harg8.read_unread]
  try simp only [View.readCov_cons_toLoadRect]
  simp only [View.ld_unit_zero (S := S1x1024x352) (off := ![0, 0, 0]) (by decide), View.ld_unit_zero (S := S1x352x1024) (off := ![0, 0, 0]) (by decide),
    View.ld_unit_zero (S := S1024x1024) (off := ![0, 0]) (by decide)]
end body

/-- An entry of a step's running sum. -/
theorem pay2_apply (x : Vec Ideal S1024x1024 .f32) (x0 x1 : Vec Ideal S1x1024x352 .bf16) (x2 : Vec Ideal S1x352x1024 .bf16) (i e : Fin 1024) :
    k0_pay2 (F := Ideal) x x0 x1 x2 (ix2 i e) = x (ix2 i e)
      + ∑ q : Fin 352, (x0 (ix3 (0 : Fin 1) i q) * sig (x0 (ix3 (0 : Fin 1) i q)) * x1 (ix3 (0 : Fin 1) i q)) * (x2 (ix3 (0 : Fin 1) q e) : EReal) := by
  pointwise [k0_pay2]
  simp only [zero_sub]
  rfl
/-- The running sum starts at zero. -/
theorem pay1_apply (i e : Fin 1024) : k0_pay1 (F := Ideal) (ix2 i e) = (0 : EReal) := by
  pointwise [k0_pay1]
/-- The last step adds the residual stream. -/
theorem pay3_apply (x y : Vec Ideal S1024x1024 .f32) (i e : Fin 1024) : k0_pay3 (F := Ideal) x y (ix2 i e) = (x (ix2 i e) + y (ix2 i e) : EReal) := by
  pointwise [k0_pay3]

/-! ## The windows' blocks -/

variable (m : (ℓ : Loc nD τ sig) → Buf (Elt Ideal) ℓ) (d : Dev nD)

/-- The gate's columns as the region finds them. -/
theorem V_v1 : (V m d main_v1 : FVec Ideal S8x2048x352 .bf16) = transpose S8x2048x352 [1, 0, 2]
    (shapeCast S2048x8x352 (m (d, Proc.tc.devRef main_arg1) : FVec Ideal S2048x2816 .bf16) shapeCasts_S2048x2816_S2048x8x352) transposes_S2048x8x352_S8x2048x352_1_0_2 := by
  simp only [V, hostOps0, StableHlo.after_cons, StableHlo.after_nil]
  rfl
/-- The other factor's columns as the region finds them. -/
theorem V_v3 : (V m d main_v3 : FVec Ideal S8x2048x352 .bf16) = transpose S8x2048x352 [1, 0, 2]
    (shapeCast S2048x8x352 (m (d, Proc.tc.devRef main_arg2) : FVec Ideal S2048x2816 .bf16) shapeCasts_S2048x2816_S2048x8x352) transposes_S2048x8x352_S8x2048x352_1_0_2 := by
  simp only [V, hostOps0, StableHlo.after_cons, StableHlo.after_nil]
  rfl
/-- The weights' rows as the region finds them. -/
theorem V_v4 : (V m d main_v4 : FVec Ideal S8x352x1024 .bf16)
    = shapeCast S8x352x1024 (m (d, Proc.tc.devRef main_arg3) : FVec Ideal S2816x1024 .bf16) shapeCasts_S2816x1024_S8x352x1024 := by
  simp only [V, hostOps0, StableHlo.after_cons, StableHlo.after_nil]
  rfl
/-- The residual stream as the region finds it. -/
theorem V_arg0 : (V m d main_arg0 : FVec Ideal S2048x1024 .f32) = m (d, Proc.tc.devRef main_arg0) := by
  simp only [V, hostOps0, StableHlo.after_cons, StableHlo.after_nil]
  rfl
/-- The gate's block of a step. -/
theorem index0 : ∀ t : Fin cfg0.N, win0_0.index t 0 = t.val % 8 ∧ win0_0.index t 1 = t.val / 8 ∧ win0_0.index t 2 = 0 := by decide +kernel
/-- The other factor's block of a step. -/
theorem index1 : ∀ t : Fin cfg0.N, win0_1.index t 0 = t.val % 8 ∧ win0_1.index t 1 = t.val / 8 ∧ win0_1.index t 2 = 0 := by decide +kernel
/-- The weights' block of a step. -/
theorem index2 : ∀ t : Fin cfg0.N, win0_2.index t 0 = t.val % 8 ∧ win0_2.index t 1 = 0 ∧ win0_2.index t 2 = 0 := by decide +kernel
/-- The residual stream's block of a step. -/
theorem index3 : ∀ t : Fin cfg0.N, win0_3.index t 0 = t.val / 8 ∧ win0_3.index t 1 = 0 := by decide +kernel

/-- The row that a half's row is. -/
def row (r : ℕ) (i : Fin 1024) : Fin 2048 := ⟨(1024 * r + i.val) % 2048, Nat.mod_lt _ (by decide)⟩
/-- An entry of the gate's block. -/
theorem iblk0 (t : Fin cfg0.N) (i : Fin 1024) (q : Fin 352) : (iblk m d 0 t : Vec Ideal S1x1024x352 .bf16) (ix3 (0 : Fin 1) i q)
    = (m (d, Proc.tc.devRef main_arg1) : FVec Ideal S2048x2816 .bf16) (ix2 (row (t.val / 8) i) (col ⟨t.val % 8, Nat.mod_lt _ (by decide)⟩ q)) := by
  unfold iblk
  rw [View.read_apply]
  refine (congrArg (V m d main_v1 : FVec Ideal S8x2048x352 .bf16) (funext fun a => Fin.ext ?_ : _ = ix3 (⟨t.val % 8, Nat.mod_lt _ (by decide)⟩ : Fin 8) (row (t.val / 8) i) q)).trans ?_
  · have hi := index0 t
    have ht := lt_of_lt_of_eq t.isLt N_0
    have he := i.isLt
    match a with
    | ⟨0, _⟩ => show win0_0.index t 0 * 1 + 1 * 0 = t.val % 8; rw [hi.1]; omega
    | ⟨1, _⟩ => show win0_0.index t 1 * 1024 + 1 * i.val = (1024 * (t.val / 8) + i.val) % 2048; rw [hi.2.1]; omega
    | ⟨2, _⟩ => show win0_0.index t 2 * 352 + 1 * q.val = q.val; rw [hi.2.2]; omega
  · rw [V_v1]
    exact cols_apply _ _ _ _ _ q
/-- An entry of the other factor's block. -/
theorem iblk1 (t : Fin cfg0.N) (i : Fin 1024) (q : Fin 352) : (iblk m d 1 t : Vec Ideal S1x1024x352 .bf16) (ix3 (0 : Fin 1) i q)
    = (m (d, Proc.tc.devRef main_arg2) : FVec Ideal S2048x2816 .bf16) (ix2 (row (t.val / 8) i) (col ⟨t.val % 8, Nat.mod_lt _ (by decide)⟩ q)) := by
  unfold iblk
  rw [View.read_apply]
  refine (congrArg (V m d main_v3 : FVec Ideal S8x2048x352 .bf16) (funext fun a => Fin.ext ?_ : _ = ix3 (⟨t.val % 8, Nat.mod_lt _ (by decide)⟩ : Fin 8) (row (t.val / 8) i) q)).trans ?_
  · have hi := index1 t
    have ht := lt_of_lt_of_eq t.isLt N_0
    have he := i.isLt
    match a with
    | ⟨0, _⟩ => show win0_1.index t 0 * 1 + 1 * 0 = t.val % 8; rw [hi.1]; omega
    | ⟨1, _⟩ => show win0_1.index t 1 * 1024 + 1 * i.val = (1024 * (t.val / 8) + i.val) % 2048; rw [hi.2.1]; omega
    | ⟨2, _⟩ => show win0_1.index t 2 * 352 + 1 * q.val = q.val; rw [hi.2.2]; omega
  · rw [V_v3]
    exact cols_apply _ _ _ _ _ q
/-- An entry of the weights' block. -/
theorem iblk2 (t : Fin cfg0.N) (q : Fin 352) (e : Fin 1024) : (iblk m d 2 t : Vec Ideal S1x352x1024 .bf16) (ix3 (0 : Fin 1) q e)
    = (m (d, Proc.tc.devRef main_arg3) : FVec Ideal S2816x1024 .bf16) (ix2 (col ⟨t.val % 8, Nat.mod_lt _ (by decide)⟩ q) e) := by
  unfold iblk
  rw [View.read_apply]
  refine (congrArg (V m d main_v4 : FVec Ideal S8x352x1024 .bf16) (funext fun a => Fin.ext ?_ : _ = ix3 (⟨t.val % 8, Nat.mod_lt _ (by decide)⟩ : Fin 8) q e)).trans ?_
  · have hi := index2 t
    match a with
    | ⟨0, _⟩ => show win0_2.index t 0 * 1 + 1 * 0 = t.val % 8; rw [hi.1]; omega
    | ⟨1, _⟩ => show win0_2.index t 1 * 352 + 1 * q.val = q.val; rw [hi.2.1]; omega
    | ⟨2, _⟩ => show win0_2.index t 2 * 1024 + 1 * e.val = e.val; rw [hi.2.2]; omega
  · rw [V_v4]
    exact rows_apply _ _ _ q e
/-- An entry of the residual stream's block. -/
theorem iblk3 (t : Fin cfg0.N) (i e : Fin 1024) : (iblk m d 3 t : Vec Ideal S1024x1024 .f32) (ix2 i e)
    = (m (d, Proc.tc.devRef main_arg0) : FVec Ideal S2048x1024 .f32) (ix2 (row (t.val / 8) i) e) := by
  unfold iblk
  rw [View.read_apply]
  refine (congrArg (V m d main_arg0 : FVec Ideal S2048x1024 .f32) (funext fun a => Fin.ext ?_ : _ = ix2 (row (t.val / 8) i) e)).trans ?_
  · have hi := index3 t
    have ht := lt_of_lt_of_eq t.isLt N_0
    have he := i.isLt
    match a with
    | ⟨0, _⟩ => show win0_3.index t 0 * 1024 + 1 * i.val = (1024 * (t.val / 8) + i.val) % 2048; rw [hi.1]; omega
    | ⟨1, _⟩ => show win0_3.index t 1 * 1024 + 1 * e.val = e.val; rw [hi.2]; omega
  · rw [V_arg0]

/-! ## The result -/

/-- What one device's shard adds to an entry of the gated down product. -/
def shard (g u : FVec Ideal S2048x2816 .bf16) (w : FVec Ideal S2816x1024 .bf16) (i : Fin 2048) (e : Fin 1024) (j : Fin 8) : EReal :=
  ∑ q : Fin 352, (g (ix2 i (col j q)) * sig (g (ix2 i (col j q))) * u (ix2 i (col j q))) * (w (ix2 (col j q) e) : EReal)
/-- An entry of the gated down product. -/
def down (g u : FVec Ideal S2048x2816 .bf16) (w : FVec Ideal S2816x1024 .bf16) (i : Fin 2048) (e : Fin 1024) : EReal :=
  ∑ k : Fin 2816, (g (ix2 i k) * sig (g (ix2 i k)) * u (ix2 i k)) * (w (ix2 k e) : EReal)
/-- What step `n` adds to an entry of its half. -/
def added (n : ℕ) (i e : Fin 1024) : EReal :=
  shard (m (d, Proc.tc.devRef main_arg1)) (m (d, Proc.tc.devRef main_arg2)) (m (d, Proc.tc.devRef main_arg3)) (row (n / 8) i) e ⟨n % 8, Nat.mod_lt _ (by decide)⟩

/-- What a step adds to the running sum. -/
theorem pay2_step (t : Fin cfg0.N) (x : Vec Ideal S1024x1024 .f32) (i e : Fin 1024) :
    k0_pay2 (F := Ideal) x (iblk m d 0 t) (iblk m d 1 t) (iblk m d 2 t) (ix2 i e) = x (ix2 i e) + added m d t.val i e := by
  refine (pay2_apply _ _ _ _ i e).trans ?_
  simp only [iblk0, iblk1, iblk2]
  rfl
/-- A first step leaves its product. -/
theorem step_first (n : ℕ) (h : n < cfg0.N) (x : Vec Ideal S1024x1024 .f32 × Vec Ideal S1024x1024 .f32) (h0 : n % 8 = 0) (i e : Fin 1024) :
    ((stAt0 m d n h x).2 (ix2 i e) : EReal) = added m d n i e := by
  have hs := congrArg Prod.snd (stAt0_A m d ⟨n, h⟩ x h0 (by show ¬n % 8 = 7; omega))
  dsimp only at hs
  rw [sA] at hs
  refine (congrFun hs (ix2 i e)).trans ?_
  refine (pay2_step m d _ _ i e).trans ?_
  rw [pay1_apply, zero_add]
/-- A middle step adds its product. -/
theorem step_mid (n : ℕ) (h : n < cfg0.N) (x : Vec Ideal S1024x1024 .f32 × Vec Ideal S1024x1024 .f32) (h0 : ¬n % 8 = 0) (h7 : ¬n % 8 = 7) (i e : Fin 1024) :
    ((stAt0 m d n h x).2 (ix2 i e) : EReal) = x.2 (ix2 i e) + added m d n i e := by
  have hs := congrArg Prod.snd (stAt0_B m d ⟨n, h⟩ x h0 h7)
  dsimp only at hs
  rw [sB] at hs
  refine (congrFun hs (ix2 i e)).trans ?_
  exact pay2_step m d _ _ i e
/-- A last step writes the sum, its product and the residual stream. -/
theorem step_last (n : ℕ) (h : n < cfg0.N) (x : Vec Ideal S1024x1024 .f32 × Vec Ideal S1024x1024 .f32) (h7 : n % 8 = 7) (i e : Fin 1024) :
    ((stAt0 m d n h x).1 (ix2 i e) : EReal) = (x.2 (ix2 i e) + added m d n i e) + (m (d, Proc.tc.devRef main_arg0) : FVec Ideal S2048x1024 .f32) (ix2 (row (n / 8) i) e) := by
  have hs := congrArg Prod.fst (stAt0_C m d ⟨n, h⟩ x (by show ¬n % 8 = 0; omega) h7)
  dsimp only at hs
  rw [oC] at hs
  refine (congrFun hs (ix2 i e)).trans ?_
  refine (pay3_apply _ _ i e).trans ?_
  rw [pay2_step, iblk3]

/-- The fold of the steps up to `n`. -/
abbrev fold (n : ℕ) (h : 0 + n < cfg0.N) : Vec Ideal S1024x1024 .f32 × Vec Ideal S1024x1024 .f32 :=
  Pipeline.accAt (fun n h => stAt0 m d n h junk0) (stAt0 m d) 0 n h
/-- The running sum of a half, before its last step. -/
theorem fold_sum2 (n : ℕ) (h : 0 + n < cfg0.N) (h7 : ¬n % 8 = 7) (i e : Fin 1024) :
    ((fold m d n h).2 (ix2 i e) : EReal) = ∑ k ∈ Finset.range (n % 8 + 1), added m d (8 * (n / 8) + k) i e :=
  fold_groups (fun n h => stAt0 m d n h junk0) (stAt0 m d) (fun x => (x.2 (ix2 i e) : EReal)) (fun n => added m d n i e)
    (fun h => step_first m d 0 h _ (Nat.zero_mod 8) i e) (fun n h x h0 => step_first m d n h x h0 i e)
    (fun n h x h0 h7 => step_mid m d n h x h0 h7 i e) n h h7
/-- The products of a half's eight steps. -/
theorem added_sum (r : ℕ) (i e : Fin 1024) : ∑ k ∈ Finset.range 8, added m d (8 * r + k) i e
    = down (m (d, Proc.tc.devRef main_arg1)) (m (d, Proc.tc.devRef main_arg2)) (m (d, Proc.tc.devRef main_arg3)) (row r i) e := by
  unfold down
  rw [sum_cols, Finset.sum_range]
  refine Finset.sum_congr rfl fun j _ => ?_
  have hj := j.isLt
  unfold added
  rw [show (8 * r + j.val) / 8 = r by omega, show (⟨(8 * r + j.val) % 8, Nat.mod_lt _ (by decide)⟩ : Fin 8) = j from Fin.ext (by show (8 * r + j.val) % 8 = j.val; omega)]
  rfl
/-- What a half's last step leaves of the result. -/
theorem fold_last (r : ℕ) (h : 0 + (8 * r + 6 + 1) < cfg0.N) (i e : Fin 1024) : ((fold m d (8 * r + 6 + 1) h).1 (ix2 i e) : EReal)
    = down (m (d, Proc.tc.devRef main_arg1)) (m (d, Proc.tc.devRef main_arg2)) (m (d, Proc.tc.devRef main_arg3)) (row r i) e
      + (m (d, Proc.tc.devRef main_arg0) : FVec Ideal S2048x1024 .f32) (ix2 (row r i) e) := by
  have hl := step_last m d (0 + (8 * r + 6 + 1)) h (fold m d (8 * r + 6) (Nat.lt_of_succ_lt h)) (by omega) i e
  rw [fold_sum2 m d (8 * r + 6) _ (by omega), show (8 * r + 6) % 8 + 1 = 7 by omega, show (8 * r + 6) / 8 = r by omega,
    congrArg (fun z => added m d z i e) (show 0 + (8 * r + 6 + 1) = 8 * r + 7 by omega), congrArg (fun z => row z i) (show (0 + (8 * r + 6 + 1)) / 8 = r by omega),
    ← Finset.sum_range_succ (fun k => added m d (8 * r + k) i e) 7, added_sum] at hl
  exact hl

/-- The result's array, entry by entry. -/
theorem G4_eq (i : Fin 2048) (e : Fin 1024) : (G4 m d : FVec Ideal S2048x1024 .f32) (ix2 i e)
    = down (m (d, Proc.tc.devRef main_arg1)) (m (d, Proc.tc.devRef main_arg2)) (m (d, Proc.tc.devRef main_arg3)) i e
      + (m (d, Proc.tc.devRef main_arg0) : FVec Ideal S2048x1024 .f32) (ix2 i e) := by
  have hN : cfg0.N = 16 := N_0
  have hi := i.isLt
  have he := e.isLt
  have hp : pt4Of (ix2 i e) = 8 * (i.val / 1024) + 6 + 1 := by
    show 8 * (1 * (i.val / 1024 - 0) + 1 * (e.val / 1024 - 0)) + 7 = _
    omega
  have hlt : 0 + (8 * (i.val / 1024) + 6 + 1) < cfg0.N := by omega
  unfold G4
  rw [dif_pos (by rw [hp]; omega)]
  have hl : loc4Of (ix2 i e) = ix2 (⟨i.val % 1024, Nat.mod_lt _ (by decide)⟩ : Fin 1024) e := funext fun a => Fin.ext (by
    match a with
    | ⟨0, _⟩ => rfl
    | ⟨1, _⟩ => show e.val % 1024 = e.val; omega)
  rw [hl]
  refine (congrArg (fun z : Vec Ideal S1024x1024 .f32 × Vec Ideal S1024x1024 .f32 => z.1 (ix2 (⟨i.val % 1024, Nat.mod_lt _ (by decide)⟩ : Fin 1024) e))
    (fold0_congr m d _ (by omega) _ hlt hp)).trans ?_
  refine (fold_last m d (i.val / 1024) hlt _ e).trans ?_
  rw [show row (i.val / 1024) (⟨i.val % 1024, Nat.mod_lt _ (by decide)⟩ : Fin 1024) = i from Fin.ext (by show (1024 * (i.val / 1024) + i.val % 1024) % 2048 = i.val; omega)]

end Cert.Down
-- ==== Proof.DownValue.lean ====
module
public import proofs.«01_k».proof.Defs
public import proofs.«01_k».proof.Proof.Down
public import Idealize.ShloMosaic.Adequacy
public import Idealize.ShloMosaic.Init
/-! The value claim of the gated down product: both programs hold the same entries. -/
@[expose] public section
noncomputable section
namespace Cert.Down
open Idealize.ShloMosaic Idealize.SL.Sem Cert.Cols

section ref
open Cert.Reference7Ideal Cert.Reference7Ideal.Gen Cert.Reference7Ideal.Read
variable (x0 : FVec Ideal S2048x1024 .f32) (x1 x2 : FVec Ideal S2048x2816 .bf16) (x3 : FVec Ideal S2816x1024 .bf16)

/-- The reference's gated activation. -/
theorem ref_act (i : Fin 2048) (k : Fin 2816) : val_main_v3 (F := Ideal) x1 x2 (ix2 i k) = x1 (ix2 i k) * sig (x1 (ix2 i k)) * x2 (ix2 i k) := by
  pointwise [val_main_v3, val_main_v2, val_main_v1, val_main_call0_v5, val_main_call0_v4, val_main_call0_cst_0, val_main_call0_v3, val_main_call0_v2, val_main_call0_cst,
    val_main_call0_v1, val_main_call0_v0, val_main_v0]
  rfl
/-- The reference's result. -/
theorem ref_eq (i : Fin 2048) (e : Fin 1024) : val_main_v6 (F := Ideal) x0 x1 x2 x3 (ix2 i e) = down x1 x2 x3 i e + x0 (ix2 i e) := by
  rw [val_main_v6_apply, val_main_v5_apply]
  refine (add_comm _ _).trans (congrArg (fun z : EReal => z + (x0 (ix2 i e) : EReal)) ?_)
  refine Finset.sum_congr rfl fun k _ => ?_
  rw [val_main_v4_apply]
  refine congrArg₂ (fun a b : EReal => a * b) ?_ (congrArg x3 (eq_ix2 _))
  exact (congrArg (val_main_v3 (F := Ideal) x1 x2) (eq_ix2 _)).trans (ref_act x1 x2 i k)
end ref

/-- The reference run ends with its arguments kept and all counters at zero. -/
theorem frame_ref : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run (F := Ideal) m ρ)

section out
open Cert.Reference7Ideal Cert.Reference7Ideal.Gen Cert.Reference7Ideal.Read
/-- The reference's result on the kernel's arguments. -/
theorem out_eq (m : (ℓ : Loc nD τ sig) → Buf (Elt Ideal) ℓ) (c : Dev nD) (x0 : FVec Ideal S2048x1024 .f32) (x1 x2 : FVec Ideal S2048x2816 .bf16)
    (x3 : FVec Ideal S2816x1024 .bf16)
    (a0 : m ((c.tc : Thread nD τ).loc main_arg0) = x0) (a1 : m ((c.tc : Thread nD τ).loc main_arg1) = x1) (a2 : m ((c.tc : Thread nD τ).loc main_arg2) = x2)
    (a3 : m ((c.tc : Thread nD τ).loc main_arg3) = x3) (i : Fin 2048) (e : Fin 1024) :
    val_main_v6 (F := Ideal) (m ((c.tc : Thread nD τ).loc main_arg0)) (m ((c.tc : Thread nD τ).loc main_arg1)) (m ((c.tc : Thread nD τ).loc main_arg2))
      (m ((c.tc : Thread nD τ).loc main_arg3)) (ix2 i e) = down x1 x2 x3 i e + x0 (ix2 i e) := by
  subst a0 a1 a2 a3
  exact ref_eq _ _ _ _ i e
end out

/-- Two arrays of two axes agree when they hold the same entries. -/
theorem same (x y : FVec Ideal ⟨2, ![2048, 1024]⟩ .f32) (f : Fin 2048 → Fin 1024 → EReal) (hx : ∀ i e, x (ix2 i e) = f i e)
    (hy : ∀ i e, y (ix2 i e) = f i e) : x = y := by
  funext i
  have hi := eq_ix2 i
  exact (congrArg x hi).trans (((hx _ _).trans (hy _ _).symm).trans (congrArg y hi).symm)

/-- The value claim: the residual stream with the gated down product added is the same array in both programs. -/
theorem value : Cert.algebraic_Kernel7Ideal_Reference7Ideal (hKernel7Ideal := Cert.Kernel7Ideal.Gen.facts) (hReference7Ideal := Cert.Reference7Ideal.Gen.facts) := by
  intro m ρ m' ρ' _ hag
  refine ⟨Cert.Kernel7Ideal.Value.G4 m, ?_, ?_⟩
  · exact Cert.Kernel7Ideal.Value.run (F := Ideal) m ρ
  · refine (θ_run Cert.Reference7Ideal.defs _ _).mono (fun r h c => ?_) (Cert.Reference7Ideal.Value.run (F := Ideal) m' ρ')
    obtain ⟨e0, ek⟩ := h c
    obtain ⟨a0, a1, a2, a3⟩ := hag c
    exact ⟨e0.trans ((Cert.Reference7Ideal.Read.val_main_v6_eq _ _ _ _).trans (same _ _ _ (out_eq m' c _ _ _ _ a0 a1 a2 a3) (G4_eq m c))), ek⟩

end Cert.Down
-- ==== Proof.Shards.lean ====
module
public import proofs.«01_k».proof.Proof.Cols
/-! Shards of any width, the two halves of 2048 rows, and equality of two arrays entry by entry. -/
@[expose] public section
noncomputable section
namespace Cert.Shards
open Idealize.ShloMosaic

/-- Column `c` of device `j`'s shard among the 3072 columns. -/
def wide (j : Fin 8) (c : Fin 384) : Fin 3072 := ⟨384 * j.val + c.val, by omega⟩

/-- A sum over the columns is the sum over the devices of the sums over their shards. -/
theorem sum_wide {M : Type} [AddCommMonoid M] (f : Fin 3072 → M) : ∑ k, f k = ∑ j : Fin 8, ∑ c : Fin 384, f (wide j c) := by
  rw [← Fintype.sum_prod_type', ← (finProdFinEquiv (m := 8) (n := 384)).sum_comp]
  refine Finset.sum_congr rfl fun p _ => congrArg f (Fin.ext ?_)
  show p.2.val + 384 * p.1.val = 384 * p.1.val + p.2.val
  omega

/-- Every column is a column of a shard. -/
theorem wide_surj (k : Fin 3072) : k = wide ⟨k.val / 384, by omega⟩ ⟨k.val % 384, Nat.mod_lt _ (by decide)⟩ := by
  apply Fin.ext
  show k.val = 384 * (k.val / 384) + k.val % 384
  omega

/-- An array's columns put by device: entry of shard `j`. -/
theorem wide_apply {α : Type} {n : ℕ} (x : (⟨2, ![n, 3072]⟩ : Shape).Idx → α) (h : Shape.ShapeCasts ⟨2, ![n, 3072]⟩ ⟨3, ![n, 8, 384]⟩)
    (h' : Shape.Transposes ⟨3, ![n, 8, 384]⟩ [1, 0, 2] ⟨3, ![8, n, 384]⟩) (j : Fin 8) (i : Fin n) (c : Fin 384) :
    transpose ⟨3, ![8, n, 384]⟩ [1, 0, 2] (shapeCast ⟨3, ![n, 8, 384]⟩ x h) h' (ix3 j i c) = x (ix2 i (wide j c)) := by
  rw [transpose_apply [1, 0, 2] _ h' (ix3 j i c) (ix3 i j c) (fun b => match b with
    | ⟨0, _⟩ => rfl
    | ⟨1, _⟩ => rfl
    | ⟨2, _⟩ => rfl)]
  refine shapeCast_apply x h _ _ ?_
  rw [Shape.rowMajor_val_two, Shape.rowMajor_val_three]
  show i.val * 3072 + (384 * j.val + c.val) = (i.val * 8 + j.val) * 384 + c.val
  omega

/-- Row `i` of half `r` among the 2048 rows. -/
def row (r : ℕ) (i : Fin 1024) : Fin 2048 := ⟨(1024 * r + i.val) % 2048, Nat.mod_lt _ (by decide)⟩
/-- Row `i` of a half, the half being one of two. -/
theorem row_val (r : ℕ) (h : r < 2) (i : Fin 1024) : (row r i).val = 1024 * r + i.val := Nat.mod_eq_of_lt (by omega)
/-- Every row is a row of a half. -/
theorem row_surj (i : Fin 2048) : i = row (i.val / 1024) ⟨i.val % 1024, Nat.mod_lt _ (by decide)⟩ := by
  apply Fin.ext
  show i.val = (1024 * (i.val / 1024) + i.val % 1024) % 2048
  omega
/-- A sum over the rows is the sum over both halves. -/
theorem sum_rows {M : Type} [AddCommMonoid M] (f : Fin 2048 → M) : ∑ k, f k = ∑ i, f (row 0 i) + ∑ i, f (row 1 i) := by
  refine (Fin.sum_univ_add (a := 1024) (b := 1024) f).trans ?_
  refine congrArg₂ (· + ·) (Finset.sum_congr rfl fun i _ => congrArg f (Fin.ext ?_)) (Finset.sum_congr rfl fun i _ => congrArg f (Fin.ext ?_))
  · show i.val = (1024 * 0 + i.val) % 2048
    omega
  · show 1024 + i.val = (1024 * 1 + i.val) % 2048
    omega

/-- Two arrays of two axes agree when they hold the same entries. -/
theorem same {φ : FTy} {a b : ℕ} (x y : FVec Ideal ⟨2, ![a, b]⟩ φ) (f : Fin a → Fin b → EReal) (hx : ∀ i e, x (ix2 i e) = f i e)
    (hy : ∀ i e, y (ix2 i e) = f i e) : x = y := by
  funext i
  have hi := eq_ix2 i
  exact (congrArg x hi).trans (((hx _ _).trans (hy _ _).symm).trans (congrArg y hi).symm)
/-- Two arrays of three axes agree when they hold the same entries. -/
theorem same3 {φ : FTy} {a b c : ℕ} (x y : FVec Ideal ⟨3, ![a, b, c]⟩ φ) (f : Fin a → Fin b → Fin c → EReal) (hx : ∀ i j e, x (ix3 i j e) = f i j e)
    (hy : ∀ i j e, y (ix3 i j e) = f i j e) : x = y := by
  funext i
  have hi := eq_ix3 i
  exact (congrArg x hi).trans (((hx _ _ _).trans (hy _ _ _).symm).trans (congrArg y hi).symm)

end Cert.Shards
-- ==== Proof.LinDa.lean ====
module
public import proofs.«01_k».proof.Defs
public import proofs.«01_k».proof.Proof.Gen.Kernel8Ideal.Value
public import proofs.«01_k».proof.Proof.Gen.Reference8Ideal.Read
public import proofs.«01_k».proof.Proof.Shards
public import Idealize.ShloMosaic.Adequacy
public import Idealize.ShloMosaic.Init
/-! The call for the gradient at the input of a product, and the same entries of its reference. -/
@[expose] public section
noncomputable section
namespace Cert.LinDa
open Idealize.ShloMosaic Idealize.SL.Sem Cert.Shards

section kernel
open Cert.Kernel8Ideal Cert.Kernel8Ideal.Gen

section body
variable {F : FTy → Type} [FloatOps F] (c : Dev nD) (i : grid0.Coords)

/-- What a point leaves of the result. -/
theorem out (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : cond0_1 i) (x0 : Vec F S1024x1024 .f32) (x1 : Vec F S1024x1024 .bf16) : out0_A_2 c i arg3 harg3 arg4 harg4 arg5 harg5 arg6 harg6 hc0 hc1 x0 x1 = k0_pay2 k0_pay1 x0 x1 := by
  unfold out0_A_2
  rw [View.read_writes_junk_eq_canon]
  unfold kernelRun0_A
  refine (View.canon_unit_zero (by decide) _ _).trans ?_
  sl_unfold_words
  simp only [View.readAt_eq_ld, harg3.read_unread, harg4.read_unread]
  simp only [View.readCov_cons_toLoadRect]
  simp only [View.ld_unit_zero (S := S1024x1024) (off := ![0, 0]) (by decide)]
end body

/-- An entry of a block's product. -/
theorem prod_apply (x0 : Vec Ideal S1024x1024 .f32) (x1 : Vec Ideal S1024x1024 .bf16) (i e : Fin 1024) :
    k0_pay2 (F := Ideal) (k0_pay1 (F := Ideal)) x0 x1 (ix2 i e) = ∑ k : Fin 1024, (x0 (ix2 i k) : EReal) * x1 (ix2 e k) := by
  pointwise [k0_pay2, k0_pay1]

variable (m : (ℓ : Loc nD τ sig) → Buf (Elt Ideal) ℓ) (d : Dev nD)

/-- The left factor's block of a step. -/
theorem index0 : ∀ t : Fin cfg0.N, win0_0.index t 0 = t.val ∧ win0_0.index t 1 = 0 := by decide +kernel
/-- The weights' block is the whole array. -/
theorem index1 : ∀ t : Fin cfg0.N, win0_1.index t 0 = 0 ∧ win0_1.index t 1 = 0 := by decide +kernel
/-- The result's block of a step. -/
theorem index2 : ∀ t : Fin cfg0.N, win0_2.index t 0 = t.val ∧ win0_2.index t 1 = 0 := by decide +kernel
/-- Every step writes its block back. -/
theorem flush : ∀ t : Fin cfg0.N, (cfg0.win 2).flush t = true := by decide +kernel
/-- There are two steps. -/
theorem t_lt (t : Fin cfg0.N) : t.val < 2 := lt_of_lt_of_eq t.isLt N_0

/-- An entry of the left factor's block. -/
theorem iblk0 (t : Fin cfg0.N) (i k : Fin 1024) : (iblk m d 0 t : Vec Ideal S1024x1024 .f32) (ix2 i k)
    = (m (d, Proc.tc.devRef main_arg2) : FVec Ideal S2048x1024 .f32) (ix2 (row t.val i) k) := by
  unfold iblk
  rw [View.read_apply]
  refine (congrFun (V_main_arg2 m d) _).trans (congrArg (m (d, Proc.tc.devRef main_arg2) : FVec Ideal S2048x1024 .f32) (funext fun a => Fin.ext ?_))
  have hi := index0 t
  match a with
  | ⟨0, _⟩ => show win0_0.index t 0 * 1024 + 1 * i.val = (row t.val i).val; rw [hi.1, row_val _ (t_lt t)]; omega
  | ⟨1, _⟩ => show win0_0.index t 1 * 1024 + 1 * k.val = k.val; rw [hi.2]; omega
/-- An entry of the weights. -/
theorem iblk1 (t : Fin cfg0.N) (i k : Fin 1024) : (iblk m d 1 t : Vec Ideal S1024x1024 .bf16) (ix2 i k)
    = (m (d, Proc.tc.devRef main_arg1) : FVec Ideal S1024x1024 .bf16) (ix2 i k) := by
  unfold iblk
  rw [View.read_apply]
  refine (congrFun (V_main_arg1 m d) _).trans (congrArg (m (d, Proc.tc.devRef main_arg1) : FVec Ideal S1024x1024 .bf16) (funext fun a => Fin.ext ?_))
  have hi := index1 t
  match a with
  | ⟨0, _⟩ => show win0_1.index t 0 * 1024 + 1 * i.val = i.val; rw [hi.1]; omega
  | ⟨1, _⟩ => show win0_1.index t 1 * 1024 + 1 * k.val = k.val; rw [hi.2]; omega

/-- An entry of the result. -/
def da (a : FVec Ideal S2048x1024 .f32) (w : FVec Ideal S1024x1024 .bf16) (i : Fin 2048) (e : Fin 1024) : EReal :=
  (∑ k : Fin 1024, (a (ix2 i k) : EReal) * w (ix2 e k))

/-- The result's array, entry by entry. -/
theorem arr (i : Fin 2048) (e : Fin 1024) : ((dats m 0 d).arrAt 2 cfg0.N : FVec Ideal S2048x1024 .f32) (ix2 i e)
    = da (m (d, Proc.tc.devRef main_arg2)) (m (d, Proc.tc.devRef main_arg1)) i e := by
  rw [row_surj i]
  have ht : i.val / 1024 < 2 := by omega
  generalize i.val / 1024 = r at ht ⊢
  generalize (⟨i.val % 1024, _⟩ : Fin 1024) = q
  have hr : r < cfg0.N := lt_of_lt_of_eq ht N_0.symm
  have h := congrFun (Cert.Kernel8Ideal.Value.blocks2 m d ⟨r, hr⟩ (flush _)) (ix2 q e)
  rw [View.read_apply, Cert.Kernel8Ideal.Value.flushed2_A, out] at h
  refine ((congrArg ((dats m 0 d).arrAt 2 cfg0.N : FVec Ideal S2048x1024 .f32) (funext fun a => Fin.ext ?_)).trans h).trans ?_
  · have hi := index2 ⟨r, hr⟩
    match a with
    | ⟨0, _⟩ => show (row r q).val = win0_2.index ⟨r, hr⟩ 0 * 1024 + 1 * q.val; rw [hi.1, row_val r ht]; show 1024 * r + q.val = r * 1024 + 1 * q.val; omega
    | ⟨1, _⟩ => show e.val = win0_2.index ⟨r, hr⟩ 1 * 1024 + 1 * e.val; rw [hi.2]; omega
  · refine (prod_apply _ _ q e).trans ?_
    simp only [iblk0, iblk1]
    rfl
end kernel

section ref
open Cert.Reference8Ideal Cert.Reference8Ideal.Gen Cert.Reference8Ideal.Read
/-- The reference's result. -/
theorem ref_eq (x1 : FVec Ideal S1024x1024 .bf16) (x2 : FVec Ideal S2048x1024 .f32) (i : Fin 2048) (e : Fin 1024) : val_main_v2 (F := Ideal) x1 x2 (ix2 i e) = da x2 x1 i e := by
  rw [val_main_v2_apply]
  refine Finset.sum_congr rfl fun k _ => ?_
  rw [val_main_v0_apply]
  exact congrArg₂ (fun a b : EReal => a * b) (congrArg x2 (eq_ix2 _)) (congrArg x1 (eq_ix2 _))
/-- The reference's result on the kernel's arguments. -/
theorem out_eq (m : (ℓ : Loc nD τ sig) → Buf (Elt Ideal) ℓ) (c : Dev nD) (x1 : FVec Ideal S1024x1024 .bf16) (x2 : FVec Ideal S2048x1024 .f32)
    (a1 : m ((c.tc : Thread nD τ).loc main_arg1) = x1) (a2 : m ((c.tc : Thread nD τ).loc main_arg2) = x2) (i : Fin 2048) (e : Fin 1024) :
    val_main_v2 (F := Ideal) (m ((c.tc : Thread nD τ).loc main_arg1)) (m ((c.tc : Thread nD τ).loc main_arg2)) (ix2 i e) = da x2 x1 i e := by
  subst a1 a2
  exact ref_eq _ _ i e
end ref

/-- The reference run ends with its arguments kept and all counters at zero. -/
theorem frame_ref : Cert.quiescent_Reference8Ideal (hReference8Ideal := Cert.Reference8Ideal.Gen.facts) := by
  intro m ρ _
  exact (θ_run Cert.Reference8Ideal.defs _ _).mono (fun r h => ⟨fun c => (h c).2, sem_eq_zero_of_no_sems (by decide) r.2⟩)
    (Cert.Reference8Ideal.Value.run (F := Ideal) m ρ)

/-- The value claim: both programs leave the same array. -/
theorem value : Cert.algebraic_Kernel8Ideal_Reference8Ideal (hKernel8Ideal := Cert.Kernel8Ideal.Gen.facts) (hReference8Ideal := Cert.Reference8Ideal.Gen.facts) := by
  intro m ρ m' ρ' _ hag
  refine ⟨fun c => (Cert.Kernel8Ideal.Gen.dats m 0 c).arrAt 2 Cert.Kernel8Ideal.cfg0.N, ?_, ?_⟩
  · exact Cert.Kernel8Ideal.Value.run_blocks (F := Ideal) m ρ
  · refine (θ_run Cert.Reference8Ideal.defs _ _).mono (fun r h c => ?_) (Cert.Reference8Ideal.Value.run (F := Ideal) m' ρ')
    obtain ⟨e0, ek⟩ := h c
    obtain ⟨a0, a1, a2⟩ := hag c
    exact ⟨e0.trans ((Cert.Reference8Ideal.Read.val_main_v2_eq _ _ ).trans (same _ _ _ (out_eq m' c _ _ a1 a2) (arr m c))), ek⟩

end Cert.LinDa
-- ==== Proof.LinDw.lean ====
module
public import proofs.«01_k».proof.Defs
public import proofs.«01_k».proof.Proof.Gen.Kernel9Ideal.Value
public import proofs.«01_k».proof.Proof.Gen.Reference9Ideal.Read
public import proofs.«01_k».proof.Proof.Shards
public import Idealize.ShloMosaic.Adequacy
public import Idealize.ShloMosaic.Init
/-! The call for the gradient at the weights of a product: two steps, one for each half of the rows. -/
@[expose] public section
noncomputable section
namespace Cert.LinDw
open Idealize.ShloMosaic Idealize.SL.Sem Cert.Shards

section kernel
open Cert.Kernel9Ideal Cert.Kernel9Ideal.Gen Cert.Kernel9Ideal.Value

section body
variable {F : FTy → Type} [FloatOps F] (c : Dev nD) (i : grid0.Coords)

/-- What the first step leaves of the running sum. -/
theorem sA (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x1024 .f32) (x1 : Vec F S1024x1024 .f32) : sout0_A_0 c i arg3 harg3 arg4 harg4 arg5 harg5 arg6 harg6 hc0 hc1 x0 x1 = k0_pay2 k0_pay1 x0 x1 := by
  unfold sout0_A_0
  rw [View.read_writes_junk_eq_canon]
  unfold kernelRun0_A
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1024x1024) (off := ![0, 0]) (by decide)]
/-- What the second step leaves of the result. -/
theorem oB (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x1024 .f32) (x1 : Vec F S1024x1024 .f32) (xs0 : Vec F S1024x1024 .f32) : out0_B_2 c i arg3 harg3 arg4 harg4 arg5 harg5 arg6 harg6 hc0 hc1 x0 x1 xs0 = k0_pay3 (k0_pay2 xs0 x0 x1) := by
  unfold out0_B_2
  rw [View.read_writes_junk_eq_canon]
  unfold kernelRun0_B
  refine (View.canon_unit_zero (by decide) _ _).trans ?_
  sl_unfold_words
  simp only [View.readAt_eq_ld, harg3.read_unread, harg4.read_unread, harg6.read_unread]
  try simp only [View.readCov_cons_toLoadRect]
  simp only [View.ld_unit_zero (S := S1024x1024) (off := ![0, 0]) (by decide)]
end body

/-- An entry of a step's running sum. -/
theorem pay2_apply (x x0 x1 : Vec Ideal S1024x1024 .f32) (i e : Fin 1024) :
    k0_pay2 (F := Ideal) x x0 x1 (ix2 i e) = x (ix2 i e) + ∑ k : Fin 1024, (x0 (ix2 k i) : EReal) * x1 (ix2 k e) := by
  pointwise [k0_pay2]
/-- The running sum starts at zero. -/
theorem pay1_apply (i e : Fin 1024) : k0_pay1 (F := Ideal) (ix2 i e) = (0 : EReal) := by
  pointwise [k0_pay1]
/-- The result is the sum. -/
theorem pay3_apply (x : Vec Ideal S1024x1024 .f32) (i e : Fin 1024) : k0_pay3 (F := Ideal) x (ix2 i e) = (x (ix2 i e) : EReal) := by
  pointwise [k0_pay3]

variable (m : (ℓ : Loc nD τ sig) → Buf (Elt Ideal) ℓ) (d : Dev nD)

/-- The left factor's block of a step. -/
theorem index0 : ∀ t : Fin cfg0.N, win0_0.index t 0 = t.val ∧ win0_0.index t 1 = 0 := by decide +kernel
/-- The output gradient's block of a step. -/
theorem index1 : ∀ t : Fin cfg0.N, win0_1.index t 0 = t.val ∧ win0_1.index t 1 = 0 := by decide +kernel
/-- There are two steps. -/
theorem t_lt (t : Fin cfg0.N) : t.val < 2 := lt_of_lt_of_eq t.isLt N_0

/-- An entry of the left factor's block. -/
theorem iblk0 (t : Fin cfg0.N) (i k : Fin 1024) : (iblk m d 0 t : Vec Ideal S1024x1024 .f32) (ix2 i k)
    = (m (d, Proc.tc.devRef main_arg0) : FVec Ideal S2048x1024 .f32) (ix2 (row t.val i) k) := by
  unfold iblk
  rw [View.read_apply]
  refine (congrFun (V_main_arg0 m d) _).trans (congrArg (m (d, Proc.tc.devRef main_arg0) : FVec Ideal S2048x1024 .f32) (funext fun a => Fin.ext ?_))
  have hi := index0 t
  match a with
  | ⟨0, _⟩ => show win0_0.index t 0 * 1024 + 1 * i.val = (row t.val i).val; rw [hi.1, row_val _ (t_lt t)]; omega
  | ⟨1, _⟩ => show win0_0.index t 1 * 1024 + 1 * k.val = k.val; rw [hi.2]; omega
/-- An entry of the output gradient's block. -/
theorem iblk1 (t : Fin cfg0.N) (i k : Fin 1024) : (iblk m d 1 t : Vec Ideal S1024x1024 .f32) (ix2 i k)
    = (m (d, Proc.tc.devRef main_arg2) : FVec Ideal S2048x1024 .f32) (ix2 (row t.val i) k) := by
  unfold iblk
  rw [View.read_apply]
  refine (congrFun (V_main_arg2 m d) _).trans (congrArg (m (d, Proc.tc.devRef main_arg2) : FVec Ideal S2048x1024 .f32) (funext fun a => Fin.ext ?_))
  have hi := index1 t
  match a with
  | ⟨0, _⟩ => show win0_1.index t 0 * 1024 + 1 * i.val = (row t.val i).val; rw [hi.1, row_val _ (t_lt t)]; omega
  | ⟨1, _⟩ => show win0_1.index t 1 * 1024 + 1 * k.val = k.val; rw [hi.2]; omega

/-- An entry of the product of the transposed left factor and the output gradient. -/
def dw (a dy : FVec Ideal S2048x1024 .f32) (i e : Fin 1024) : EReal := ∑ k : Fin 2048, (a (ix2 k i) : EReal) * dy (ix2 k e)
/-- What one half of the rows adds to it. -/
def half (a dy : FVec Ideal S2048x1024 .f32) (i e : Fin 1024) (r : ℕ) : EReal :=
  ∑ k : Fin 1024, (a (ix2 (row r k) i) : EReal) * dy (ix2 (row r k) e)

/-- The product is what both halves add. -/
theorem dw_halves (a dy : FVec Ideal S2048x1024 .f32) (i e : Fin 1024) : dw a dy i e = half a dy i e 0 + half a dy i e 1 := by
  unfold dw half
  exact sum_rows _

/-- What a step adds to the running sum. -/
theorem pay2_step (t : Fin cfg0.N) (x : Vec Ideal S1024x1024 .f32) (i e : Fin 1024) : k0_pay2 (F := Ideal) x (iblk m d 0 t) (iblk m d 1 t) (ix2 i e)
    = x (ix2 i e) + half (m (d, Proc.tc.devRef main_arg0)) (m (d, Proc.tc.devRef main_arg2)) i e t.val := by
  refine (pay2_apply _ _ _ i e).trans ?_
  simp only [iblk0, iblk1]
  rfl
/-- The first step leaves its product. -/
theorem step_first (h : 0 < cfg0.N) (x : Vec Ideal S1024x1024 .bf16 × Vec Ideal S1024x1024 .f32) (i e : Fin 1024) :
    ((stAt0 m d 0 h x).2 (ix2 i e) : EReal) = half (m (d, Proc.tc.devRef main_arg0)) (m (d, Proc.tc.devRef main_arg2)) i e 0 := by
  have hs := congrArg Prod.snd (stAt0_A m d ⟨0, h⟩ x (Nat.zero_mod 2) (by show ¬0 % 2 = 1; decide))
  dsimp only at hs
  rw [sA] at hs
  refine (congrFun hs (ix2 i e)).trans ?_
  refine (pay2_step m d _ _ i e).trans ?_
  rw [pay1_apply, zero_add]
/-- The second step writes the sum and its product. -/
theorem step_last (h : 1 < cfg0.N) (x : Vec Ideal S1024x1024 .bf16 × Vec Ideal S1024x1024 .f32) (i e : Fin 1024) :
    ((stAt0 m d 1 h x).1 (ix2 i e) : EReal) = x.2 (ix2 i e) + half (m (d, Proc.tc.devRef main_arg0)) (m (d, Proc.tc.devRef main_arg2)) i e 1 := by
  have hs := congrArg Prod.fst (stAt0_B m d ⟨1, h⟩ x (by show ¬1 % 2 = 0; decide) (by show 1 % 2 = 1; decide))
  dsimp only at hs
  rw [oB] at hs
  refine (congrFun hs (ix2 i e)).trans ?_
  exact (pay3_apply _ i e).trans (pay2_step m d _ _ i e)

/-- The fold's two steps, taken apart. -/
theorem accAt_one {α : Type} {N : ℕ} (a : ∀ n, n < N → α) (g : ∀ n, n < N → α → α) (h : 0 + 1 < N) (h1 : 1 < N) (h0 : 0 < N) :
    Pipeline.accAt a g 0 1 h = g 1 h1 (a 0 h0) := rfl

/-- The result's array, entry by entry. -/
theorem G2_eq (i e : Fin 1024) : (G2 m d : FVec Ideal S1024x1024 .bf16) (ix2 i e)
    = dw (m (d, Proc.tc.devRef main_arg0)) (m (d, Proc.tc.devRef main_arg2)) i e := by
  have hN : cfg0.N = 2 := N_0
  have hg : (G2 m d : FVec Ideal S1024x1024 .bf16) (ix2 i e) = (stAt0 m d 1 (by omega) (stAt0 m d 0 (by omega) junk0)).1 (ix2 i e) :=
    (congrFun (G2_last m d) (ix2 i e)).trans
      (congrFun (congrArg Prod.fst (accAt_one (fun n h => stAt0 m d n h junk0) (stAt0 m d) _ (by omega) (by omega))) (ix2 i e))
  refine hg.trans ((step_last m d _ _ i e).trans ?_)
  rw [step_first]
  exact (dw_halves _ _ i e).symm
end kernel

section ref
open Cert.Reference9Ideal Cert.Reference9Ideal.Gen Cert.Reference9Ideal.Read
/-- The reference's result. -/
theorem ref_eq (x0 x2 : FVec Ideal S2048x1024 .f32) (i e : Fin 1024) : val_main_v4 (F := Ideal) x0 x2 (ix2 i e) = dw x0 x2 i e := by
  rw [val_main_v4_apply, val_main_v3_apply, val_main_v2_apply]
  refine Finset.sum_congr rfl fun k _ => ?_
  refine (mul_comm _ _).trans ?_
  exact congrArg₂ (fun a b : EReal => a * b) (congrArg x0 (eq_ix2 _)) (congrArg x2 (eq_ix2 _))
/-- The reference's result on the kernel's arguments. -/
theorem out_eq (m : (ℓ : Loc nD τ sig) → Buf (Elt Ideal) ℓ) (c : Dev nD) (x0 x2 : FVec Ideal S2048x1024 .f32)
    (a0 : m ((c.tc : Thread nD τ).loc main_arg0) = x0) (a2 : m ((c.tc : Thread nD τ).loc main_arg2) = x2) (i e : Fin 1024) :
    val_main_v4 (F := Ideal) (m ((c.tc : Thread nD τ).loc main_arg0)) (m ((c.tc : Thread nD τ).loc main_arg2)) (ix2 i e) = dw x0 x2 i e := by
  subst a0 a2
  exact ref_eq _ _ i e
end ref

/-- The reference run ends with its arguments kept and all counters at zero. -/
theorem frame_ref : Cert.quiescent_Reference9Ideal (hReference9Ideal := Cert.Reference9Ideal.Gen.facts) := by
  intro m ρ _
  exact (θ_run Cert.Reference9Ideal.defs _ _).mono (fun r h => ⟨fun c => (h c).2, sem_eq_zero_of_no_sems (by decide) r.2⟩)
    (Cert.Reference9Ideal.Value.run (F := Ideal) m ρ)

/-- The value claim: both programs leave the same array. -/
theorem value : Cert.algebraic_Kernel9Ideal_Reference9Ideal (hKernel9Ideal := Cert.Kernel9Ideal.Gen.facts) (hReference9Ideal := Cert.Reference9Ideal.Gen.facts) := by
  intro m ρ m' ρ' _ hag
  refine ⟨Cert.Kernel9Ideal.Value.G2 m, ?_, ?_⟩
  · exact Cert.Kernel9Ideal.Value.run (F := Ideal) m ρ
  · refine (θ_run Cert.Reference9Ideal.defs _ _).mono (fun r h c => ?_) (Cert.Reference9Ideal.Value.run (F := Ideal) m' ρ')
    obtain ⟨e0, ek⟩ := h c
    obtain ⟨a0, a1, a2⟩ := hag c
    exact ⟨e0.trans ((Cert.Reference9Ideal.Read.val_main_v4_eq _ _).trans (same _ _ _ (out_eq m' c _ _ a0 a2) (G2_eq m c))), ek⟩

end Cert.LinDw
-- ==== Proof.LinRes.lean ====
module
public import proofs.«01_k».proof.Defs
public import proofs.«01_k».proof.Proof.Gen.Kernel10Ideal.Value
public import proofs.«01_k».proof.Proof.Gen.Reference10Ideal.Read
public import proofs.«01_k».proof.Proof.Shards
public import Idealize.ShloMosaic.Adequacy
public import Idealize.ShloMosaic.Init
/-! The call for a product added to the residual stream, and the same entries of its reference. -/
@[expose] public section
noncomputable section
namespace Cert.LinRes
open Idealize.ShloMosaic Idealize.SL.Sem Cert.Shards

section kernel
open Cert.Kernel10Ideal Cert.Kernel10Ideal.Gen

section body
variable {F : FTy → Type} [FloatOps F] (c : Dev nD) (i : grid0.Coords)

/-- What a point leaves of the result. -/
theorem out (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : cond0_1 i) (x0 : Vec F S1024x1024 .f32) (x1 : Vec F S1024x1024 .bf16) (x2 : Vec F S1024x1024 .f32) : out0_A_3 c i arg3 harg3 arg4 harg4 arg5 harg5 arg6 harg6 arg7 harg7 hc0 hc1 x0 x1 x2 = k0_pay3 (k0_pay2 k0_pay1 x0 x1) x2 := by
  unfold out0_A_3
  rw [View.read_writes_junk_eq_canon]
  unfold kernelRun0_A
  refine (View.canon_unit_zero (by decide) _ _).trans ?_
  sl_unfold_words
  simp only [View.readAt_eq_ld, harg3.read_unread, harg4.read_unread, harg5.read_unread]
  simp only [View.readCov_cons_toLoadRect]
  simp only [View.ld_unit_zero (S := S1024x1024) (off := ![0, 0]) (by decide)]
end body

/-- An entry of a block's product. -/
theorem prod_apply (x0 : Vec Ideal S1024x1024 .f32) (x1 : Vec Ideal S1024x1024 .bf16) (i e : Fin 1024) :
    k0_pay2 (F := Ideal) (k0_pay1 (F := Ideal)) x0 x1 (ix2 i e) = ∑ k : Fin 1024, (x0 (ix2 i k) : EReal) * x1 (ix2 k e) := by
  pointwise [k0_pay2, k0_pay1]
/-- An entry of a block with the residual stream added. -/
theorem pay3_apply (x y : Vec Ideal S1024x1024 .f32) (i e : Fin 1024) : k0_pay3 (F := Ideal) x y (ix2 i e) = (x (ix2 i e) + y (ix2 i e) : EReal) := by
  pointwise [k0_pay3]

variable (m : (ℓ : Loc nD τ sig) → Buf (Elt Ideal) ℓ) (d : Dev nD)

/-- The left factor's block of a step. -/
theorem index0 : ∀ t : Fin cfg0.N, win0_0.index t 0 = t.val ∧ win0_0.index t 1 = 0 := by decide +kernel
/-- The weights' block is the whole array. -/
theorem index1 : ∀ t : Fin cfg0.N, win0_1.index t 0 = 0 ∧ win0_1.index t 1 = 0 := by decide +kernel
/-- The residual stream's block of a step. -/
theorem index2 : ∀ t : Fin cfg0.N, win0_2.index t 0 = t.val ∧ win0_2.index t 1 = 0 := by decide +kernel
/-- The result's block of a step. -/
theorem index3 : ∀ t : Fin cfg0.N, win0_3.index t 0 = t.val ∧ win0_3.index t 1 = 0 := by decide +kernel
/-- Every step writes its block back. -/
theorem flush : ∀ t : Fin cfg0.N, (cfg0.win 3).flush t = true := by decide +kernel
/-- There are two steps. -/
theorem t_lt (t : Fin cfg0.N) : t.val < 2 := lt_of_lt_of_eq t.isLt N_0

/-- An entry of the left factor's block. -/
theorem iblk0 (t : Fin cfg0.N) (i k : Fin 1024) : (iblk m d 0 t : Vec Ideal S1024x1024 .f32) (ix2 i k)
    = (m (d, Proc.tc.devRef main_arg0) : FVec Ideal S2048x1024 .f32) (ix2 (row t.val i) k) := by
  unfold iblk
  rw [View.read_apply]
  refine (congrFun (V_main_arg0 m d) _).trans (congrArg (m (d, Proc.tc.devRef main_arg0) : FVec Ideal S2048x1024 .f32) (funext fun a => Fin.ext ?_))
  have hi := index0 t
  match a with
  | ⟨0, _⟩ => show win0_0.index t 0 * 1024 + 1 * i.val = (row t.val i).val; rw [hi.1, row_val _ (t_lt t)]; omega
  | ⟨1, _⟩ => show win0_0.index t 1 * 1024 + 1 * k.val = k.val; rw [hi.2]; omega
/-- An entry of the weights. -/
theorem iblk1 (t : Fin cfg0.N) (i k : Fin 1024) : (iblk m d 1 t : Vec Ideal S1024x1024 .bf16) (ix2 i k)
    = (m (d, Proc.tc.devRef main_arg1) : FVec Ideal S1024x1024 .bf16) (ix2 i k) := by
  unfold iblk
  rw [View.read_apply]
  refine (congrFun (V_main_arg1 m d) _).trans (congrArg (m (d, Proc.tc.devRef main_arg1) : FVec Ideal S1024x1024 .bf16) (funext fun a => Fin.ext ?_))
  have hi := index1 t
  match a with
  | ⟨0, _⟩ => show win0_1.index t 0 * 1024 + 1 * i.val = i.val; rw [hi.1]; omega
  | ⟨1, _⟩ => show win0_1.index t 1 * 1024 + 1 * k.val = k.val; rw [hi.2]; omega
/-- An entry of the residual stream's block. -/
theorem iblk2 (t : Fin cfg0.N) (i k : Fin 1024) : (iblk m d 2 t : Vec Ideal S1024x1024 .f32) (ix2 i k)
    = (m (d, Proc.tc.devRef main_arg2) : FVec Ideal S2048x1024 .f32) (ix2 (row t.val i) k) := by
  unfold iblk
  rw [View.read_apply]
  refine (congrFun (V_main_arg2 m d) _).trans (congrArg (m (d, Proc.tc.devRef main_arg2) : FVec Ideal S2048x1024 .f32) (funext fun a => Fin.ext ?_))
  have hi := index2 t
  match a with
  | ⟨0, _⟩ => show win0_2.index t 0 * 1024 + 1 * i.val = (row t.val i).val; rw [hi.1, row_val _ (t_lt t)]; omega
  | ⟨1, _⟩ => show win0_2.index t 1 * 1024 + 1 * k.val = k.val; rw [hi.2]; omega

/-- An entry of the result. -/
def res (a : FVec Ideal S2048x1024 .f32) (w : FVec Ideal S1024x1024 .bf16) (x : FVec Ideal S2048x1024 .f32) (i : Fin 2048) (e : Fin 1024) : EReal :=
  (∑ k : Fin 1024, (a (ix2 i k) : EReal) * w (ix2 k e)) + x (ix2 i e)

/-- The result's array, entry by entry. -/
theorem arr (i : Fin 2048) (e : Fin 1024) : ((dats m 0 d).arrAt 3 cfg0.N : FVec Ideal S2048x1024 .f32) (ix2 i e)
    = res (m (d, Proc.tc.devRef main_arg0)) (m (d, Proc.tc.devRef main_arg1)) (m (d, Proc.tc.devRef main_arg2)) i e := by
  rw [row_surj i]
  have ht : i.val / 1024 < 2 := by omega
  generalize i.val / 1024 = r at ht ⊢
  generalize (⟨i.val % 1024, _⟩ : Fin 1024) = q
  have hr : r < cfg0.N := lt_of_lt_of_eq ht N_0.symm
  have h := congrFun (Cert.Kernel10Ideal.Value.blocks3 m d ⟨r, hr⟩ (flush _)) (ix2 q e)
  rw [View.read_apply, Cert.Kernel10Ideal.Value.flushed3_A, out] at h
  refine ((congrArg ((dats m 0 d).arrAt 3 cfg0.N : FVec Ideal S2048x1024 .f32) (funext fun a => Fin.ext ?_)).trans h).trans ?_
  · have hi := index3 ⟨r, hr⟩
    match a with
    | ⟨0, _⟩ => show (row r q).val = win0_3.index ⟨r, hr⟩ 0 * 1024 + 1 * q.val; rw [hi.1, row_val r ht]; show 1024 * r + q.val = r * 1024 + 1 * q.val; omega
    | ⟨1, _⟩ => show e.val = win0_3.index ⟨r, hr⟩ 1 * 1024 + 1 * e.val; rw [hi.2]; omega
  · refine (pay3_apply _ _ q e).trans ?_
    rw [prod_apply]
    simp only [iblk0, iblk1, iblk2]
    rfl
end kernel

section ref
open Cert.Reference10Ideal Cert.Reference10Ideal.Gen Cert.Reference10Ideal.Read
/-- The reference's result. -/
theorem ref_eq (x0 : FVec Ideal S2048x1024 .f32) (x1 : FVec Ideal S1024x1024 .bf16) (x2 : FVec Ideal S2048x1024 .f32) (i : Fin 2048) (e : Fin 1024) : val_main_v2 (F := Ideal) x0 x1 x2 (ix2 i e) = res x0 x1 x2 i e := by
  rw [val_main_v2_apply, val_main_v1_apply]
  refine (add_comm _ _).trans (congrArg (fun z : EReal => z + (x2 (ix2 i e) : EReal)) ?_)
  refine Finset.sum_congr rfl fun k _ => ?_
  rw [val_main_v0_apply]
  exact congrArg₂ (fun a b : EReal => a * b) (congrArg x0 (eq_ix2 _)) (congrArg x1 (eq_ix2 _))
/-- The reference's result on the kernel's arguments. -/
theorem out_eq (m : (ℓ : Loc nD τ sig) → Buf (Elt Ideal) ℓ) (c : Dev nD) (x0 : FVec Ideal S2048x1024 .f32) (x1 : FVec Ideal S1024x1024 .bf16) (x2 : FVec Ideal S2048x1024 .f32)
    (a0 : m ((c.tc : Thread nD τ).loc main_arg0) = x0) (a1 : m ((c.tc : Thread nD τ).loc main_arg1) = x1) (a2 : m ((c.tc : Thread nD τ).loc main_arg2) = x2) (i : Fin 2048) (e : Fin 1024) :
    val_main_v2 (F := Ideal) (m ((c.tc : Thread nD τ).loc main_arg0)) (m ((c.tc : Thread nD τ).loc main_arg1)) (m ((c.tc : Thread nD τ).loc main_arg2)) (ix2 i e) = res x0 x1 x2 i e := by
  subst a0 a1 a2
  exact ref_eq _ _ _ i e
end ref

/-- The reference run ends with its arguments kept and all counters at zero. -/
theorem frame_ref : Cert.quiescent_Reference10Ideal (hReference10Ideal := Cert.Reference10Ideal.Gen.facts) := by
  intro m ρ _
  exact (θ_run Cert.Reference10Ideal.defs _ _).mono (fun r h => ⟨fun c => (h c).2, sem_eq_zero_of_no_sems (by decide) r.2⟩)
    (Cert.Reference10Ideal.Value.run (F := Ideal) m ρ)

/-- The value claim: both programs leave the same array. -/
theorem value : Cert.algebraic_Kernel10Ideal_Reference10Ideal (hKernel10Ideal := Cert.Kernel10Ideal.Gen.facts) (hReference10Ideal := Cert.Reference10Ideal.Gen.facts) := by
  intro m ρ m' ρ' _ hag
  refine ⟨fun c => (Cert.Kernel10Ideal.Gen.dats m 0 c).arrAt 3 Cert.Kernel10Ideal.cfg0.N, ?_, ?_⟩
  · exact Cert.Kernel10Ideal.Value.run_blocks (F := Ideal) m ρ
  · refine (θ_run Cert.Reference10Ideal.defs _ _).mono (fun r h c => ?_) (Cert.Reference10Ideal.Value.run (F := Ideal) m' ρ')
    obtain ⟨e0, ek⟩ := h c
    obtain ⟨a0, a1, a2⟩ := hag c
    exact ⟨e0.trans ((Cert.Reference10Ideal.Read.val_main_v2_eq _ _ _ ).trans (same _ _ _ (out_eq m' c _ _ _ a0 a1 a2) (arr m c))), ek⟩

end Cert.LinRes
-- ==== Proof.WideDa.lean ====
module
public import proofs.«01_k».proof.Defs
public import proofs.«01_k».proof.Proof.Gen.Kernel11Ideal.Value
public import proofs.«01_k».proof.Proof.Gen.Reference11Ideal.Read
public import proofs.«01_k».proof.Proof.Shards
public import Idealize.ShloMosaic.Adequacy
public import Idealize.ShloMosaic.Init
/-! The call for the gradient at the input of the wide column-parallel product: a fold over the devices' shards for each half of the rows. -/
@[expose] public section
noncomputable section
namespace Cert.WideDa
open Idealize.ShloMosaic Idealize.SL.Sem Cert.Cols Cert.Shards

section kernel
open Cert.Kernel11Ideal Cert.Kernel11Ideal.Gen Cert.Kernel11Ideal.Value

section body
variable {F : FTy → Type} [FloatOps F] (c : Dev nD) (i : grid0.Coords)

/-- What a first step leaves of the running sum. -/
theorem sA (arg3 : Memref sig .tc .vmem S1024x384 .f32) (harg3 : arg3.IsWhole) (arg4 : Memref sig .tc .vmem S1x1024x384 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (x0 : Vec F S1024x384 .f32) (x1 : Vec F S1x1024x384 .bf16) : sout0_A_0 c i arg3 harg3 arg4 harg4 arg5 harg5 arg6 harg6 hc0 hc1 x0 x1 = k0_pay2 x0 x1 k0_pay1 := by
  unfold sout0_A_0
  rw [View.read_writes_junk_eq_canon]
  unfold kernelRun0_A
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1024x384) (off := ![0, 0]) (by decide), View.ld_unit_zero (S := S1x1024x384) (off := ![0, 0, 0]) (by decide), View.ld_unit_zero (S := S1024x1024) (off := ![0, 0]) (by decide)]
/-- What a middle step leaves of the running sum. -/
theorem sB (arg3 : Memref sig .tc .vmem S1024x384 .f32) (harg3 : arg3.IsWhole) (arg4 : Memref sig .tc .vmem S1x1024x384 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i) (x0 : Vec F S1024x384 .f32) (x1 : Vec F S1x1024x384 .bf16) (xs0 : Vec F S1024x1024 .f32) : sout0_B_0 c i arg3 harg3 arg4 harg4 arg5 harg5 arg6 harg6 hc0 hc1 x0 x1 xs0 = k0_pay2 x0 x1 xs0 := by
  unfold sout0_B_0
  rw [View.read_writes_junk_eq_canon]
  unfold kernelRun0_B
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1024x384) (off := ![0, 0]) (by decide), View.ld_unit_zero (S := S1x1024x384) (off := ![0, 0, 0]) (by decide), View.ld_unit_zero (S := S1024x1024) (off := ![0, 0]) (by decide)]
/-- What a last step leaves of the result. -/
theorem oC (arg3 : Memref sig .tc .vmem S1024x384 .f32) (harg3 : arg3.IsWhole) (arg4 : Memref sig .tc .vmem S1x1024x384 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (x0 : Vec F S1024x384 .f32) (x1 : Vec F S1x1024x384 .bf16) (xs0 : Vec F S1024x1024 .f32) : out0_C_2 c i arg3 harg3 arg4 harg4 arg5 harg5 arg6 harg6 hc0 hc1 x0 x1 xs0 = k0_pay2 x0 x1 xs0 := by
  unfold out0_C_2
  rw [View.read_writes_junk_eq_canon]
  unfold kernelRun0_C
  refine (View.canon_cons_unit_zero (by decide) _ _ _).trans ?_
  sl_unfold_words
  simp only [View.readAt_eq_ld, harg3.read_unread, harg4.read_unread, harg6.read_unread]
  try simp only [View.readCov_cons_toLoadRect]
  simp only [View.ld_unit_zero (S := S1024x384) (off := ![0, 0]) (by decide), View.ld_unit_zero (S := S1x1024x384) (off := ![0, 0, 0]) (by decide), View.ld_unit_zero (S := S1024x1024) (off := ![0, 0]) (by decide)]
end body

/-- An entry of a step's running sum. -/
theorem pay2_apply (x0 : Vec Ideal S1024x384 .f32) (x1 : Vec Ideal S1x1024x384 .bf16) (x : Vec Ideal S1024x1024 .f32) (i e : Fin 1024) :
    k0_pay2 (F := Ideal) x0 x1 x (ix2 i e) = x (ix2 i e) + ∑ q : Fin 384, (x0 (ix2 i q) : EReal) * x1 (ix3 (0 : Fin 1) e q) := by
  pointwise [k0_pay2]
/-- The running sum starts at zero. -/
theorem pay1_apply (i e : Fin 1024) : k0_pay1 (F := Ideal) (ix2 i e) = (0 : EReal) := by
  pointwise [k0_pay1]

/-! ## The windows' blocks -/

variable (m : (ℓ : Loc nD τ sig) → Buf (Elt Ideal) ℓ) (d : Dev nD)

/-- The weights' columns as the region finds them. -/
theorem V_cols : (V m d main_v1 : FVec Ideal S8x1024x384 .bf16) = transpose S8x1024x384 [1, 0, 2]
    (shapeCast S1024x8x384 (m (d, Proc.tc.devRef main_arg1) : FVec Ideal S1024x3072 .bf16) shapeCasts_S1024x3072_S1024x8x384) transposes_S1024x8x384_S8x1024x384_1_0_2 := by
  simp only [V, hostOps0, StableHlo.after_cons, StableHlo.after_nil]
  rfl
/-- The output gradient's block of a step. -/
theorem index0 : ∀ t : Fin cfg0.N, win0_0.index t 0 = t.val / 8 ∧ win0_0.index t 1 = t.val % 8 := by decide +kernel
/-- The weights' block of a step. -/
theorem index1 : ∀ t : Fin cfg0.N, win0_1.index t 0 = t.val % 8 ∧ win0_1.index t 1 = 0 ∧ win0_1.index t 2 = 0 := by decide +kernel
/-- A step's half is one of two. -/
theorem t_half (t : Fin cfg0.N) : t.val / 8 < 2 := by have := lt_of_lt_of_eq t.isLt N_0; omega
/-- An entry of the output gradient's block. -/
theorem iblk0 (t : Fin cfg0.N) (i : Fin 1024) (q : Fin 384) : (iblk m d 0 t : Vec Ideal S1024x384 .f32) (ix2 i q)
    = (m (d, Proc.tc.devRef main_arg2) : FVec Ideal S2048x3072 .f32) (ix2 (row (t.val / 8) i) (wide ⟨t.val % 8, Nat.mod_lt _ (by decide)⟩ q)) := by
  unfold iblk
  rw [View.read_apply]
  refine (congrFun (V_main_arg2 m d) _).trans (congrArg (m (d, Proc.tc.devRef main_arg2) : FVec Ideal S2048x3072 .f32) (funext fun a => Fin.ext ?_))
  have hi := index0 t
  match a with
  | ⟨0, _⟩ => show win0_0.index t 0 * 1024 + 1 * i.val = (row (t.val / 8) i).val; rw [hi.1, row_val _ (t_half t)]; omega
  | ⟨1, _⟩ => show win0_0.index t 1 * 384 + 1 * q.val = 384 * (t.val % 8) + q.val; rw [hi.2]; omega
/-- An entry of the weights' block. -/
theorem iblk1 (t : Fin cfg0.N) (k : Fin 1024) (q : Fin 384) : (iblk m d 1 t : Vec Ideal S1x1024x384 .bf16) (ix3 (0 : Fin 1) k q)
    = (m (d, Proc.tc.devRef main_arg1) : FVec Ideal S1024x3072 .bf16) (ix2 k (wide ⟨t.val % 8, Nat.mod_lt _ (by decide)⟩ q)) := by
  unfold iblk
  rw [View.read_apply]
  refine (congrArg (V m d main_v1 : FVec Ideal S8x1024x384 .bf16) (funext fun a => Fin.ext ?_ : _ = ix3 (⟨t.val % 8, Nat.mod_lt _ (by decide)⟩ : Fin 8) k q)).trans ?_
  · have hi := index1 t
    match a with
    | ⟨0, _⟩ => show win0_1.index t 0 * 1 + 1 * 0 = t.val % 8; rw [hi.1]; omega
    | ⟨1, _⟩ => show win0_1.index t 1 * 1024 + 1 * k.val = k.val; rw [hi.2.1]; omega
    | ⟨2, _⟩ => show win0_1.index t 2 * 384 + 1 * q.val = q.val; rw [hi.2.2]; omega
  · rw [V_cols]
    exact wide_apply _ _ _ _ k q

/-! ## The result -/

/-- An entry of the product of the output gradient and the transposed weights. -/
def da (w : FVec Ideal S1024x3072 .bf16) (dy : FVec Ideal S2048x3072 .f32) (i : Fin 2048) (e : Fin 1024) : EReal :=
  ∑ k : Fin 3072, (dy (ix2 i k) : EReal) * w (ix2 e k)
/-- What one device's shard adds to it. -/
def shard (w : FVec Ideal S1024x3072 .bf16) (dy : FVec Ideal S2048x3072 .f32) (i : Fin 2048) (e : Fin 1024) (j : Fin 8) : EReal :=
  ∑ q : Fin 384, (dy (ix2 i (wide j q)) : EReal) * w (ix2 e (wide j q))
/-- What step `n` adds to an entry of its half. -/
def added (n : ℕ) (i e : Fin 1024) : EReal :=
  shard (m (d, Proc.tc.devRef main_arg1)) (m (d, Proc.tc.devRef main_arg2)) (row (n / 8) i) e ⟨n % 8, Nat.mod_lt _ (by decide)⟩

/-- What a step adds to the running sum. -/
theorem pay2_step (t : Fin cfg0.N) (x : Vec Ideal S1024x1024 .f32) (i e : Fin 1024) :
    k0_pay2 (F := Ideal) (iblk m d 0 t) (iblk m d 1 t) x (ix2 i e) = x (ix2 i e) + added m d t.val i e := by
  refine (pay2_apply _ _ _ i e).trans ?_
  simp only [iblk0, iblk1]
  rfl
/-- A first step leaves its product. -/
theorem step_first (n : ℕ) (h : n < cfg0.N) (x : Vec Ideal S1024x1024 .f32 × Vec Ideal S1024x1024 .f32) (h0 : n % 8 = 0) (i e : Fin 1024) :
    ((stAt0 m d n h x).2 (ix2 i e) : EReal) = added m d n i e := by
  have hs := congrArg Prod.snd (stAt0_A m d ⟨n, h⟩ x h0 (by show ¬n % 8 = 7; omega))
  dsimp only at hs
  rw [sA] at hs
  refine (congrFun hs (ix2 i e)).trans ?_
  refine (pay2_step m d _ _ i e).trans ?_
  rw [pay1_apply, zero_add]
/-- A middle step adds its product. -/
theorem step_mid (n : ℕ) (h : n < cfg0.N) (x : Vec Ideal S1024x1024 .f32 × Vec Ideal S1024x1024 .f32) (h0 : ¬n % 8 = 0) (h7 : ¬n % 8 = 7) (i e : Fin 1024) :
    ((stAt0 m d n h x).2 (ix2 i e) : EReal) = x.2 (ix2 i e) + added m d n i e := by
  have hs := congrArg Prod.snd (stAt0_B m d ⟨n, h⟩ x h0 h7)
  dsimp only at hs
  rw [sB] at hs
  refine (congrFun hs (ix2 i e)).trans ?_
  exact pay2_step m d _ _ i e
/-- A last step writes the sum and its product. -/
theorem step_last (n : ℕ) (h : n < cfg0.N) (x : Vec Ideal S1024x1024 .f32 × Vec Ideal S1024x1024 .f32) (h7 : n % 8 = 7) (i e : Fin 1024) :
    ((stAt0 m d n h x).1 (ix2 i e) : EReal) = x.2 (ix2 i e) + added m d n i e := by
  have hs := congrArg Prod.fst (stAt0_C m d ⟨n, h⟩ x (by show ¬n % 8 = 0; omega) h7)
  dsimp only at hs
  rw [oC] at hs
  refine (congrFun hs (ix2 i e)).trans ?_
  exact pay2_step m d _ _ i e

/-- The fold of the steps up to `n`. -/
abbrev fold (n : ℕ) (h : 0 + n < cfg0.N) : Vec Ideal S1024x1024 .f32 × Vec Ideal S1024x1024 .f32 :=
  Pipeline.accAt (fun n h => stAt0 m d n h junk0) (stAt0 m d) 0 n h
/-- The running sum of a half, before its last step. -/
theorem fold_sum2 (n : ℕ) (h : 0 + n < cfg0.N) (h7 : ¬n % 8 = 7) (i e : Fin 1024) :
    ((fold m d n h).2 (ix2 i e) : EReal) = ∑ k ∈ Finset.range (n % 8 + 1), added m d (8 * (n / 8) + k) i e :=
  fold_groups (fun n h => stAt0 m d n h junk0) (stAt0 m d) (fun x => (x.2 (ix2 i e) : EReal)) (fun n => added m d n i e)
    (fun h => step_first m d 0 h _ (Nat.zero_mod 8) i e) (fun n h x h0 => step_first m d n h x h0 i e)
    (fun n h x h0 h7 => step_mid m d n h x h0 h7 i e) n h h7
/-- The products of a half's eight steps. -/
theorem added_sum (r : ℕ) (i e : Fin 1024) : ∑ k ∈ Finset.range 8, added m d (8 * r + k) i e
    = da (m (d, Proc.tc.devRef main_arg1)) (m (d, Proc.tc.devRef main_arg2)) (row r i) e := by
  unfold da
  rw [sum_wide, Finset.sum_range]
  refine Finset.sum_congr rfl fun j _ => ?_
  have hj := j.isLt
  unfold added
  rw [show (8 * r + j.val) / 8 = r by omega, show (⟨(8 * r + j.val) % 8, Nat.mod_lt _ (by decide)⟩ : Fin 8) = j from Fin.ext (by show (8 * r + j.val) % 8 = j.val; omega)]
  rfl
/-- What a half's last step leaves of the result. -/
theorem fold_last (r : ℕ) (h : 0 + (8 * r + 6 + 1) < cfg0.N) (i e : Fin 1024) : ((fold m d (8 * r + 6 + 1) h).1 (ix2 i e) : EReal)
    = da (m (d, Proc.tc.devRef main_arg1)) (m (d, Proc.tc.devRef main_arg2)) (row r i) e := by
  have hl := step_last m d (0 + (8 * r + 6 + 1)) h (fold m d (8 * r + 6) (Nat.lt_of_succ_lt h)) (by omega) i e
  rw [fold_sum2 m d (8 * r + 6) _ (by omega), show (8 * r + 6) % 8 + 1 = 7 by omega, show (8 * r + 6) / 8 = r by omega,
    congrArg (fun z => added m d z i e) (show 0 + (8 * r + 6 + 1) = 8 * r + 7 by omega),
    ← Finset.sum_range_succ (fun k => added m d (8 * r + k) i e) 7, added_sum] at hl
  exact hl

/-- The result's array, entry by entry. -/
theorem G2_eq (i : Fin 2048) (e : Fin 1024) : (G2 m d : FVec Ideal S2048x1024 .f32) (ix2 i e)
    = da (m (d, Proc.tc.devRef main_arg1)) (m (d, Proc.tc.devRef main_arg2)) i e := by
  have hN : cfg0.N = 16 := N_0
  have hi := i.isLt
  have he := e.isLt
  have hp : pt2Of (ix2 i e) = 8 * (i.val / 1024) + 6 + 1 := by
    show 8 * (1 * (i.val / 1024 - 0) + 1 * (e.val / 1024 - 0)) + 7 = _
    omega
  have hlt : 0 + (8 * (i.val / 1024) + 6 + 1) < cfg0.N := by omega
  unfold G2
  rw [dif_pos (by rw [hp]; omega)]
  have hl : loc2Of (ix2 i e) = ix2 (⟨i.val % 1024, Nat.mod_lt _ (by decide)⟩ : Fin 1024) e := funext fun a => Fin.ext (by
    match a with
    | ⟨0, _⟩ => rfl
    | ⟨1, _⟩ => show e.val % 1024 = e.val; omega)
  rw [hl]
  refine (congrArg (fun z : Vec Ideal S1024x1024 .f32 × Vec Ideal S1024x1024 .f32 => z.1 (ix2 (⟨i.val % 1024, Nat.mod_lt _ (by decide)⟩ : Fin 1024) e))
    (fold0_congr m d _ (by omega) _ hlt hp)).trans ?_
  refine (fold_last m d (i.val / 1024) hlt _ e).trans ?_
  rw [show row (i.val / 1024) (⟨i.val % 1024, Nat.mod_lt _ (by decide)⟩ : Fin 1024) = i from Fin.ext (by show (1024 * (i.val / 1024) + i.val % 1024) % 2048 = i.val; omega)]

end kernel

section ref
open Cert.Reference11Ideal Cert.Reference11Ideal.Gen Cert.Reference11Ideal.Read
/-- The reference's result. -/
theorem ref_eq (x1 : FVec Ideal S1024x3072 .bf16) (x2 : FVec Ideal S2048x3072 .f32) (i : Fin 2048) (e : Fin 1024) :
    val_main_v2 (F := Ideal) x1 x2 (ix2 i e) = da x1 x2 i e := by
  rw [val_main_v2_apply]
  refine Finset.sum_congr rfl fun k _ => ?_
  rw [val_main_v0_apply]
  exact congrArg₂ (fun a b : EReal => a * b) (congrArg x2 (eq_ix2 _)) (congrArg x1 (eq_ix2 _))
/-- The reference's result on the kernel's arguments. -/
theorem out_eq (m : (ℓ : Loc nD τ sig) → Buf (Elt Ideal) ℓ) (c : Dev nD) (x1 : FVec Ideal S1024x3072 .bf16) (x2 : FVec Ideal S2048x3072 .f32)
    (a1 : m ((c.tc : Thread nD τ).loc main_arg1) = x1) (a2 : m ((c.tc : Thread nD τ).loc main_arg2) = x2) (i : Fin 2048) (e : Fin 1024) :
    val_main_v2 (F := Ideal) (m ((c.tc : Thread nD τ).loc main_arg1)) (m ((c.tc : Thread nD τ).loc main_arg2)) (ix2 i e) = da x1 x2 i e := by
  subst a1 a2
  exact ref_eq _ _ i e
end ref

/-- The reference run ends with its arguments kept and all counters at zero. -/
theorem frame_ref : Cert.quiescent_Reference11Ideal (hReference11Ideal := Cert.Reference11Ideal.Gen.facts) := by
  intro m ρ _
  exact (θ_run Cert.Reference11Ideal.defs _ _).mono (fun r h => ⟨fun c => (h c).2, sem_eq_zero_of_no_sems (by decide) r.2⟩)
    (Cert.Reference11Ideal.Value.run (F := Ideal) m ρ)

/-- The value claim: both programs leave the same array. -/
theorem value : Cert.algebraic_Kernel11Ideal_Reference11Ideal (hKernel11Ideal := Cert.Kernel11Ideal.Gen.facts) (hReference11Ideal := Cert.Reference11Ideal.Gen.facts) := by
  intro m ρ m' ρ' _ hag
  refine ⟨Cert.Kernel11Ideal.Value.G2 m, ?_, ?_⟩
  · exact Cert.Kernel11Ideal.Value.run (F := Ideal) m ρ
  · refine (θ_run Cert.Reference11Ideal.defs _ _).mono (fun r h c => ?_) (Cert.Reference11Ideal.Value.run (F := Ideal) m' ρ')
    obtain ⟨e0, ek⟩ := h c
    obtain ⟨a0, a1, a2⟩ := hag c
    exact ⟨e0.trans ((Cert.Reference11Ideal.Read.val_main_v2_eq _ _ ).trans (same _ _ _ (out_eq m' c _ _ a1 a2) (G2_eq m c))), ek⟩

end Cert.WideDa
-- ==== Proof.WideDg.lean ====
module
public import proofs.«01_k».proof.Defs
public import proofs.«01_k».proof.Proof.Gen.Kernel12Ideal.Value
public import proofs.«01_k».proof.Proof.Gen.Reference12Ideal.Read
public import proofs.«01_k».proof.Proof.Shards
public import Idealize.ShloMosaic.Adequacy
public import Idealize.ShloMosaic.Init
/-! The call for the gradient at the weights of the wide column-parallel product, with its carried copy. -/
@[expose] public section
noncomputable section
namespace Cert.WideDg
open Idealize.ShloMosaic Idealize.SL.Sem Cert.Cols Cert.Shards

section kernel
open Cert.Kernel12Ideal Cert.Kernel12Ideal.Gen Cert.Kernel12Ideal.Value

section body
variable {F : FTy → Type} [FloatOps F] (c : Dev nD) (i : grid0.Coords)

/-- What a first step leaves of the carried copy. -/
theorem sA (arg3 : Memref sig .tc .vmem S2048x512 .f32) (harg3 : arg3.IsWhole) (arg4 : Memref sig .tc .vmem S2048x384 .f32) (harg4 : arg4.IsWhole) (arg5 : Memref sig .tc .vmem S1x512x384 .bf16) (harg5 : arg5.IsWhole) (arg6 : Memref sig .tc .vmem S512x384 .f32) (harg6 : arg6.IsWhole) (arg7 : Memref sig .tc .vmem S2048x512 .bf16) (harg7 : arg7.IsWhole) (hc0 : cond0_0 i) (hc1 : cond0_1 i) (hc2 : cond0_2 i) (x0 : Vec F S2048x512 .f32) (x1 : Vec F S2048x384 .f32) : sout0_A_1 c i arg3 harg3 arg4 harg4 arg5 harg5 arg6 harg6 arg7 harg7 hc0 hc1 hc2 x0 x1 = k0_pay2 x0 := by
  unfold sout0_A_1
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x384) (off := ![0, 0]) (by decide), View.ld_unit_zero (S := S2048x384) (off := ![0, 0]) (by decide)]
/-- What a first step writes back. -/
theorem oA (arg3 : Memref sig .tc .vmem S2048x512 .f32) (harg3 : arg3.IsWhole) (arg4 : Memref sig .tc .vmem S2048x384 .f32) (harg4 : arg4.IsWhole) (arg5 : Memref sig .tc .vmem S1x512x384 .bf16) (harg5 : arg5.IsWhole) (arg6 : Memref sig .tc .vmem S512x384 .f32) (harg6 : arg6.IsWhole) (arg7 : Memref sig .tc .vmem S2048x512 .bf16) (harg7 : arg7.IsWhole) (hc0 : cond0_0 i) (hc1 : cond0_1 i) (hc2 : cond0_2 i) (x0 : Vec F S2048x512 .f32) (x1 : Vec F S2048x384 .f32) : out0_A_2 c i arg3 harg3 arg4 harg4 arg5 harg5 arg6 harg6 arg7 harg7 hc0 hc1 hc2 x0 x1 = k0_pay4 (k0_pay3 (k0_pay2 x0) x1 k0_pay1) := by
  unfold out0_A_2
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x384) (off := ![0, 0]) (by decide), View.ld_unit_zero (S := S2048x384) (off := ![0, 0]) (by decide)]
/-- What a later step writes back. -/
theorem oB (arg3 : Memref sig .tc .vmem S2048x512 .f32) (harg3 : arg3.IsWhole) (arg4 : Memref sig .tc .vmem S2048x384 .f32) (harg4 : arg4.IsWhole) (arg5 : Memref sig .tc .vmem S1x512x384 .bf16) (harg5 : arg5.IsWhole) (arg6 : Memref sig .tc .vmem S512x384 .f32) (harg6 : arg6.IsWhole) (arg7 : Memref sig .tc .vmem S2048x512 .bf16) (harg7 : arg7.IsWhole) (hc0 : cond0_0 i) (hc1 : ¬cond0_1 i) (hc2 : cond0_2 i) (x0 : Vec F S2048x512 .f32) (x1 : Vec F S2048x384 .f32) (xs1 : Vec F S2048x512 .bf16) : out0_B_2 c i arg3 harg3 arg4 harg4 arg5 harg5 arg6 harg6 arg7 harg7 hc0 hc1 hc2 x0 x1 xs1 = k0_pay4 (k0_pay3 xs1 x1 k0_pay1) := by
  unfold out0_B_2
  rw [View.read_writes_junk_eq_canon]
  unfold kernelRun0_B
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S2048x512) (off := ![0, 0]) (by decide), View.ld_unit_zero (S := S512x384) (off := ![0, 0]) (by decide), View.ld_unit_zero (S := S2048x384) (off := ![0, 0]) (by decide)]
end body

/-- An entry of the carried copy. -/
theorem pay2_apply (x0 : Vec Ideal S2048x512 .f32) (i : Fin 2048) (e : Fin 512) : (k0_pay2 (F := Ideal) x0 (ix2 i e) : EReal) = x0 (ix2 i e) := by
  pointwise [k0_pay2]
/-- An entry of the block a step writes back. -/
theorem pay4_apply (s : Vec Ideal S2048x512 .bf16) (x1 : Vec Ideal S2048x384 .f32) (i : Fin 512) (q : Fin 384) :
    (k0_pay4 (F := Ideal) (k0_pay3 s x1 (k0_pay1 (F := Ideal))) (ix3 (0 : Fin 1) i q) : EReal) = ∑ k : Fin 2048, (s (ix2 k i) : EReal) * x1 (ix2 k q) := by
  pointwise [k0_pay4, k0_pay3, k0_pay1]

/-! ## The windows' blocks -/

variable (m : (ℓ : Loc nD τ sig) → Buf (Elt Ideal) ℓ) (d : Dev nD)

/-- The first operand as the region finds it. -/
theorem V_arg0 : (V m d main_arg0 : FVec Ideal S2048x1024 .f32) = m (d, Proc.tc.devRef main_arg0) := by
  simp only [V, hostOps0, StableHlo.after_cons, StableHlo.after_nil]
  rfl
/-- The first operand's block of a step. -/
theorem index0 : ∀ t : Fin cfg0.N, win0_0.index t 0 = 0 ∧ win0_0.index t 1 = t.val / 8 := by decide +kernel
/-- The columns' block of a step. -/
theorem index1 : ∀ t : Fin cfg0.N, win0_1.index t 0 = 0 ∧ win0_1.index t 1 = t.val % 8 := by decide +kernel

/-- The column of the first operand that a half's column is. -/
def half (r : ℕ) (e : Fin 512) : Fin 1024 := ⟨(512 * r + e.val) % 1024, Nat.mod_lt _ (by decide)⟩
/-- An entry of the first operand's block. -/
theorem iblk0 (t : Fin cfg0.N) (i : Fin 2048) (e : Fin 512) : (iblk m d 0 t : Vec Ideal S2048x512 .f32) (ix2 i e)
    = (m (d, Proc.tc.devRef main_arg0) : FVec Ideal S2048x1024 .f32) (ix2 i (half (t.val / 8) e)) := by
  unfold iblk
  rw [View.read_apply]
  refine (congrArg (V m d main_arg0 : FVec Ideal S2048x1024 .f32) (funext fun a => Fin.ext ?_ : _ = ix2 i (half (t.val / 8) e))).trans ?_
  · have hi := index0 t
    match a with
    | ⟨0, _⟩ => show win0_0.index t 0 * 2048 + 1 * i.val = i.val; rw [hi.1]; omega
    | ⟨1, _⟩ => show win0_0.index t 1 * 512 + 1 * e.val = (512 * (t.val / 8) + e.val) % 1024; rw [hi.2]; have ht := lt_of_lt_of_eq t.isLt N_0; have he := e.isLt; omega
  · rw [V_arg0]
/-- An entry of the columns' block. -/
theorem iblk1 (t : Fin cfg0.N) (k : Fin 2048) (q : Fin 384) : (iblk m d 1 t : Vec Ideal S2048x384 .f32) (ix2 k q)
    = (m (d, Proc.tc.devRef main_arg2) : FVec Ideal S2048x3072 .f32) (ix2 k (wide ⟨t.val % 8, Nat.mod_lt _ (by decide)⟩ q)) := by
  unfold iblk
  rw [View.read_apply]
  refine (congrFun (V_main_arg2 m d) _).trans (congrArg (m (d, Proc.tc.devRef main_arg2) : FVec Ideal S2048x3072 .f32) (funext fun a => Fin.ext ?_))
  have hi := index1 t
  match a with
  | ⟨0, _⟩ => show win0_1.index t 0 * 2048 + 1 * k.val = k.val; rw [hi.1]; omega
  | ⟨1, _⟩ => show win0_1.index t 1 * 384 + 1 * q.val = 384 * (t.val % 8) + q.val; rw [hi.2]; omega

/-! ## The result -/

/-- An entry of the product. -/
def dw (h : FVec Ideal S2048x1024 .f32) (w : FVec Ideal S2048x3072 .f32) (i : Fin 1024) (f : Fin 3072) : EReal :=
  ∑ k : Fin 2048, (h (ix2 k i) : EReal) * w (ix2 k f)

/-- The carried copy after a first step. -/
theorem step_first (n : ℕ) (h : n < cfg0.N) (x : Vec Ideal S1x512x384 .bf16 × Vec Ideal S2048x512 .bf16) (h0 : n % 8 = 0) (i : Fin 2048) (e : Fin 512) :
    ((stAt0 m d n h x).2 (ix2 i e) : EReal) = (m (d, Proc.tc.devRef main_arg0) : FVec Ideal S2048x1024 .f32) (ix2 i (half (n / 8) e)) := by
  have hs := congrArg Prod.snd (stAt0_A m d ⟨n, h⟩ x h0)
  dsimp only at hs
  rw [sA] at hs
  refine (congrFun hs (ix2 i e)).trans ?_
  exact (pay2_apply _ i e).trans (iblk0 m d ⟨n, h⟩ i e)
/-- The carried copy after a later step. -/
theorem step_later (n : ℕ) (h : n < cfg0.N) (x : Vec Ideal S1x512x384 .bf16 × Vec Ideal S2048x512 .bf16) (h0 : ¬n % 8 = 0) :
    (stAt0 m d n h x).2 = x.2 := by
  have hs := congrArg Prod.snd (stAt0_B m d ⟨n, h⟩ x h0)
  dsimp only at hs
  unfold sout0_B_1 at hs
  exact hs
/-- What any step writes back, from the carried copy it leaves. -/
theorem step_out (n : ℕ) (h : n < cfg0.N) (x : Vec Ideal S1x512x384 .bf16 × Vec Ideal S2048x512 .bf16) :
    (stAt0 m d n h x).1 = k0_pay4 (F := Ideal) (k0_pay3 (stAt0 m d n h x).2 (iblk m d 1 ⟨n, h⟩) (k0_pay1 (F := Ideal))) := by
  by_cases h0 : n % 8 = 0
  · have hs := congrArg Prod.snd (stAt0_A m d ⟨n, h⟩ x h0)
    have ho := congrArg Prod.fst (stAt0_A m d ⟨n, h⟩ x h0)
    dsimp only at hs ho
    rw [sA] at hs
    rw [oA] at ho
    rw [hs]
    exact ho
  · have ho := congrArg Prod.fst (stAt0_B m d ⟨n, h⟩ x h0)
    dsimp only at ho
    rw [oB] at ho
    rw [step_later m d n h x h0]
    exact ho

/-- The fold of the steps up to `n`. -/
abbrev fold (n : ℕ) (h : 0 + n < cfg0.N) : Vec Ideal S1x512x384 .bf16 × Vec Ideal S2048x512 .bf16 :=
  Pipeline.accAt (fun n h => stAt0 m d n h junk0) (stAt0 m d) 0 n h
/-- The carried copy after every step. -/
theorem fold_copy (n : ℕ) (h : 0 + n < cfg0.N) (i : Fin 2048) (e : Fin 512) :
    ((fold m d n h).2 (ix2 i e) : EReal) = (m (d, Proc.tc.devRef main_arg0) : FVec Ideal S2048x1024 .f32) (ix2 i (half (n / 8) e)) :=
  fold_carry (fun n h => stAt0 m d n h junk0) (stAt0 m d) (fun x => (x.2 (ix2 i e) : EReal))
    (fun r => (m (d, Proc.tc.devRef main_arg0) : FVec Ideal S2048x1024 .f32) (ix2 i (half r e)))
    (fun h => step_first m d 0 h _ (Nat.zero_mod 8) i e) (fun n h x h0 => step_first m d n h x h0 i e)
    (fun n h x h0 => congrFun (step_later m d n h x h0) (ix2 i e)) n h
/-- What every step writes back, from the carried copy. -/
theorem fold_out : ∀ (n : ℕ) (h : 0 + n < cfg0.N) (h' : n < cfg0.N),
    (fold m d n h).1 = k0_pay4 (F := Ideal) (k0_pay3 (fold m d n h).2 (iblk m d 1 ⟨n, h'⟩) (k0_pay1 (F := Ideal)))
  | 0, h, _ => step_out m d 0 h junk0
  | n + 1, h, h' => by
    have e := step_out m d (0 + (n + 1)) h (fold m d n (Nat.lt_of_succ_lt h))
    have hn : (⟨0 + (n + 1), h⟩ : Fin cfg0.N) = ⟨n + 1, h'⟩ := Fin.ext (Nat.zero_add _)
    rw [hn] at e
    exact e

/-- The result's array, entry by entry. -/
theorem G2_eq (j : Fin 8) (i : Fin 1024) (q : Fin 384) : (G2 m d : FVec Ideal S8x1024x384 .bf16) (ix3 j i q)
    = dw (m (d, Proc.tc.devRef main_arg0)) (m (d, Proc.tc.devRef main_arg2)) i (wide j q) := by
  have hN : cfg0.N = 16 := N_0
  have hj := j.isLt
  have hi := i.isLt
  have hq := q.isLt
  have hp : pt2Of (ix3 j i q) = (j.val + 8 * (i.val / 512)) := by
    show 1 * (j.val / 1 - 0) + 8 * (i.val / 512 - 0) + 16 * (q.val / 384 - 0) = _
    omega
  have hlt : (j.val + 8 * (i.val / 512)) < cfg0.N := by omega
  unfold G2
  rw [dif_pos (by rw [hp]; exact hlt)]
  have hl : loc2Of (ix3 j i q) = ix3 (0 : Fin 1) (⟨i.val % 512, Nat.mod_lt _ (by decide)⟩ : Fin 512) q := funext fun a => Fin.ext (by
    match a with
    | ⟨0, _⟩ => show j.val % 1 = 0; omega
    | ⟨1, _⟩ => rfl
    | ⟨2, _⟩ => show q.val % 384 = q.val; omega)
  have hf := fold_out m d (pt2Of (ix3 j i q)) (by omega) (by omega)
  rw [hl]
  refine (congrFun hf _).trans ?_
  refine (pay4_apply _ _ _ q).trans ?_
  unfold dw
  refine Finset.sum_congr rfl fun k _ => ?_
  rw [fold_copy, iblk1]
  refine congrArg₂ (fun a b : EReal => a * b) (congrArg _ ?_) (congrArg _ ?_)
  · exact congrArg (ix2 k) (Fin.ext (by show (512 * (pt2Of (ix3 j i q) / 8) + i.val % 512) % 1024 = i.val; rw [hp]; omega))
  · exact congrArg (fun z => ix2 k (wide z q)) (Fin.ext (by show pt2Of (ix3 j i q) % 8 = j.val; rw [hp]; omega))

end kernel

section ref
open Cert.Reference12Ideal Cert.Reference12Ideal.Gen Cert.Reference12Ideal.Read
/-- The reference's gradient, before it is put by device. -/
theorem ref_grad (x0 : FVec Ideal S2048x1024 .f32) (x2 : FVec Ideal S2048x3072 .f32) (i : Fin 1024) (f : Fin 3072) :
    val_main_v4 (F := Ideal) x0 x2 (ix2 i f) = dw x0 x2 i f := by
  rw [val_main_v4_apply, val_main_v3_apply, val_main_v2_apply]
  refine Finset.sum_congr rfl fun k _ => ?_
  exact (congrArg₂ (fun a b : EReal => a * b) (congrArg x2 (eq_ix2 _)) (congrArg x0 (eq_ix2 _))).trans (mul_comm _ _)
/-- The reference's result. -/
theorem ref_eq (x0 : FVec Ideal S2048x1024 .f32) (x2 : FVec Ideal S2048x3072 .f32) (j : Fin 8) (i : Fin 1024) (q : Fin 384) :
    val_main_v6 (F := Ideal) x0 x2 (ix3 j i q) = dw x0 x2 i (wide j q) := by
  unfold val_main_v6 val_main_v5
  exact (wide_apply _ _ _ j i q).trans (ref_grad _ _ _ _)
/-- The reference's result on the kernel's arguments. -/
theorem out_eq (m : (ℓ : Loc nD τ sig) → Buf (Elt Ideal) ℓ) (c : Dev nD) (x0 : FVec Ideal S2048x1024 .f32) (x2 : FVec Ideal S2048x3072 .f32)
    (a0 : m ((c.tc : Thread nD τ).loc main_arg0) = x0) (a2 : m ((c.tc : Thread nD τ).loc main_arg2) = x2) (j : Fin 8) (i : Fin 1024) (q : Fin 384) :
    val_main_v6 (F := Ideal) (m ((c.tc : Thread nD τ).loc main_arg0)) (m ((c.tc : Thread nD τ).loc main_arg2)) (ix3 j i q) = dw x0 x2 i (wide j q) := by
  subst a0 a2
  exact ref_eq _ _ j i q
end ref

/-- The reference run ends with its arguments kept and all counters at zero. -/
theorem frame_ref : Cert.quiescent_Reference12Ideal (hReference12Ideal := Cert.Reference12Ideal.Gen.facts) := by
  intro m ρ _
  exact (θ_run Cert.Reference12Ideal.defs _ _).mono (fun r h => ⟨fun c => (h c).2, sem_eq_zero_of_no_sems (by decide) r.2⟩)
    (Cert.Reference12Ideal.Value.run (F := Ideal) m ρ)

/-- The value claim: both programs leave the same array. -/
theorem value : Cert.algebraic_Kernel12Ideal_Reference12Ideal (hKernel12Ideal := Cert.Kernel12Ideal.Gen.facts) (hReference12Ideal := Cert.Reference12Ideal.Gen.facts) := by
  intro m ρ m' ρ' _ hag
  refine ⟨Cert.Kernel12Ideal.Value.G2 m, ?_, ?_⟩
  · exact Cert.Kernel12Ideal.Value.run (F := Ideal) m ρ
  · refine (θ_run Cert.Reference12Ideal.defs _ _).mono (fun r h c => ?_) (Cert.Reference12Ideal.Value.run (F := Ideal) m' ρ')
    obtain ⟨e0, ek⟩ := h c
    obtain ⟨a0, a1, a2⟩ := hag c
    exact ⟨e0.trans ((Cert.Reference12Ideal.Read.val_main_v6_eq _ _ ).trans (same3 _ _ _ (out_eq m' c _ _ a0 a2) (G2_eq m c))), ek⟩

end Cert.WideDg
-- ==== Proof.WideFwd.lean ====
module
public import proofs.«01_k».proof.Defs
public import proofs.«01_k».proof.Proof.Gen.Kernel13Ideal.Value
public import proofs.«01_k».proof.Proof.Gen.Reference13Ideal.Read
public import proofs.«01_k».proof.Proof.Shards
public import Idealize.ShloMosaic.Adequacy
public import Idealize.ShloMosaic.Init
/-! The call for the wide column-parallel product, with its carried copy for each half of the rows. -/
@[expose] public section
noncomputable section
namespace Cert.WideFwd
open Idealize.ShloMosaic Idealize.SL.Sem Cert.Cols Cert.Shards

section kernel
open Cert.Kernel13Ideal Cert.Kernel13Ideal.Gen Cert.Kernel13Ideal.Value

section body
variable {F : FTy → Type} [FloatOps F] (c : Dev nD) (i : grid0.Coords)

/-- What a first step leaves of the carried copy. -/
theorem sA (arg3 : Memref sig .tc .vmem S1024x1024 .f32) (harg3 : arg3.IsWhole) (arg4 : Memref sig .tc .vmem S1x1024x384 .bf16) (harg4 : arg4.IsWhole) (arg5 : Memref sig .tc .vmem S1024x384 .f32) (harg5 : arg5.IsWhole) (arg6 : Memref sig .tc .vmem S1024x384 .f32) (harg6 : arg6.IsWhole) (arg7 : Memref sig .tc .vmem S1024x1024 .bf16) (harg7 : arg7.IsWhole) (hc0 : cond0_0 i) (hc1 : cond0_1 i) (hc2 : cond0_2 i) (x0 : Vec F S1024x1024 .f32) (x1 : Vec F S1x1024x384 .bf16) : sout0_A_1 c i arg3 harg3 arg4 harg4 arg5 harg5 arg6 harg6 arg7 harg7 hc0 hc1 hc2 x0 x1 = k0_pay2 x0 := by
  unfold sout0_A_1
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S1024x1024) (off := ![0, 0]) (by decide), View.ld_unit_zero (S := S1024x384) (off := ![0, 0]) (by decide), View.ld_unit_zero (S := S1x1024x384) (off := ![0, 0, 0]) (by decide)]
/-- What a first step writes back. -/
theorem oA (arg3 : Memref sig .tc .vmem S1024x1024 .f32) (harg3 : arg3.IsWhole) (arg4 : Memref sig .tc .vmem S1x1024x384 .bf16) (harg4 : arg4.IsWhole) (arg5 : Memref sig .tc .vmem S1024x384 .f32) (harg5 : arg5.IsWhole) (arg6 : Memref sig .tc .vmem S1024x384 .f32) (harg6 : arg6.IsWhole) (arg7 : Memref sig .tc .vmem S1024x1024 .bf16) (harg7 : arg7.IsWhole) (hc0 : cond0_0 i) (hc1 : cond0_1 i) (hc2 : cond0_2 i) (x0 : Vec F S1024x1024 .f32) (x1 : Vec F S1x1024x384 .bf16) : out0_A_2 c i arg3 harg3 arg4 harg4 arg5 harg5 arg6 harg6 arg7 harg7 hc0 hc1 hc2 x0 x1 = k0_pay3 (k0_pay2 x0) x1 k0_pay1 := by
  unfold out0_A_2
  rw [View.read_writes_junk_eq_canon]
  unfold kernelRun0_A
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S1024x1024) (off := ![0, 0]) (by decide), View.ld_unit_zero (S := S1024x384) (off := ![0, 0]) (by decide), View.ld_unit_zero (S := S1x1024x384) (off := ![0, 0, 0]) (by decide)]
/-- What a later step writes back. -/
theorem oB (arg3 : Memref sig .tc .vmem S1024x1024 .f32) (harg3 : arg3.IsWhole) (arg4 : Memref sig .tc .vmem S1x1024x384 .bf16) (harg4 : arg4.IsWhole) (arg5 : Memref sig .tc .vmem S1024x384 .f32) (harg5 : arg5.IsWhole) (arg6 : Memref sig .tc .vmem S1024x384 .f32) (harg6 : arg6.IsWhole) (arg7 : Memref sig .tc .vmem S1024x1024 .bf16) (harg7 : arg7.IsWhole) (hc0 : cond0_0 i) (hc1 : ¬cond0_1 i) (hc2 : cond0_2 i) (x0 : Vec F S1024x1024 .f32) (x1 : Vec F S1x1024x384 .bf16) (xs1 : Vec F S1024x1024 .bf16) : out0_B_2 c i arg3 harg3 arg4 harg4 arg5 harg5 arg6 harg6 arg7 harg7 hc0 hc1 hc2 x0 x1 xs1 = k0_pay3 xs1 x1 k0_pay1 := by
  unfold out0_B_2
  rw [View.read_writes_junk_eq_canon]
  unfold kernelRun0_B
  refine (View.canon_cons_unit_zero (by decide) _ _ _).trans ?_
  sl_unfold_words
  simp only [View.readAt_eq_ld, harg3.read_unread, harg4.read_unread, harg5.read_unread, harg6.read_unread, harg7.read_unread]
  try simp only [View.readCov_cons_toLoadRect]
  simp only [View.ld_unit_zero (S := S1024x1024) (off := ![0, 0]) (by decide), View.ld_unit_zero (S := S1024x384) (off := ![0, 0]) (by decide), View.ld_unit_zero (S := S1x1024x384) (off := ![0, 0, 0]) (by decide)]
end body

/-- An entry of the carried copy. -/
theorem pay2_apply (x0 : Vec Ideal S1024x1024 .f32) (i e : Fin 1024) : (k0_pay2 (F := Ideal) x0 (ix2 i e) : EReal) = x0 (ix2 i e) := by
  pointwise [k0_pay2]
/-- An entry of the block a step writes back. -/
theorem pay3_apply (s : Vec Ideal S1024x1024 .bf16) (x1 : Vec Ideal S1x1024x384 .bf16) (i : Fin 1024) (q : Fin 384) :
    (k0_pay3 (F := Ideal) s x1 (k0_pay1 (F := Ideal)) (ix2 i q) : EReal) = ∑ k : Fin 1024, (s (ix2 i k) : EReal) * x1 (ix3 (0 : Fin 1) k q) := by
  pointwise [k0_pay3, k0_pay1]

/-! ## The windows' blocks -/

variable (m : (ℓ : Loc nD τ sig) → Buf (Elt Ideal) ℓ) (d : Dev nD)

/-- The weights' columns as the region finds them. -/
theorem V_cols : (V m d main_v1 : FVec Ideal S8x1024x384 .bf16) = transpose S8x1024x384 [1, 0, 2]
    (shapeCast S1024x8x384 (m (d, Proc.tc.devRef main_arg1) : FVec Ideal S1024x3072 .bf16) shapeCasts_S1024x3072_S1024x8x384) transposes_S1024x8x384_S8x1024x384_1_0_2 := by
  simp only [V, hostOps0, StableHlo.after_cons, StableHlo.after_nil]
  rfl
/-- The first operand's block of a step. -/
theorem index0 : ∀ t : Fin cfg0.N, win0_0.index t 0 = t.val / 8 ∧ win0_0.index t 1 = 0 := by decide +kernel
/-- The weights' block of a step. -/
theorem index1 : ∀ t : Fin cfg0.N, win0_1.index t 0 = t.val % 8 ∧ win0_1.index t 1 = 0 ∧ win0_1.index t 2 = 0 := by decide +kernel
/-- A step's half is one of two. -/
theorem t_half (t : Fin cfg0.N) : t.val / 8 < 2 := by have := lt_of_lt_of_eq t.isLt N_0; omega
/-- An entry of the first operand's block. -/
theorem iblk0 (t : Fin cfg0.N) (i e : Fin 1024) : (iblk m d 0 t : Vec Ideal S1024x1024 .f32) (ix2 i e)
    = (m (d, Proc.tc.devRef main_arg0) : FVec Ideal S2048x1024 .f32) (ix2 (row (t.val / 8) i) e) := by
  unfold iblk
  rw [View.read_apply]
  refine (congrFun (V_main_arg0 m d) _).trans (congrArg (m (d, Proc.tc.devRef main_arg0) : FVec Ideal S2048x1024 .f32) (funext fun a => Fin.ext ?_))
  have hi := index0 t
  match a with
  | ⟨0, _⟩ => show win0_0.index t 0 * 1024 + 1 * i.val = (row (t.val / 8) i).val; rw [hi.1, row_val _ (t_half t)]; omega
  | ⟨1, _⟩ => show win0_0.index t 1 * 1024 + 1 * e.val = e.val; rw [hi.2]; omega
/-- An entry of the weights' block. -/
theorem iblk1 (t : Fin cfg0.N) (k : Fin 1024) (q : Fin 384) : (iblk m d 1 t : Vec Ideal S1x1024x384 .bf16) (ix3 (0 : Fin 1) k q)
    = (m (d, Proc.tc.devRef main_arg1) : FVec Ideal S1024x3072 .bf16) (ix2 k (wide ⟨t.val % 8, Nat.mod_lt _ (by decide)⟩ q)) := by
  unfold iblk
  rw [View.read_apply]
  refine (congrArg (V m d main_v1 : FVec Ideal S8x1024x384 .bf16) (funext fun a => Fin.ext ?_ : _ = ix3 (⟨t.val % 8, Nat.mod_lt _ (by decide)⟩ : Fin 8) k q)).trans ?_
  · have hi := index1 t
    match a with
    | ⟨0, _⟩ => show win0_1.index t 0 * 1 + 1 * 0 = t.val % 8; rw [hi.1]; omega
    | ⟨1, _⟩ => show win0_1.index t 1 * 1024 + 1 * k.val = k.val; rw [hi.2.1]; omega
    | ⟨2, _⟩ => show win0_1.index t 2 * 384 + 1 * q.val = q.val; rw [hi.2.2]; omega
  · rw [V_cols]
    exact wide_apply _ _ _ _ k q

/-! ## The result -/

/-- An entry of the product. -/
def prod (h : FVec Ideal S2048x1024 .f32) (w : FVec Ideal S1024x3072 .bf16) (i : Fin 2048) (f : Fin 3072) : EReal :=
  ∑ k : Fin 1024, (h (ix2 i k) : EReal) * w (ix2 k f)

/-- The carried copy after a first step. -/
theorem step_first (n : ℕ) (h : n < cfg0.N) (x : Vec Ideal S1024x384 .f32 × Vec Ideal S1024x1024 .bf16) (h0 : n % 8 = 0) (i e : Fin 1024) :
    ((stAt0 m d n h x).2 (ix2 i e) : EReal) = (m (d, Proc.tc.devRef main_arg0) : FVec Ideal S2048x1024 .f32) (ix2 (row (n / 8) i) e) := by
  have hs := congrArg Prod.snd (stAt0_A m d ⟨n, h⟩ x h0)
  dsimp only at hs
  rw [sA] at hs
  refine (congrFun hs (ix2 i e)).trans ?_
  exact (pay2_apply _ i e).trans (iblk0 m d ⟨n, h⟩ i e)
/-- The carried copy after a later step. -/
theorem step_later (n : ℕ) (h : n < cfg0.N) (x : Vec Ideal S1024x384 .f32 × Vec Ideal S1024x1024 .bf16) (h0 : ¬n % 8 = 0) :
    (stAt0 m d n h x).2 = x.2 := by
  have hs := congrArg Prod.snd (stAt0_B m d ⟨n, h⟩ x h0)
  dsimp only at hs
  unfold sout0_B_1 at hs
  exact hs
/-- What any step writes back, from the carried copy it leaves. -/
theorem step_out (n : ℕ) (h : n < cfg0.N) (x : Vec Ideal S1024x384 .f32 × Vec Ideal S1024x1024 .bf16) :
    (stAt0 m d n h x).1 = k0_pay3 (F := Ideal) (stAt0 m d n h x).2 (iblk m d 1 ⟨n, h⟩) (k0_pay1 (F := Ideal)) := by
  by_cases h0 : n % 8 = 0
  · have hs := congrArg Prod.snd (stAt0_A m d ⟨n, h⟩ x h0)
    have ho := congrArg Prod.fst (stAt0_A m d ⟨n, h⟩ x h0)
    dsimp only at hs ho
    rw [sA] at hs
    rw [oA] at ho
    rw [hs]
    exact ho
  · have ho := congrArg Prod.fst (stAt0_B m d ⟨n, h⟩ x h0)
    dsimp only at ho
    rw [oB] at ho
    rw [step_later m d n h x h0]
    exact ho

/-- The fold of the steps up to `n`. -/
abbrev fold (n : ℕ) (h : 0 + n < cfg0.N) : Vec Ideal S1024x384 .f32 × Vec Ideal S1024x1024 .bf16 :=
  Pipeline.accAt (fun n h => stAt0 m d n h junk0) (stAt0 m d) 0 n h
/-- The carried copy after every step. -/
theorem fold_copy (n : ℕ) (h : 0 + n < cfg0.N) (i e : Fin 1024) :
    ((fold m d n h).2 (ix2 i e) : EReal) = (m (d, Proc.tc.devRef main_arg0) : FVec Ideal S2048x1024 .f32) (ix2 (row (n / 8) i) e) :=
  fold_carry (fun n h => stAt0 m d n h junk0) (stAt0 m d) (fun x => (x.2 (ix2 i e) : EReal))
    (fun r => (m (d, Proc.tc.devRef main_arg0) : FVec Ideal S2048x1024 .f32) (ix2 (row r i) e))
    (fun h => step_first m d 0 h _ (Nat.zero_mod 8) i e) (fun n h x h0 => step_first m d n h x h0 i e)
    (fun n h x h0 => congrFun (step_later m d n h x h0) (ix2 i e)) n h
/-- What every step writes back, from the carried copy. -/
theorem fold_out : ∀ (n : ℕ) (h : 0 + n < cfg0.N) (h' : n < cfg0.N),
    (fold m d n h).1 = k0_pay3 (F := Ideal) (fold m d n h).2 (iblk m d 1 ⟨n, h'⟩) (k0_pay1 (F := Ideal))
  | 0, h, _ => step_out m d 0 h junk0
  | n + 1, h, h' => by
    have e := step_out m d (0 + (n + 1)) h (fold m d n (Nat.lt_of_succ_lt h))
    have hn : (⟨0 + (n + 1), h⟩ : Fin cfg0.N) = ⟨n + 1, h'⟩ := Fin.ext (Nat.zero_add _)
    rw [hn] at e
    exact e

/-- The result's array, entry by entry. -/
theorem G2_eq (i : Fin 2048) (e : Fin 3072) : (G2 m d : FVec Ideal S2048x3072 .f32) (ix2 i e)
    = prod (m (d, Proc.tc.devRef main_arg0)) (m (d, Proc.tc.devRef main_arg1)) i e := by
  have hN : cfg0.N = 16 := N_0
  have hi := i.isLt
  have he := e.isLt
  have hp : pt2Of (ix2 i e) = 8 * (i.val / 1024) + e.val / 384 := by
    show 8 * (i.val / 1024 - 0) + 1 * (e.val / 384 - 0) = _
    omega
  have hlt : 8 * (i.val / 1024) + e.val / 384 < cfg0.N := by omega
  unfold G2
  rw [dif_pos (by rw [hp]; exact hlt)]
  have hl : loc2Of (ix2 i e) = ix2 (⟨i.val % 1024, Nat.mod_lt _ (by decide)⟩ : Fin 1024) (⟨e.val % 384, Nat.mod_lt _ (by decide)⟩ : Fin 384) := funext fun a => Fin.ext (by
    match a with
    | ⟨0, _⟩ => rfl
    | ⟨1, _⟩ => rfl)
  have hf := fold_out m d (pt2Of (ix2 i e)) (by omega) (by omega)
  rw [hl]
  refine (congrFun hf _).trans ?_
  refine (pay3_apply _ _ _ _).trans ?_
  unfold prod
  refine Finset.sum_congr rfl fun k _ => ?_
  rw [fold_copy, iblk1]
  refine congrArg₂ (fun a b : EReal => a * b) (congrArg _ ?_) (congrArg _ ?_)
  · exact congrArg (fun z => ix2 z k) (Fin.ext (by show (1024 * (pt2Of (ix2 i e) / 8) + i.val % 1024) % 2048 = i.val; rw [hp]; omega))
  · exact congrArg (fun z => ix2 k z) (Fin.ext (by show 384 * (pt2Of (ix2 i e) % 8) + e.val % 384 = e.val; rw [hp]; omega))
end kernel

section ref
open Cert.Reference13Ideal Cert.Reference13Ideal.Gen Cert.Reference13Ideal.Read
/-- The reference's result. -/
theorem ref_eq (x0 : FVec Ideal S2048x1024 .f32) (x1 : FVec Ideal S1024x3072 .bf16) (i : Fin 2048) (e : Fin 3072) :
    val_main_v1 (F := Ideal) x0 x1 (ix2 i e) = prod x0 x1 i e := by
  rw [val_main_v1_apply]
  refine Finset.sum_congr rfl fun k _ => ?_
  rw [val_main_v0_apply]
  exact congrArg₂ (fun a b : EReal => a * b) (congrArg x0 (eq_ix2 _)) (congrArg x1 (eq_ix2 _))
/-- The reference's result on the kernel's arguments. -/
theorem out_eq (m : (ℓ : Loc nD τ sig) → Buf (Elt Ideal) ℓ) (c : Dev nD) (x0 : FVec Ideal S2048x1024 .f32) (x1 : FVec Ideal S1024x3072 .bf16)
    (a0 : m ((c.tc : Thread nD τ).loc main_arg0) = x0) (a1 : m ((c.tc : Thread nD τ).loc main_arg1) = x1) (i : Fin 2048) (e : Fin 3072) :
    val_main_v1 (F := Ideal) (m ((c.tc : Thread nD τ).loc main_arg0)) (m ((c.tc : Thread nD τ).loc main_arg1)) (ix2 i e) = prod x0 x1 i e := by
  subst a0 a1
  exact ref_eq _ _ i e
end ref

/-- The reference run ends with its arguments kept and all counters at zero. -/
theorem frame_ref : Cert.quiescent_Reference13Ideal (hReference13Ideal := Cert.Reference13Ideal.Gen.facts) := by
  intro m ρ _
  exact (θ_run Cert.Reference13Ideal.defs _ _).mono (fun r h => ⟨fun c => (h c).2, sem_eq_zero_of_no_sems (by decide) r.2⟩)
    (Cert.Reference13Ideal.Value.run (F := Ideal) m ρ)

/-- The value claim: both programs leave the same array. -/
theorem value : Cert.algebraic_Kernel13Ideal_Reference13Ideal (hKernel13Ideal := Cert.Kernel13Ideal.Gen.facts) (hReference13Ideal := Cert.Reference13Ideal.Gen.facts) := by
  intro m ρ m' ρ' _ hag
  refine ⟨Cert.Kernel13Ideal.Value.G2 m, ?_, ?_⟩
  · exact Cert.Kernel13Ideal.Value.run (F := Ideal) m ρ
  · refine (θ_run Cert.Reference13Ideal.defs _ _).mono (fun r h c => ?_) (Cert.Reference13Ideal.Value.run (F := Ideal) m' ρ')
    obtain ⟨e0, ek⟩ := h c
    obtain ⟨a0, a1⟩ := hag c
    exact ⟨e0.trans ((Cert.Reference13Ideal.Read.val_main_v1_eq _ _ ).trans (same _ _ _ (out_eq m' c _ _ a0 a1) (G2_eq m c))), ek⟩

end Cert.WideFwd
-- ==== Proof.Lin.lean ====
module
public import proofs.«01_k».proof.Defs
public import proofs.«01_k».proof.Proof.Gen.Kernel14Ideal.Value
public import proofs.«01_k».proof.Proof.Gen.Reference14Ideal.Read
public import proofs.«01_k».proof.Proof.Shards
public import Idealize.ShloMosaic.Adequacy
public import Idealize.ShloMosaic.Init
/-! The call for a product, and the same entries of its reference. -/
@[expose] public section
noncomputable section
namespace Cert.Lin
open Idealize.ShloMosaic Idealize.SL.Sem Cert.Shards

section kernel
open Cert.Kernel14Ideal Cert.Kernel14Ideal.Gen

section body
variable {F : FTy → Type} [FloatOps F] (c : Dev nD) (i : grid0.Coords)

/-- What a point leaves of the result. -/
theorem out (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : cond0_1 i) (x0 : Vec F S1024x1024 .f32) (x1 : Vec F S1024x1024 .bf16) : out0_A_2 c i arg3 harg3 arg4 harg4 arg5 harg5 arg6 harg6 hc0 hc1 x0 x1 = k0_pay2 k0_pay1 x0 x1 := by
  unfold out0_A_2
  rw [View.read_writes_junk_eq_canon]
  unfold kernelRun0_A
  refine (View.canon_unit_zero (by decide) _ _).trans ?_
  sl_unfold_words
  simp only [View.readAt_eq_ld, harg3.read_unread, harg4.read_unread]
  simp only [View.readCov_cons_toLoadRect]
  simp only [View.ld_unit_zero (S := S1024x1024) (off := ![0, 0]) (by decide)]
end body

/-- An entry of a block's product. -/
theorem prod_apply (x0 : Vec Ideal S1024x1024 .f32) (x1 : Vec Ideal S1024x1024 .bf16) (i e : Fin 1024) :
    k0_pay2 (F := Ideal) (k0_pay1 (F := Ideal)) x0 x1 (ix2 i e) = ∑ k : Fin 1024, (x0 (ix2 i k) : EReal) * x1 (ix2 k e) := by
  pointwise [k0_pay2, k0_pay1]

variable (m : (ℓ : Loc nD τ sig) → Buf (Elt Ideal) ℓ) (d : Dev nD)

/-- The left factor's block of a step. -/
theorem index0 : ∀ t : Fin cfg0.N, win0_0.index t 0 = t.val ∧ win0_0.index t 1 = 0 := by decide +kernel
/-- The weights' block is the whole array. -/
theorem index1 : ∀ t : Fin cfg0.N, win0_1.index t 0 = 0 ∧ win0_1.index t 1 = 0 := by decide +kernel
/-- The result's block of a step. -/
theorem index2 : ∀ t : Fin cfg0.N, win0_2.index t 0 = t.val ∧ win0_2.index t 1 = 0 := by decide +kernel
/-- Every step writes its block back. -/
theorem flush : ∀ t : Fin cfg0.N, (cfg0.win 2).flush t = true := by decide +kernel
/-- There are two steps. -/
theorem t_lt (t : Fin cfg0.N) : t.val < 2 := lt_of_lt_of_eq t.isLt N_0

/-- An entry of the left factor's block. -/
theorem iblk0 (t : Fin cfg0.N) (i k : Fin 1024) : (iblk m d 0 t : Vec Ideal S1024x1024 .f32) (ix2 i k)
    = (m (d, Proc.tc.devRef main_arg0) : FVec Ideal S2048x1024 .f32) (ix2 (row t.val i) k) := by
  unfold iblk
  rw [View.read_apply]
  refine (congrFun (V_main_arg0 m d) _).trans (congrArg (m (d, Proc.tc.devRef main_arg0) : FVec Ideal S2048x1024 .f32) (funext fun a => Fin.ext ?_))
  have hi := index0 t
  match a with
  | ⟨0, _⟩ => show win0_0.index t 0 * 1024 + 1 * i.val = (row t.val i).val; rw [hi.1, row_val _ (t_lt t)]; omega
  | ⟨1, _⟩ => show win0_0.index t 1 * 1024 + 1 * k.val = k.val; rw [hi.2]; omega
/-- An entry of the weights. -/
theorem iblk1 (t : Fin cfg0.N) (i k : Fin 1024) : (iblk m d 1 t : Vec Ideal S1024x1024 .bf16) (ix2 i k)
    = (m (d, Proc.tc.devRef main_arg1) : FVec Ideal S1024x1024 .bf16) (ix2 i k) := by
  unfold iblk
  rw [View.read_apply]
  refine (congrFun (V_main_arg1 m d) _).trans (congrArg (m (d, Proc.tc.devRef main_arg1) : FVec Ideal S1024x1024 .bf16) (funext fun a => Fin.ext ?_))
  have hi := index1 t
  match a with
  | ⟨0, _⟩ => show win0_1.index t 0 * 1024 + 1 * i.val = i.val; rw [hi.1]; omega
  | ⟨1, _⟩ => show win0_1.index t 1 * 1024 + 1 * k.val = k.val; rw [hi.2]; omega

/-- An entry of the result. -/
def prod (a : FVec Ideal S2048x1024 .f32) (w : FVec Ideal S1024x1024 .bf16) (i : Fin 2048) (e : Fin 1024) : EReal :=
  (∑ k : Fin 1024, (a (ix2 i k) : EReal) * w (ix2 k e))

/-- The result's array, entry by entry. -/
theorem arr (i : Fin 2048) (e : Fin 1024) : ((dats m 0 d).arrAt 2 cfg0.N : FVec Ideal S2048x1024 .f32) (ix2 i e)
    = prod (m (d, Proc.tc.devRef main_arg0)) (m (d, Proc.tc.devRef main_arg1)) i e := by
  rw [row_surj i]
  have ht : i.val / 1024 < 2 := by omega
  generalize i.val / 1024 = r at ht ⊢
  generalize (⟨i.val % 1024, _⟩ : Fin 1024) = q
  have hr : r < cfg0.N := lt_of_lt_of_eq ht N_0.symm
  have h := congrFun (Cert.Kernel14Ideal.Value.blocks2 m d ⟨r, hr⟩ (flush _)) (ix2 q e)
  rw [View.read_apply, Cert.Kernel14Ideal.Value.flushed2_A, out] at h
  refine ((congrArg ((dats m 0 d).arrAt 2 cfg0.N : FVec Ideal S2048x1024 .f32) (funext fun a => Fin.ext ?_)).trans h).trans ?_
  · have hi := index2 ⟨r, hr⟩
    match a with
    | ⟨0, _⟩ => show (row r q).val = win0_2.index ⟨r, hr⟩ 0 * 1024 + 1 * q.val; rw [hi.1, row_val r ht]; show 1024 * r + q.val = r * 1024 + 1 * q.val; omega
    | ⟨1, _⟩ => show e.val = win0_2.index ⟨r, hr⟩ 1 * 1024 + 1 * e.val; rw [hi.2]; omega
  · refine (prod_apply _ _ q e).trans ?_
    simp only [iblk0, iblk1]
    rfl
end kernel

section ref
open Cert.Reference14Ideal Cert.Reference14Ideal.Gen Cert.Reference14Ideal.Read
/-- The reference's result. -/
theorem ref_eq (x0 : FVec Ideal S2048x1024 .f32) (x1 : FVec Ideal S1024x1024 .bf16) (i : Fin 2048) (e : Fin 1024) : val_main_v1 (F := Ideal) x0 x1 (ix2 i e) = prod x0 x1 i e := by
  rw [val_main_v1_apply]
  refine Finset.sum_congr rfl fun k _ => ?_
  rw [val_main_v0_apply]
  exact congrArg₂ (fun a b : EReal => a * b) (congrArg x0 (eq_ix2 _)) (congrArg x1 (eq_ix2 _))
/-- The reference's result on the kernel's arguments. -/
theorem out_eq (m : (ℓ : Loc nD τ sig) → Buf (Elt Ideal) ℓ) (c : Dev nD) (x0 : FVec Ideal S2048x1024 .f32) (x1 : FVec Ideal S1024x1024 .bf16)
    (a0 : m ((c.tc : Thread nD τ).loc main_arg0) = x0) (a1 : m ((c.tc : Thread nD τ).loc main_arg1) = x1) (i : Fin 2048) (e : Fin 1024) :
    val_main_v1 (F := Ideal) (m ((c.tc : Thread nD τ).loc main_arg0)) (m ((c.tc : Thread nD τ).loc main_arg1)) (ix2 i e) = prod x0 x1 i e := by
  subst a0 a1
  exact ref_eq _ _ i e
end ref

/-- The reference run ends with its arguments kept and all counters at zero. -/
theorem frame_ref : Cert.quiescent_Reference14Ideal (hReference14Ideal := Cert.Reference14Ideal.Gen.facts) := by
  intro m ρ _
  exact (θ_run Cert.Reference14Ideal.defs _ _).mono (fun r h => ⟨fun c => (h c).2, sem_eq_zero_of_no_sems (by decide) r.2⟩)
    (Cert.Reference14Ideal.Value.run (F := Ideal) m ρ)

/-- The value claim: both programs leave the same array. -/
theorem value : Cert.algebraic_Kernel14Ideal_Reference14Ideal (hKernel14Ideal := Cert.Kernel14Ideal.Gen.facts) (hReference14Ideal := Cert.Reference14Ideal.Gen.facts) := by
  intro m ρ m' ρ' _ hag
  refine ⟨fun c => (Cert.Kernel14Ideal.Gen.dats m 0 c).arrAt 2 Cert.Kernel14Ideal.cfg0.N, ?_, ?_⟩
  · exact Cert.Kernel14Ideal.Value.run_blocks (F := Ideal) m ρ
  · refine (θ_run Cert.Reference14Ideal.defs _ _).mono (fun r h c => ?_) (Cert.Reference14Ideal.Value.run (F := Ideal) m' ρ')
    obtain ⟨e0, ek⟩ := h c
    obtain ⟨a0, a1⟩ := hag c
    exact ⟨e0.trans ((Cert.Reference14Ideal.Read.val_main_v1_eq _ _ ).trans (same _ _ _ (out_eq m' c _ _ a0 a1) (arr m c))), ek⟩

end Cert.Lin
-- ==== Proof.CaBody.lean ====
module
public import proofs.«01_k».proof.Proof.Gen.Kernel15Ideal.Skeleton
public import proofs.«01_k».proof.Proof.Tile
public import Idealize.ShloMosaic.Lib.Pointwise
/-! One grid point of the forward attention, read at an index: the printed result is the sum of the
values under the tile's real weights (Tile.lean) whenever the queries, the keys and the bias are real. -/
@[expose] public section
noncomputable section
namespace Cert.CaBody
open Idealize.ShloMosaic Cert.Kernel15Ideal Cert.Kernel15Ideal.Gen Cert.Row Cert.Tile

/-- A choice made by a decided proposition. -/
theorem select_decide {α : Type} (P : Prop) [Decidable P] (x y : α) :
    Scalar.select (BitVec.ofBool (decide P)) x y = if P then x else y := by
  by_cases h : P <;> simp [Scalar.select, h]

/-- The literal 0.125. -/
theorem eighth : Ideal.ofBits .f32 0x3E000000#32 = ((1 / 8 : ℝ) : EReal) := by
  simp [Ideal.ofBits, Ideal.ieee, -EReal.coe_mul]; norm_num
/-- The literal minus infinity. -/
theorem bot_lit : Ideal.ofBits .f32 0xFF800000#32 = ⊥ := by
  simp [Ideal.ofBits, Ideal.ieee, -EReal.coe_mul]
/-- The named mask value. -/
theorem mask_lit : (Named.named (F := Ideal) κ "mask" 0xF149F2CA#32 : Ideal .f32) = ⊥ :=
  IdealRules.named_const.ideal_named_scalar _ _ _ _ rfl

/-! ## The masks -/

/-- The printed floor division by 64 of a word. -/
def fdiv (w : BitVec 32) : BitVec 32 :=
  Scalar.select (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32) (IntOp.divsi ArithUnit.vector w 64#32)

/-- The rounded down quotient by 64 as it is printed. -/
theorem fdiv_eq : ∀ n : Fin 768, fdiv (BitVec.ofNat 32 n.val) = BitVec.ofNat 32 (n.val / 64) := by decide +kernel

/-- The comparison of chunks, decided over all of them. -/
theorem cmp_eq : ∀ (a : Fin 4) (b : Fin 12) (c : Fin 8),
    IntOp.andi (IntOp.andi (IntOp.cmpi .sge (BitVec.ofNat 32 b.val) (BitVec.ofNat 32 a.val))
        (IntOp.cmpi .sle (BitVec.ofNat 32 b.val) (IntOp.addi (BitVec.ofNat 32 a.val) 8#32)))
      (IntOp.cmpi .sge (IntOp.addi (BitVec.ofNat 32 b.val) (Scalar.muli (BitVec.ofNat 32 c.val) 4#32)) 8#32)
      = BitVec.ofBool (decide (a.val ≤ b.val ∧ b.val ≤ a.val + 8 ∧ 8 ≤ b.val + 4 * c.val)) := by decide +kernel

/-- The keys' numbers along the window. -/
abbrev keyIota : IVec S256x768 32 := iota .tc S256x768 32 [1] iota_S256x768_d1_w32
/-- The columns' numbers. -/
abbrev lane : IVec S256x128 32 := iota .tc S256x128 32 [1] iota_S256x128_d1_w32
/-- The printed mask of tile `c`. -/
def mask (c : Fin 8) : IVec S256x768 1 := k0_pay7 (BitVec.ofNat 32 c.val) k0_pay6 keyIota

/-- The printed mask allows what `okB` allows. -/
theorem mask_apply (c : Fin 8) (i : Fin 256) (x : Fin 768) :
    mask c (ix2 i x) = BitVec.ofBool (decide (okB c i x)) := by
  have e := cmp_eq ⟨i.val / 64, by omega⟩ ⟨x.val / 64, by omega⟩ c
  have h1 := fdiv_eq ⟨i.val, by omega⟩
  have h2 := fdiv_eq x
  dsimp only at e h1
  rw [← h1, ← h2] at e
  unfold mask
  pointwise [k0_pay6, k0_pay7]
  exact e

/-- The word that selects the first head's lanes. -/
theorem low_eq : ∀ d : Fin 128, IntOp.andi (IntOp.cmpi .sge (BitVec.ofNat 32 d.val) 0#32) (IntOp.cmpi .slt (BitVec.ofNat 32 d.val) 64#32)
    = BitVec.ofBool (decide (half d = 0)) := by decide +kernel
/-- The word that selects the second head's lanes. -/
theorem high_eq : ∀ d : Fin 128, IntOp.andi (IntOp.cmpi .sge (BitVec.ofNat 32 d.val) 64#32) (IntOp.cmpi .slt (BitVec.ofNat 32 d.val) 128#32)
    = BitVec.ofBool (decide (half d = 1)) := by decide +kernel

/-- The first head's columns. -/
theorem low_apply (i : Fin 256) (d : Fin 128) : k0_pay9 lane (ix2 i d) = BitVec.ofBool (decide (half d = 0)) := by
  rw [← low_eq]; pointwise [k0_pay9]
/-- The second head's columns. -/
theorem high_apply (i : Fin 256) (d : Fin 128) : k0_pay13 lane (ix2 i d) = BitVec.ofBool (decide (half d = 1)) := by
  rw [← high_eq]; pointwise [k0_pay13]

/-- What the point stores, as a composition of the printed values. -/
def bOut {F : FTy → Type} [FloatOps F] [Named F] (c : Fin 8) (q2 : FVec F S256x128 .f32) (kb vb : FVec F S768x128 .f32) (bias : FVec F S2x256x768 .f32) : FVec F S256x128 .f32 :=
  k0_pay1 (k0_pay5 vb) (k0_pay12 (k0_pay5 vb) bias (mask c) k0_pay8 (k0_pay9 lane) (k0_pay10 q2 lane) (k0_pay11 (k0_pay4 kb)) (constant S256x768 .f32 0x00000000#32))
    (k0_pay13 lane) (k0_pay14 q2 (k0_pay4 kb) bias lane (mask c)) (k0_pay15 q2 (k0_pay4 kb) bias lane (mask c))

variable (c : Fin 8) (q2 : FVec Ideal S256x128 .f32) (kb vb : FVec Ideal S768x128 .f32) (bias : FVec Ideal S2x256x768 .f32) (i : Fin 256) (x : Fin 768)

/-- The scores of query `i` in head `h`, whose columns `L` selects. -/
def S (h : Fin 2) (L : IVec S256x128 1) (x : Fin 768) : EReal :=
  Scalar.select (mask c (ix2 i x)) ((∑ d, Scalar.select (L (ix2 i d)) (q2 (ix2 i d) * kb (ix2 x d)) 0) * Ideal.ofBits .f32 0x3E000000#32 + bias (ix3 h i x))
    (Named.named (F := Ideal) κ "mask" 0xF149F2CA#32 : Ideal .f32)
/-- The weight of a key as printed. -/
def W (h : Fin 2) (L : IVec S256x128 1) (x : Fin 768) : EReal :=
  Ideal.div (rExp (S c q2 kb bias i h L) x) (rSum (S c q2 kb bias i h L))

/-- The first head's part of the result. -/
theorem out0 (d : Fin 128) : k0_pay12 (F := Ideal) (k0_pay5 vb) bias (mask c) k0_pay8 (k0_pay9 lane) (k0_pay10 q2 lane) (k0_pay11 (k0_pay4 kb)) (constant S256x768 .f32 0x00000000#32) (ix2 i d)
    = Scalar.select (k0_pay9 lane (ix2 i d)) (∑ x, W c q2 kb bias i 0 (k0_pay9 lane) x * vb (ix2 x d)) 0 := by
  pointwise [k0_pay12, k0_pay8, k0_pay10, k0_pay11, k0_pay4, k0_pay5]
  simp only [bot_lit]
  rfl
/-- The second head's exponentials. -/
theorem exp1 : k0_pay14 (F := Ideal) q2 (k0_pay4 kb) bias lane (mask c) (ix2 i x) = rExp (S c q2 kb bias i 1 (k0_pay13 lane)) x := by
  pointwise [k0_pay14, k0_pay4]
  simp only [bot_lit]
  rfl
/-- Their sum. -/
theorem sum1 : k0_pay15 (F := Ideal) q2 (k0_pay4 kb) bias lane (mask c) (ix1 i) = rSum (S c q2 kb bias i 1 (k0_pay13 lane)) := by
  pointwise [k0_pay15]
  exact Finset.sum_congr rfl fun x _ => exp1 c q2 kb bias i x
/-- The result as printed. -/
theorem out1 (d : Fin 128) : bOut c q2 kb vb bias (ix2 i d)
    = Scalar.select (k0_pay9 lane (ix2 i d)) (∑ x, W c q2 kb bias i 0 (k0_pay9 lane) x * vb (ix2 x d)) 0
      + Scalar.select (k0_pay13 lane (ix2 i d)) (∑ x, W c q2 kb bias i 1 (k0_pay13 lane) x * vb (ix2 x d)) 0 := by
  rw [← out0]
  pointwise [bOut, k0_pay1, k0_pay5]
  simp only [exp1, sum1]
  rfl

/-- A number chosen or zero is a real number. -/
theorem ite_coe (P : Prop) [Decidable P] (r : ℝ) : (if P then (r : EReal) else 0) = ((if P then r else 0 : ℝ) : EReal) := by
  split_ifs <;> simp
/-- Every column lies in one of the two heads. -/
theorem half_cases (d : Fin 128) : half d = 0 ∨ half d = 1 := by
  have := (half d).isLt
  rcases (by omega : (half d).val = 0 ∨ (half d).val = 1) with h | h
  · exact Or.inl (Fin.ext h)
  · exact Or.inr (Fin.ext h)

variable (Q : Fin 256 → Fin 128 → ℝ) (K : Fin 768 → Fin 128 → ℝ) (b : Fin 2 → Fin 256 → Fin 768 → ℝ)
variable (hq : ∀ i d, q2 (ix2 i d) = (Q i d : EReal)) (hk : ∀ x d, kb (ix2 x d) = (K x d : EReal))
  (hb : ∀ h i x, bias (ix3 h i x) = (b h i x : EReal))

include hq hk hb in
/-- The printed weights are the tile's. -/
theorem W_eq (h : Fin 2) (L : IVec S256x128 1) (hL : ∀ d, L (ix2 i d) = BitVec.ofBool (decide (half d = h))) :
    W c q2 kb bias i h L x = (pwB c Q K b h i x : EReal) := by
  have e : S c q2 kb bias i h L = scores (okB c i) (scB Q K b h i) := by
    funext x
    unfold S
    simp only [mask_apply, hL, select_decide, hq, hk, hb, ← EReal.coe_mul, ite_coe, coe_sum]
    simp only [eighth, mask_lit, ← EReal.coe_mul, ← EReal.coe_add]
    simp only [scores, scB, ite_mul, zero_mul]
  rw [W, e, weight_scores _ _ ⟨_, okB_self c i⟩]
  rfl

include hq hk hb in
/-- The point's result: the values of the window under the tile's weights. -/
theorem bOut_apply (d : Fin 128) : bOut c q2 kb vb bias (ix2 i d) = ∑ x, (pwB c Q K b (half d) i x : EReal) * vb (ix2 x d) := by
  rw [out1, low_apply, high_apply, select_decide, select_decide]
  simp only [W_eq c q2 kb bias i _ Q K b hq hk hb 0 (k0_pay9 lane) (low_apply i), W_eq c q2 kb bias i _ Q K b hq hk hb 1 (k0_pay13 lane) (high_apply i)]
  rcases half_cases d with h | h <;> simp [h]
end Cert.CaBody
end
-- ==== Proof.CaOpen.lean ====
module
public import proofs.«01_k».proof.Proof.Gen.Kernel15Ideal.Value
public import proofs.«01_k».proof.Proof.CaBody
public import Idealize.ShloMosaic.Lib.Pipeline.ValueKit.Tiles
/-! What a grid point of the forward attention leaves in its buffers: the result is `bOut` of its blocks, and the bias
scratch holds the rolled vectors from the first point of a sweep on. -/
@[expose] public section
noncomputable section
namespace Cert.CaBody
open Idealize.ShloMosaic Cert.Kernel15Ideal Cert.Kernel15Ideal.Gen
variable {F : FTy → Type} [FloatOps F] [Named F]

/-! ## Windows of 768 rows -/
section window
variable {α : EltTy → Type} (n : Fin 8)
/-- The window of 768 rows that starts at row `256 n`. -/
def rd (x : S2560x128.Idx → α .f32) : S768x128.Idx → α .f32 :=
  fun y => x (ix2 ⟨256 * n.val + (y 0).val, by have : (y 0).val < 768 := (y 0).isLt; omega⟩ (y 1))
/-- The window of 768 rows read, at a row and a lane. -/
theorem rd_apply (x : S2560x128.Idx → α .f32) (j : Fin 768) (d : Fin 128) :
    rd n x (ix2 j d) = x (ix2 ⟨256 * n.val + j.val, by omega⟩ d) := rfl

/-- A load of 768 rows at a block's offset is the window of the buffer. -/
theorem ld_win {off : Fin 2 → Nat} (h : off = ![256 * n.val, 0]) (inb : ∀ a, off a + S768x128.size a ≤ S2560x128.size a)
    (x : S2560x128.Idx → α .f32) : View.ld (S := S2560x128) x (Rect.unit off S768x128.size inb) = rd n x := by
  subst h
  funext y
  refine View.ld_unit_apply_of x _ _ inb y _ fun a => ?_
  fin_cases a
  · rfl
  · exact (Nat.zero_add _).symm

end window

/-- The window's offset is `256 n`. -/
theorem off_eq (i : grid0.Coords) : (![(Scalar.indexCast (Scalar.muli (BitVec.ofNat 32 (i 1).val) 256#32) : BitVec 32).toNat, 0] : Fin 2 → Nat) = ![256 * (i 1).val, 0] := by
  have h : ∀ n : Fin 8, (Scalar.indexCast (Scalar.muli (BitVec.ofNat 32 n.val) 256#32) : BitVec 32).toNat = 256 * n.val := by decide +kernel
  rw [h (i 1)]

variable (c : Dev nD) (i : grid0.Coords) (arg2 : Memref sig .tc .vmem S256x128 .f32) (harg2 : arg2.IsWhole) (arg3 : Memref sig .tc .vmem S2560x128 .f32) (harg3 : arg3.IsWhole) (arg4 : Memref sig .tc .vmem S2560x128 .f32) (harg4 : arg4.IsWhole) (arg5 : Memref sig .tc .vmem S1x2x1024 .f32) (harg5 : arg5.IsWhole) (arg6 : Memref sig .tc .vmem S256x128 .f32) (harg6 : arg6.IsWhole) (arg7 : Memref sig .tc .vmem S2x256x768 .f32) (harg7 : arg7.IsWhole)
  (x0 : Vec F S256x128 .f32) (x1 : Vec F S2560x128 .f32) (x2 : Vec F S2560x128 .f32) (x3 : Vec F S1x2x1024 .f32) (xs0 : Vec F S2x256x768 .f32)

/-- The offset of the rows that a step reads. -/
theorem k0_off1_eq (i : grid0.Coords) : k0_off1 i = ![256 * (i 1).val, 0] := off_eq i

/-! The loads of a point: whole blocks, and windows of 768 rows. -/
theorem load2 : (View.readAt (Elt F) arg2.view (Rect.unit (s := S256x128) ![0, 0] S256x128.size inb_S256x128_S256x128_0_0).toLoadRect (harg2.unread x0)) = x0 := by
  rw [View.readAt_eq_ld, harg2.read_unread, View.ld_unit_zero (by decide)]
/-- The whole bias scratch is read. -/
theorem load7 : (View.readAt (Elt F) arg7.view (Rect.unit (s := S2x256x768) ![0, 0, 0] S2x256x768.size inb_S2x256x768_S2x256x768_0_0_0).toLoadRect (harg7.unread xs0)) = xs0 := by
  rw [View.readAt_eq_ld, harg7.read_unread, View.ld_unit_zero (by decide)]
/-- The key rows of the step. -/
theorem load3 : (View.readAt (Elt F) arg3.view (Rect.unit (s := S2560x128) (k0_off1 i) S768x128.size (k0_off1_inb i)).toLoadRect (harg3.unread x1)) = rd (α := Elt F) (i 1) x1 := by
  rw [View.readAt_eq_ld, harg3.read_unread, ld_win (i 1) (k0_off1_eq i)]
/-- The value rows of the step. -/
theorem load4 : (View.readAt (Elt F) arg4.view (Rect.unit (s := S2560x128) (k0_off1 i) S768x128.size (k0_off1_inb i)).toLoadRect (harg4.unread x2)) = rd (α := Elt F) (i 1) x2 := by
  rw [View.readAt_eq_ld, harg4.read_unread, ld_win (i 1) (k0_off1_eq i)]
/-- The bias table the first point of a sweep fills: row `i` is the head's vector rolled by `i`. -/
def bias0 (x3 : Vec F S1x2x1024 .f32) : Vec F S2x256x768 .f32 :=
  fun y => x3 (ix3 (0 : Fin 1) (y 0) ⟨(256 + (y 2).val + 1024 - (y 1).val % 1024) % 1024, Nat.mod_lt _ (by decide)⟩)

/-- The two stores that fill the bias table. -/
abbrev biasL : List (View.Piece (Elt F) S2x256x768 .f32) :=
  [⟨Rect.unit (s := S2x256x768) ![1, 0, 0] S1x256x768.size inb_S2x256x768_S1x256x768_1_0_0, k0_pay3 (View.readAt (Elt F) arg5.view
      (Rect.unit (s := S1x2x1024) ![0, 1, 0] S1x1x1024.size inb_S1x2x1024_S1x1x1024_0_1_0).toLoadRect (harg5.unread x3))⟩,
    ⟨Rect.unit (s := S2x256x768) ![0, 0, 0] S1x256x768.size inb_S2x256x768_S1x256x768_0_0_0, k0_pay2 (View.readAt (Elt F) arg5.view
      (Rect.unit (s := S1x2x1024) ![0, 0, 0] S1x1x1024.size inb_S1x2x1024_S1x1x1024_0_0_0).toLoadRect (harg5.unread x3))⟩]

/-- The stores of the bias cover its scratch. -/
theorem cover_biasL (y : S2x256x768.Idx) : ∃ p ∈ biasL arg5 harg5 x3, y ∈ p.1.set := by
  have h0 : (y 0).val < 2 := (y 0).isLt
  have h1 : (y 1).val < 256 := (y 1).isLt
  have h2 : (y 2).val < 768 := (y 2).isLt
  rcases (by omega : (y 0).val = 1 ∨ (y 0).val = 0) with h | h
  · refine ⟨_, List.mem_cons_self, (Rect.mem_set_unit (inb := inb_S2x256x768_S1x256x768_1_0_0)).mpr fun a => ?_⟩
    fin_cases a
    · exact ⟨h.ge, by show (y 0).val < 1 + 1; omega⟩
    · exact ⟨Nat.zero_le _, by show (y 1).val < 0 + 256; omega⟩
    · exact ⟨Nat.zero_le _, by show (y 2).val < 0 + 768; omega⟩
  · refine ⟨_, List.mem_cons_of_mem _ List.mem_cons_self, (Rect.mem_set_unit (inb := inb_S2x256x768_S1x256x768_0_0_0)).mpr fun a => ?_⟩
    fin_cases a
    · exact ⟨Nat.zero_le _, by show (y 0).val < 0 + 1; omega⟩
    · exact ⟨Nat.zero_le _, by show (y 1).val < 0 + 256; omega⟩
    · exact ⟨Nat.zero_le _, by show (y 2).val < 0 + 768; omega⟩

/-- They fill it with the rolled vectors. -/
theorem canon_biasL : View.canon (biasL arg5 harg5 x3) = bias0 x3 := by
  have e0 : ∀ y, k0_pay2 (View.readAt (Elt F) arg5.view (Rect.unit (s := S1x2x1024) ![0, 0, 0] S1x1x1024.size inb_S1x2x1024_S1x1x1024_0_0_0).toLoadRect (harg5.unread x3)) y
      = bias0 x3 (ix3 (0 : Fin 2) (y 1) (y 2)) := by
    intro y
    pointwise [k0_pay2]
    rw [View.readAt_eq_ld, harg5.read_unread]
    exact View.ld_unit_apply_of x3 _ _ _ _ _ fun a => by fin_cases a <;> exact (Nat.zero_add _).symm
  have e1 : ∀ y, k0_pay3 (View.readAt (Elt F) arg5.view (Rect.unit (s := S1x2x1024) ![0, 1, 0] S1x1x1024.size inb_S1x2x1024_S1x1x1024_0_1_0).toLoadRect (harg5.unread x3)) y
      = bias0 x3 (ix3 (1 : Fin 2) (y 1) (y 2)) := by
    intro y
    pointwise [k0_pay3]
    rw [View.readAt_eq_ld, harg5.read_unread]
    refine View.ld_unit_apply_of x3 _ _ _ _ _ fun a => ?_
    fin_cases a
    · rfl
    · rfl
    · exact (Nat.zero_add _).symm
  funext y
  refine View.canon_eq_of_allAt _ y _ (cover_biasL arg5 harg5 x3 y) ?_
  · intro p hp x hx
    subst hx
    rcases List.mem_cons.mp hp with rfl | hp
    · refine (e1 x).trans (congrArg (bias0 x3) (funext fun a => Fin.ext ?_))
      refine Eq.trans ?_ (Rect.idx_unit_val (s := S2x256x768) ![1, 0, 0] S1x256x768.size inb_S2x256x768_S1x256x768_1_0_0 x a).symm
      fin_cases a
      · show 1 = 1 + (x 0).val
        have : (x 0).val < 1 := (x 0).isLt
        omega
      · exact (Nat.zero_add _).symm
      · exact (Nat.zero_add _).symm
    · obtain rfl := List.mem_singleton.mp hp
      refine (e0 x).trans (congrArg (bias0 x3) (funext fun a => Fin.ext ?_))
      refine Eq.trans ?_ (Rect.idx_unit_val (s := S2x256x768) ![0, 0, 0] S1x256x768.size inb_S2x256x768_S1x256x768_0_0_0 x a).symm
      fin_cases a
      · show 0 = 0 + (x 0).val
        have : (x 0).val < 1 := (x 0).isLt
        omega
      · exact (Nat.zero_add _).symm
      · exact (Nat.zero_add _).symm

/-- The bias scratch after the first step has filled it. -/
theorem loadA7 : (arg7.view.readCov (biasL arg5 harg5 x3) (Rect.unit (s := S2x256x768) ![0, 0, 0] S2x256x768.size inb_S2x256x768_S2x256x768_0_0_0).toLoadRect) = bias0 x3 := by
  rw [View.readCov_eq_canon_ld _ _ _ (cover_biasL arg5 harg5 x3), canon_biasL, View.ld_unit_zero (by decide)]
/-- Case A, the output. -/
theorem out4_A (hc0 : cond0_0 i) :
    out0_A_4 c i arg2 harg2 arg3 harg3 arg4 harg4 arg5 harg5 arg6 harg6 arg7 harg7 hc0 x0 x1 x2 x3 = bOut (i 1) x0 (rd (α := Elt F) (i 1) x1) (rd (α := Elt F) (i 1) x2) (bias0 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  refine (View.canon_unit_zero (by decide) _ _).trans ?_
  sl_unfold_words
  change bOut (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (arg7.view.readCov (biasL arg5 harg5 x3) (Rect.unit (s := S2x256x768) ![0, 0, 0] S2x256x768.size inb_S2x256x768_S2x256x768_0_0_0).toLoadRect) = _
  rw [load2, load3, load4, loadA7]

/-- Case B, the output. -/
theorem out4_B (hc0 : ¬cond0_0 i) :
    out0_B_4 c i arg2 harg2 arg3 harg3 arg4 harg4 arg5 harg5 arg6 harg6 arg7 harg7 hc0 x0 x1 x2 x3 xs0 = bOut (i 1) x0 (rd (α := Elt F) (i 1) x1) (rd (α := Elt F) (i 1) x2) xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  refine (View.canon_unit_zero (by decide) _ _).trans ?_
  sl_unfold_words
  change bOut (i 1) (View.readAt (Elt F) arg2.view (Rect.unit (s := S256x128) ![0, 0] S256x128.size inb_S256x128_S256x128_0_0).toLoadRect (harg2.unread x0)) (View.readAt (Elt F) arg3.view (Rect.unit (s := S2560x128) (k0_off1 i) S768x128.size (k0_off1_inb i)).toLoadRect (harg3.unread x1)) (View.readAt (Elt F) arg4.view (Rect.unit (s := S2560x128) (k0_off1 i) S768x128.size (k0_off1_inb i)).toLoadRect (harg4.unread x2)) (View.readAt (Elt F) arg7.view (Rect.unit (s := S2x256x768) ![0, 0, 0] S2x256x768.size inb_S2x256x768_S2x256x768_0_0_0).toLoadRect (harg7.unread xs0)) = _
  rw [load2, load3, load4, load7]

/-- Case A, the bias table. -/
theorem sout0_A (hc0 : cond0_0 i) :
    sout0_A_0 c i arg2 harg2 arg3 harg3 arg4 harg4 arg5 harg5 arg6 harg6 arg7 harg7 hc0 x0 x1 x2 x3 = bias0 x3 := by
  unfold sout0_A_0
  rw [View.read_writes_junk_eq_canon]
  unfold kernelRun0_A
  sl_unfold_words
  exact canon_biasL arg5 harg5 x3

/-- Case B leaves the bias table. -/
theorem sout0_B (hc0 : ¬cond0_0 i) :
    sout0_B_0 c i arg2 harg2 arg3 harg3 arg4 harg4 arg5 harg5 arg6 harg6 arg7 harg7 hc0 x0 x1 x2 x3 xs0 = xs0 := by
  rfl

end Cert.CaBody
end
-- ==== Proof.CaHost.lean ====
module
public import proofs.«01_k».proof.Proof.CaOpen
public import Idealize.ShloMosaic.Lib.Pipeline.ValueKit.Point
public import Idealize.ShloMosaic.Lib.Claim
/-! What the forward attention's windows read: the blocks of each grid point, the padding of keys and values, and the vectors of
the bias, all as entries of the arguments. -/
@[expose] public section
noncomputable section
namespace Cert.CaBody
open Idealize.ShloMosaic Cert.Kernel15Ideal Cert.Kernel15Ideal.Gen Cert.Att Cert.Tile

/-! ## The host's arrays -/

/-- 512 rows of zeros in front. -/
def padK (k : FVec Ideal S2048x1024 .f32) : FVec Ideal S2560x1024 .f32 :=
  pad S2560x1024 ![512, 0] ![0, 0] ![0, 0] k (sitofp .f32 (constantI S_ 32 0#32)) pads_S2048x1024_S2560x1024_51200_000 h_S_
/-- The padded array, at a row. -/
theorem padK_apply (k : FVec Ideal S2048x1024 .f32) (x : Fin 2560) (j : Fin 1024) :
    padK k (ix2 x j) = if h : 512 ≤ x.val then k (ix2 ⟨x.val - 512, by omega⟩ j) else 0 := by
  pointwise [padK]
  have hz : (FloatOps.sitofp (F := Ideal) .f32 (0#32 : BitVec 32) : EReal) = 0 := by
    show (((0#32 : BitVec 32).toInt : ℝ) : EReal) = 0
    simp
  by_cases h : 512 ≤ x.val
  · rw [dif_pos ⟨h, by omega⟩, dif_pos h]
  · rw [dif_neg fun h' => h h'.1, dif_neg h]; exact hz

/-- The vectors of the bias, before they are cut by heads. -/
def vecs (r : FVec Ideal S16x257 .f32) : FVec Ideal S16x1024 .f32 :=
  concatenate S16x1024 1 [⟨S16x1, broadcastInDim S16x1 ![] bcast_S_S16x1 (constant S_ .f32 0x00000000#32)⟩,
    ⟨S16x639, broadcastInDim S16x639 ![0, 1] bcast_S16x1_S16x639_0_1 (extractStridedSlice S16x1 ![0, 256] r slices_S16x257_S16x1_0_256)⟩,
    ⟨S16x257, Host.reverse [1] r⟩,
    ⟨S16x127, broadcastInDim S16x127 ![0, 1] bcast_S16x1_S16x127_0_1 (extractStridedSlice S16x1 ![0, 0] r slices_S16x257_S16x1_0_0)⟩]
    concatenates_S16x1_S16x639_S16x257_S16x127_S16x1024_d1
/-- Entry `j` of a head's vector is the bias of distance `768 - j`, but for entry 0. -/
theorem vecs_apply (r : FVec Ideal S16x257 .f32) (h : Fin 16) (j : Fin 1024) (hj : 1 ≤ j.val) :
    vecs r (ix2 h j) = r (ix2 h (clip (768 - (j.val : ℤ)))) := by
  pointwise [vecs]
  rw [dif_neg (by omega)]
  by_cases h1 : j.val - 1 < 639
  · rw [dif_pos h1]
    refine congrArg (fun e => r (ix2 h e)) (Fin.ext ?_)
    show 256 = (min (max (768 - (j.val : ℤ)) (-128)) 128 + 128).toNat
    omega
  rw [dif_neg h1]
  by_cases h2 : j.val - 1 - 639 < 257
  · rw [dif_pos h2]
    refine (show _ = r (ix2 h (Fin.rev (n := 257) ⟨j.val - 1 - 639, h2⟩)) from rfl).trans (congrArg (fun e => r (ix2 h e)) (Fin.ext ?_))
    rw [Fin.val_rev]
    show 257 - (j.val - 1 - 639 + 1) = (min (max (768 - (j.val : ℤ)) (-128)) 128 + 128).toNat
    omega
  · rw [dif_neg h2]
    refine congrArg (fun e => r (ix2 h e)) (Fin.ext ?_)
    show 0 = (min (max (768 - (j.val : ℤ)) (-128)) 128 + 128).toNat
    omega

variable (m : (ℓ : Loc nD τ sig) → Buf (Elt Ideal) ℓ) (c : Dev nD)

/-- What the region finds as padded keys. -/
theorem V_v0 : (V m c main_v0 : FVec Ideal S2560x1024 .f32) = padK (m (c, Proc.tc.devRef main_arg1)) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rfl
/-- What the region finds as padded values. -/
theorem V_v1 : (V m c main_v1 : FVec Ideal S2560x1024 .f32) = padK (m (c, Proc.tc.devRef main_arg2)) := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rfl
set_option maxRecDepth 100000 in
/-- What the region finds as the vectors of the bias. -/
theorem V_v9 : (V m c main_v9 : FVec Ideal S8x2x1024 .f32) = shapeCast S8x2x1024 (vecs (m (c, Proc.tc.devRef main_arg3))) shapeCasts_S16x1024_S8x2x1024 := by
  simp only [V, hostOps0, hostOps0_1, hostOps0_2, hostOps0_3, hostOps0_4, hostOps0_5, hostOps0_6, List.flatten_cons, List.flatten_nil,
    List.append_nil, List.cons_append, List.nil_append, StableHlo.after_cons, StableHlo.after_nil]
  rw [StableHlo.reshape_result, StableHlo.nary_result]
  rfl
/-- The vectors cut by pairs of heads, at an entry. -/
theorem cut_apply (x : FVec Ideal S16x1024 .f32) (p : Fin 8) (h : Fin 2) (j : Fin 1024) :
    shapeCast S8x2x1024 x shapeCasts_S16x1024_S8x2x1024 (ix3 p h j) = x (ix2 (hdp p h) j) := by
  pointwise
  exact congrArg (fun e => x (ix2 e j)) (Fin.ext (by show p.val * 2 + h.val = 2 * p.val + h.val; omega))

/-! ## The windows' blocks -/

/-- The block of q at a step. -/
theorem index0 : ∀ t : Fin cfg0.N, win0_0.index t 0 = t.val % 8 ∧ win0_0.index t 1 = t.val / 8 := by decide +kernel
/-- The block of k at a step. -/
theorem index1 : ∀ t : Fin cfg0.N, win0_1.index t 0 = 0 ∧ win0_1.index t 1 = t.val / 8 := by decide +kernel
/-- The block of v at a step. -/
theorem index2 : ∀ t : Fin cfg0.N, win0_2.index t 0 = 0 ∧ win0_2.index t 1 = t.val / 8 := by decide +kernel
/-- The block of the bias vectors at a step. -/
theorem index3 : ∀ t : Fin cfg0.N, win0_3.index t 0 = t.val / 8 ∧ win0_3.index t 1 = 0 ∧ win0_3.index t 2 = 0 := by decide +kernel
/-- The second coordinate of a step. -/
theorem coords1 : ∀ t : Fin cfg0.N, (grid0.coords t 1).val = t.val % 8 := by decide +kernel
/-- There are 64 steps. -/
theorem t_lt (t : Fin cfg0.N) : t.val < 64 := t.isLt

/-- The pair of heads of a grid point. -/
def pr (t : Fin cfg0.N) : Fin 8 := ⟨t.val / 8, by have := t_lt t; omega⟩
/-- The tile of queries of a grid point. -/
def tl (t : Fin cfg0.N) : Fin 8 := ⟨t.val % 8, by omega⟩
/-- The second coordinate of a step, as a block of queries. -/
theorem coords_tl (t : Fin cfg0.N) : grid0.coords t 1 = tl t := Fin.ext (coords1 t)

/-- An entry of the block of q. -/
theorem iblk0 (t : Fin cfg0.N) (i : Fin 256) (d : Fin 128) : (iblk m c 0 t : Vec Ideal S256x128 .f32) (ix2 i d)
    = (m (c, Proc.tc.devRef main_arg0) : FVec Ideal S2048x1024 .f32) (ix2 (row (tl t) i) (colp (pr t) d)) := by
  unfold iblk
  rw [View.read_apply]
  refine (congrFun (V_main_arg0 m c) _).trans (congrArg (m (c, Proc.tc.devRef main_arg0) : FVec Ideal S2048x1024 .f32) (funext fun a => Fin.ext ?_))
  have hi := index0 t
  match a with
  | ⟨0, _⟩ => show win0_0.index t 0 * 256 + 1 * i.val = 256 * (t.val % 8) + i.val; rw [hi.1]; omega
  | ⟨1, _⟩ => show win0_0.index t 1 * 128 + 1 * d.val = 128 * (t.val / 8) + d.val; rw [hi.2]; omega
/-- An entry of the block of k. -/
theorem iblk1 (t : Fin cfg0.N) (x : Fin 2560) (d : Fin 128) : (iblk m c 1 t : Vec Ideal S2560x128 .f32) (ix2 x d)
    = padK (m (c, Proc.tc.devRef main_arg1)) (ix2 x (colp (pr t) d)) := by
  unfold iblk
  rw [View.read_apply, ← V_v0]
  refine congrArg (V m c main_v0 : FVec Ideal S2560x1024 .f32) (funext fun a => Fin.ext ?_)
  have hi := index1 t
  match a with
  | ⟨0, _⟩ => show win0_1.index t 0 * 2560 + 1 * x.val = x.val; rw [hi.1]; omega
  | ⟨1, _⟩ => show win0_1.index t 1 * 128 + 1 * d.val = 128 * (t.val / 8) + d.val; rw [hi.2]; omega
/-- An entry of the block of v. -/
theorem iblk2 (t : Fin cfg0.N) (x : Fin 2560) (d : Fin 128) : (iblk m c 2 t : Vec Ideal S2560x128 .f32) (ix2 x d)
    = padK (m (c, Proc.tc.devRef main_arg2)) (ix2 x (colp (pr t) d)) := by
  unfold iblk
  rw [View.read_apply, ← V_v1]
  refine congrArg (V m c main_v1 : FVec Ideal S2560x1024 .f32) (funext fun a => Fin.ext ?_)
  have hi := index2 t
  match a with
  | ⟨0, _⟩ => show win0_2.index t 0 * 2560 + 1 * x.val = x.val; rw [hi.1]; omega
  | ⟨1, _⟩ => show win0_2.index t 1 * 128 + 1 * d.val = 128 * (t.val / 8) + d.val; rw [hi.2]; omega
/-- An entry of the block of the bias vectors. -/
theorem iblk3 (t : Fin cfg0.N) (h : Fin 2) (j : Fin 1024) : (iblk m c 3 t : Vec Ideal S1x2x1024 .f32) (ix3 (0 : Fin 1) h j)
    = vecs (m (c, Proc.tc.devRef main_arg3)) (ix2 (hdp (pr t) h) j) := by
  unfold iblk
  rw [View.read_apply, ← cut_apply (vecs (m (c, Proc.tc.devRef main_arg3))), ← V_v9]
  refine congrArg (V m c main_v9 : FVec Ideal S8x2x1024 .f32) (funext fun a => Fin.ext ?_)
  have hi := index3 t
  match a with
  | ⟨0, _⟩ => show win0_3.index t 0 * 1 + 1 * 0 = t.val / 8; rw [hi.1]; omega
  | ⟨1, _⟩ => show win0_3.index t 1 * 2 + 1 * h.val = h.val; rw [hi.2.1]; omega
  | ⟨2, _⟩ => show win0_3.index t 2 * 1024 + 1 * j.val = j.val; rw [hi.2.2]; omega

end Cert.CaBody
end
-- ==== Proof.CaWords.lean ====
module
public import proofs.«01_k».proof.Proof.Gen.Reference15Ideal.Read
public import Idealize.ShloMosaic.Lib.Pipeline.ValueKit.Point
public import Idealize.ShloMosaic.Lib.Claim
public import proofs.«01_k».proof.Proof.Spec
/-! The forward reference's integers: the distance that picks a bias and the mask of the chunks. -/
@[expose] public section
noncomputable section
namespace Cert.CaRef
open Idealize.ShloMosaic Cert.Reference15Ideal Cert.Reference15Ideal.Gen Cert.Reference15Ideal.Read Cert.Att

/-- The printed index of a distance. -/
def distW (d : BitVec 32) : BitVec 32 :=
  let z := IntOp.addi (IntOp.minsi 128#32 (IntOp.maxsi 4294967168#32 d)) 128#32
  Scalar.select (IntOp.cmpi CmpIPredicate.slt z 0#32) (IntOp.addi z 257#32) z
/-- The clipped distance as a table index. -/
theorem distW_eq : ∀ n : Fin 4096, distW (BitVec.ofNat 32 n.val - 2048#32) = BitVec.ofNat 32 (clip ((n.val : ℤ) - 2048)).val := by
  decide +kernel
/-- The difference of two positions. -/
theorem sub_word (a b : Fin 2048) : IntOp.subi (BitVec.ofNat 32 a.val) (BitVec.ofNat 32 b.val) = BitVec.ofNat 32 (2048 + a.val - b.val) - 2048#32 := by
  show BitVec.ofNat 32 a.val - BitVec.ofNat 32 b.val = _
  apply BitVec.eq_of_toNat_eq
  simp only [BitVec.toNat_sub, BitVec.toNat_ofNat]
  omega
/-- The index of the bias of two positions. -/
theorem index_word (a b : Fin 2048) : val_main_v16 (F := Ideal) (ix2 a b) = BitVec.ofNat 32 (clip ((a.val : ℤ) - b.val)).val := by
  pointwise [val_main_v16, val_main_v13, val_main_v15, val_main_v11, val_main_v10, val_main_v9, val_main_c_1, val_main_v8, val_main_call0_v2, val_main_call0_v4,
    val_main_call0_v3, val_main_call0_v1, val_main_call0_v0, val_main_c, val_main_c_0, val_main_c_2, val_main_c_3, val_main_v12, val_main_v14, val_main_v7, val_main_v6, val_main_v5, val_main_v4, val_main_v3]
  change distW (IntOp.subi (BitVec.ofNat 32 a.val) (BitVec.ofNat 32 b.val)) = _
  rw [sub_word, distW_eq ⟨2048 + a.val - b.val, by omega⟩]
  congr 3
  dsimp only
  omega

/-- The chunk of a position. -/
theorem div_word : ∀ a : Fin 2048, IntOp.divsi ArithUnit.host (BitVec.ofNat 32 a.val) 64#32 = BitVec.ofNat 32 (a.val / 64) := by
  decide +kernel
/-- Which chunks a query sees, decided over all of them. -/
theorem chunk_word : ∀ x y : Fin 32, IntOp.andi
    (IntOp.cmpi CmpIPredicate.sge (IntOp.subi (BitVec.ofNat 32 x.val) (BitVec.ofNat 32 y.val)) 0#32)
    (IntOp.cmpi CmpIPredicate.sle (IntOp.subi (BitVec.ofNat 32 x.val) (BitVec.ofNat 32 y.val)) 8#32)
      = if y.val ≤ x.val ∧ x.val ≤ y.val + 8 then 1#1 else 0#1 := by
  decide +kernel
/-- The mask of two positions. -/
theorem mask_word (a b : Fin 2048) : val_main_v34 (F := Ideal) (ix2 a b) = if ok a b then 1#1 else 0#1 := by
  pointwise [val_main_v34, val_main_v31, val_main_v33, val_main_v25, val_main_v30, val_main_v32, val_main_c_5, val_main_c_6, val_main_v23, val_main_v24, val_main_v21, val_main_v22, val_main_v20, val_main_v19, val_main_v3, val_main_c_4]
  rw [div_word a, div_word b, chunk_word ⟨a.val / 64, by omega⟩ ⟨b.val / 64, by omega⟩]
  rfl

/-- The bias the reference picks. -/
theorem bias_read (x3 : FVec Ideal S16x257 .f32) (h : Fin 16) (a b : Fin 2048) :
    val_main_v18 (F := Ideal) x3 (ix3 h a b) = x3 (ix2 h (clip ((a.val : ℤ) - b.val))) := by
  have hw : (val_main_v17 (F := Ideal) : IVec S2048x2048x1 32) (ix3 a b (0 : Fin 1)) = BitVec.ofNat 32 (clip ((a.val : ℤ) - b.val)).val := by
    rw [← index_word]
    pointwise [val_main_v17]
  unfold val_main_v18 Host.gather
  refine congrArg x3 (funext fun e => Fin.ext ?_)
  show GatherDims.start _ _ _ e + GatherDims.batchCoord _ _ e + GatherDims.offCoord _ _ e = _
  have h01 : e = (0 : Fin 2) ∨ e = (1 : Fin 2) := by
    match e with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show ¬(0 : Fin 2) ∈ gather_S16x257_S2048x2048x1_S16x2048x2048_0_1_n_n_1_2_161.startIndexMap from fun h => absurd (List.mem_singleton.mp h) (by decide)),
      dif_pos ((GatherDims.mem_sKept _ _).mpr ⟨fun h => absurd (List.mem_singleton.mp h) (show ¬(0 : Fin 2) = 1 by decide), List.not_mem_nil⟩)]
    exact (Nat.zero_add _).trans rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S16x257_S2048x2048x1_S16x2048x2048_0_1_n_n_1_2_161.startIndexMap from List.mem_singleton.mpr rfl)]
    have hc := (clip ((a.val : ℤ) - b.val)).isLt
    have hz : (BitVec.ofNat 32 (clip ((a.val : ℤ) - b.val)).val).toInt.toNat = (clip ((a.val : ℤ) - b.val)).val := by
      rw [BitVec.toInt_eq_toNat_of_lt (by rw [BitVec.toNat_ofNat]; omega), BitVec.toNat_ofNat, Int.toNat_natCast]
      omega
    refine (show _ = min ((val_main_v17 (F := Ideal) : IVec S2048x2048x1 32) (ix3 a b (0 : Fin 1))).toInt.toNat 256 + 0 + 0 from ?_).trans ?_
    · have hsi : ∀ q, gather_S16x257_S2048x2048x1_S16x2048x2048_0_1_n_n_1_2_161.siIdx (ix3 h a b) q = ix3 a b (0 : Fin 1) := by
        intro q
        funext e; refine Fin.ext ?_
        match e with
        | ⟨0, _⟩ => rfl
        | ⟨1, _⟩ => rfl
        | ⟨2, _⟩ => have := q.isLt; show q.val = 0; exact Nat.lt_one_iff.mp this
      rw [hsi]
      rfl
    · rw [hw, hz]
      show min _ 256 + 0 + 0 = (clip ((a.val : ℤ) - b.val)).val
      omega
end Cert.CaRef
end
-- ==== Proof.CaRef.lean ====
module
public import proofs.«01_k».proof.Proof.CaWords
public import proofs.«01_k».proof.Proof.Soft
/-! What the forward reference computes, entry by entry: masked attention over all keys. The values
may be any extended reals, the queries, the keys and the bias are real numbers. -/
@[expose] public section
noncomputable section
namespace Cert.CaRef
open Idealize.ShloMosaic Cert.Reference15Ideal Cert.Reference15Ideal.Gen Cert.Reference15Ideal.Read Cert.Att Cert.Row

/-- A selection by the word of a condition is the conditional. -/
theorem sel_if {α : Type} (P : Prop) [Decidable P] (x y : α) : Scalar.select (if P then 1#1 else 0#1) x y = if P then x else y := by
  by_cases h : P <;> simp [Scalar.select, h]
/-- The literal 0.125. -/
theorem eighth : Ideal.ofBits .f32 1040187392#32 = ((1 / 8 : ℝ) : EReal) := by
  simp [Ideal.ofBits, Ideal.ieee, -EReal.coe_mul]; norm_num
/-- The literal of minus infinity. -/
theorem bot_lit : Ideal.ofBits .f32 4286578688#32 = ⊥ := by
  simp [Ideal.ofBits, Ideal.ieee, -EReal.coe_mul]

variable (x0 x1 x2 : FVec Ideal S2048x1024 .f32) (x3 : FVec Ideal S16x257 .f32)
variable (q k : Arr) (r : Tab)
variable (hq : ∀ a e, x0 (ix2 a e) = (q a e : EReal)) (hk : ∀ a e, x1 (ix2 a e) = (k a e : EReal))
  (hr : ∀ h j, x3 (ix2 h j) = (r h j : EReal))
variable (h : Fin 16) (a b : Fin 2048)

/-- A masked score as printed. -/
theorem where_read : val_main_v35 (F := Ideal) x0 x1 x3 (ix3 h a b)
    = Scalar.select (val_main_v34 (F := Ideal) (ix2 a b)) (val_main_v29 (F := Ideal) x0 x1 x3 (ix3 h a b)) (Ideal.ofBits .f32 4286578688#32) := by
  pointwise [val_main_v35, val_main_call1_v1, val_main_call1_v2, val_main_call1_v0, val_main_cst_7]
  rfl
include hq hk hr in
/-- The masked scores. -/
theorem score_read : val_main_v35 (F := Ideal) x0 x1 x3 (ix3 h a b) = scores (ok a) (sc q k r h a) b := by
  rw [where_read, mask_word, sel_if, bot_lit]
  refine if_congr Iff.rfl ?_ rfl
  pointwise [val_main_v29, val_main_v28, val_main_v26, val_main_v27, val_main_cst, val_main_v0, val_main_v1]
  rw [bias_read, hr, eighth]
  simp only [hq, hk, ← EReal.coe_mul, coe_sum, ← EReal.coe_add]
  unfold sc
  congr 4
  refine funext fun d => ?_
  rw [show (⟨h.val * 64 + d.val, by omega⟩ : Fin 1024) = col h d from Fin.ext (by simp only [col]; omega)]

/-- The scores of a row, as printed. -/
abbrev row (j : Fin 2048) : EReal := val_main_v35 (F := Ideal) x0 x1 x3 (ix3 h a j)

/-- The largest score of a row. -/
theorem max_read : val_main_v36 (F := Ideal) x0 x1 x3 (ix2 h a) = rMax (row x0 x1 x3 h a) := by
  pointwise [val_main_v36, val_main_cst_8]
  rw [bot_lit]; rfl
/-- The largest score of a row, as the softmax uses it. -/
theorem top_read : val_main_v38 (F := Ideal) x0 x1 x3 (ix2 h a) = rMax (row x0 x1 x3 h a) := by
  rw [val_main_v38_apply, max_read]
  exact (congrArg (max · _) bot_lit).trans (bot_sup_eq _)
/-- The exponentials of a row. -/
theorem exp_read : val_main_v42 (F := Ideal) x0 x1 x3 (ix3 h a b) = rExp (row x0 x1 x3 h a) b := by
  have e : val_main_v40 (F := Ideal) x0 x1 x3 (ix3 h a b) = val_main_v38 (F := Ideal) x0 x1 x3 (ix2 h a) := by
    pointwise [val_main_v40, val_main_v39]
  rw [val_main_v42_apply, val_main_v41_apply, e, top_read]
  rfl
/-- Their sum. -/
theorem sum_read : val_main_v44 (F := Ideal) x0 x1 x3 (ix3 h a (0 : Fin 1)) = rSum (row x0 x1 x3 h a) := by
  pointwise [val_main_v44, val_main_v43, val_main_cst_10]
  exact Finset.sum_congr rfl fun j _ => exp_read x0 x1 x3 h a j
/-- The weights. -/
theorem weight_read : val_main_v46 (F := Ideal) x0 x1 x3 (ix3 h a b) = Ideal.div (rExp (row x0 x1 x3 h a) b) (rSum (row x0 x1 x3 h a)) := by
  have e : val_main_v45 (F := Ideal) x0 x1 x3 (ix3 h a b) = val_main_v44 (F := Ideal) x0 x1 x3 (ix3 h a (0 : Fin 1)) := by
    pointwise [val_main_v45]
  rw [val_main_v46_apply, e, sum_read, exp_read]
  rfl
include hq hk hr in
/-- A weight. -/
theorem pw_read : val_main_v46 (F := Ideal) x0 x1 x3 (ix3 h a b) = (pw q k r h a b : EReal) := by
  have e1 : row x0 x1 x3 h a = scores (ok a) (sc q k r h a) := funext fun j => score_read x0 x1 x3 q k r hq hk hr h a j
  rw [weight_read, e1, weight_scores _ _ ⟨a, ok_self a⟩]
  rfl

/-- The attention of the queries: every value counts with its weight. -/
def att (q k : Arr) (r : Tab) (v : Fin 2048 → Fin 1024 → EReal) (a : Fin 2048) (e : Fin 1024) : EReal :=
  ∑ b, (pw q k r (hd e) a b : EReal) * v b e

variable (e : Fin 1024)
include hq hk hr in
/-- The reference's result. -/
theorem out_read : val_main_v49 (F := Ideal) x0 x1 x2 x3 (ix2 a e) = att q k r (fun b e => x2 (ix2 b e)) a e := by
  have e1 : val_main_v49 (F := Ideal) x0 x1 x2 x3 (ix2 a e) = ∑ b, x2 (ix2 b e) * val_main_v46 (F := Ideal) x0 x1 x3 (ix3 (hd e) a b) := by
    pointwise [val_main_v49, val_main_v48, val_main_v47, val_main_v2]
    rfl
  rw [e1]
  refine Finset.sum_congr rfl fun b _ => ?_
  rw [pw_read x0 x1 x3 q k r hq hk hr (hd e) a b, mul_comm]
end Cert.CaRef
end
-- ==== Proof.CaFold.lean ====
module
public import proofs.«01_k».proof.Proof.CaHost
public import proofs.«01_k».proof.Proof.CaRef
/-! What the forward attention's array holds when the grid has run: the whole result. -/
@[expose] public section
noncomputable section
namespace Cert.CaBody
open Idealize.ShloMosaic Cert.Kernel15Ideal Cert.Kernel15Ideal.Gen Cert.Kernel15Ideal.Value Cert.Att Cert.Tile
open Cert.CaRef (att)

/-- A sum of extended reals over the keys of a window is a sum over all keys, when nothing outside the window counts. -/
theorem sum_windowE (c : Fin 8) (f : Fin 768 → EReal) (F : Fin 2048 → EReal)
    (h1 : ∀ x, ¬512 ≤ 256 * c.val + x.val → f x = 0) (h2 : ∀ x, 512 ≤ 256 * c.val + x.val → f x = F (key c x))
    (h3 : ∀ b : Fin 2048, ¬(256 * c.val ≤ b.val + 512 ∧ b.val + 512 < 256 * c.val + 768) → F b = 0) :
    ∑ x, f x = ∑ b, F b := by
  have hin : ∀ x, f x ≠ 0 → 512 ≤ 256 * c.val + x.val := fun x hx => by
    by_contra hn; exact hx (h1 x hn)
  refine Finset.sum_bij_ne_zero (fun x _ _ => key c x) (fun _ _ _ => Finset.mem_univ _) ?_ ?_ ?_
  · intro x _ hx y _ hy e
    have := hin x hx; have := hin y hy
    have e' := congrArg Fin.val e
    simp only [key] at e'
    exact Fin.ext (by omega)
  · intro b _ hb
    have hw : 256 * c.val ≤ b.val + 512 ∧ b.val + 512 < 256 * c.val + 768 := by
      by_contra hn; exact hb (h3 b hn)
    let x : Fin 768 := ⟨b.val + 512 - 256 * c.val, by omega⟩
    have hx : 512 ≤ 256 * c.val + x.val := by simp only [x]; omega
    have hk : key c x = b := Fin.ext (by simp only [key, x]; omega)
    exact ⟨x, Finset.mem_univ _, by rw [h2 x hx, hk]; exact hb, hk⟩
  · intro x _ hx
    exact h2 x (hin x hx)

variable (m : (ℓ : Loc nD τ sig) → Buf (Elt Ideal) ℓ) (c : Dev nD) (q k : Arr) (r : Tab) (v : Fin 2048 → Fin 1024 → EReal)

/-- The queries, the keys and the bias table hold these real numbers, and the values are called `v`. -/
structure Args : Prop where
  q : ∀ a e, (m (c, Proc.tc.devRef main_arg0) : FVec Ideal S2048x1024 .f32) (ix2 a e) = (q a e : EReal)
  k : ∀ a e, (m (c, Proc.tc.devRef main_arg1) : FVec Ideal S2048x1024 .f32) (ix2 a e) = (k a e : EReal)
  v : ∀ a e, (m (c, Proc.tc.devRef main_arg2) : FVec Ideal S2048x1024 .f32) (ix2 a e) = v a e
  r : ∀ h j, (m (c, Proc.tc.devRef main_arg3) : FVec Ideal S16x257 .f32) (ix2 h j) = (r h j : EReal)

/-- The padded array of reals. -/
theorem padK_coe {k : Arr} {K : FVec Ideal S2048x1024 .f32} (h : ∀ a e, K (ix2 a e) = (k a e : EReal)) (p : Fin 8) (x : Fin 2560) (d : Fin 128) :
    padK K (ix2 x (colp p d)) = (padded k p x d : EReal) := by
  rw [padK_apply]
  unfold padded
  split_ifs
  · exact h _ _
  · rfl

variable {m c q k r v} (H : Args m c q k r v) (t : Fin cfg0.N)
include H

/-- The queries of a step. -/
theorem hq (i : Fin 256) (d : Fin 128) : (iblk m c 0 t : Vec Ideal S256x128 .f32) (ix2 i d) = (qT q (pr t) (tl t) i d : EReal) :=
  (iblk0 m c t i d).trans (H.q _ _)
/-- The keys of a step. -/
theorem hk (x : Fin 768) (d : Fin 128) :
    rd (α := Elt Ideal) (tl t) (iblk m c 1 t : Vec Ideal S2560x128 .f32) (ix2 x d) = (kT k (pr t) (tl t) x d : EReal) :=
  (iblk1 m c t _ d).trans (padK_coe H.k _ _ _)
/-- The values of a step that are not padding. -/
theorem hv (x : Fin 768) (hx : 512 ≤ 256 * (tl t).val + x.val) (d : Fin 128) :
    rd (α := Elt Ideal) (tl t) (iblk m c 2 t : Vec Ideal S2560x128 .f32) (ix2 x d) = v (key (tl t) x) (colp (pr t) d) := by
  refine (iblk2 m c t _ d).trans ?_
  rw [padK_apply]
  refine (dif_pos hx).trans ?_
  exact H.v _ _
/-- The bias of a step. -/
theorem hb (h : Fin 2) (i : Fin 256) (x : Fin 768) :
    bias0 (F := Ideal) (iblk m c 3 t) (ix3 h i x) = (bT r (pr t) h i x : EReal) := by
  refine (iblk3 m c t h _).trans ?_
  have e : (256 + x.val + 1024 - i.val % 1024) % 1024 = 256 + x.val - i.val := by omega
  rw [vecs_apply _ _ _ (by show 1 ≤ (256 + x.val + 1024 - i.val % 1024) % 1024; omega), H.r]
  unfold bT
  congr 3
  show 768 - (((256 + x.val + 1024 - i.val % 1024) % 1024 : ℕ) : ℤ) = _
  rw [e]; omega
omit H

/-- The state a point leaves. -/
abbrev St := Vec Ideal S256x128 .f32 × Vec Ideal S2x256x768 .f32

variable (q k r v) in
/-- What a point leaves: its tile of the result, and the bias of its pair of heads. -/
structure Left (p n : Fin 8) (s : St) : Prop where
  out : ∀ i d, s.1 (ix2 i d) = att q k r v (row n i) (colp p d)
  b : ∀ h i x, s.2 (ix3 h i x) = (bT r p h i x : EReal)

include H in
/-- One point's work, on a bias scratch that is filled. -/
theorem point (b : Vec Ideal S2x256x768 .f32) (hb : ∀ h i x, b (ix3 h i x) = (bT r (pr t) h i x : EReal)) (s : St)
    (e4 : s.1 = bOut (F := Ideal) (tl t) (iblk m c 0 t) (rd (α := Elt Ideal) (tl t) (iblk m c 1 t)) (rd (α := Elt Ideal) (tl t) (iblk m c 2 t)) b)
    (e0 : s.2 = b) : Left q k r v (pr t) (tl t) s where
  out i d := by
    rw [e4]
    refine (bOut_apply _ _ _ _ _ i _ _ _ (hq H t) (hk H t) hb d).trans ?_
    unfold att
    rw [hd_colp]
    refine sum_windowE (tl t) _ _ (fun x hx => ?_) (fun x hx => ?_) fun b hn => ?_
    · rw [pwB_pad _ _ i x hx, EReal.coe_zero]
      exact zero_mul _
    · rw [pwB_eq q k r (pr t) (tl t) _ i x hx]
      exact congrArg _ (hv H t x hx d)
    · rw [pw_of_not _ _ _ _ _ _ fun h => hn (window_of_ok _ i b h), EReal.coe_zero]
      exact zero_mul _
  b := by rw [e0]; exact hb

include H in
/-- One step of the grid. -/
theorem step (acc : St) (ha : ¬t.val % 8 = 0 → ∀ h i x, acc.2 (ix3 h i x) = (bT r (pr t) h i x : EReal)) :
    Left q k r v (pr t) (tl t) (stAt0 m c t.val t.isLt acc) := by
  by_cases h0 : t.val % 8 = 0
  · rw [stAt0_A m c t acc h0]
    refine point H t (bias0 (F := Ideal) (iblk m c 3 t)) (hb H t) _ ?_ ?_
    · dsimp only; rw [out4_A, coords_tl]
    · dsimp only; rw [sout0_A]
  · rw [stAt0_B m c t acc h0]
    refine point H t _ (ha h0) _ ?_ ?_
    · dsimp only; rw [out4_B, coords_tl]
    · dsimp only; rw [sout0_B]

include H in
/-- What every point leaves. -/
theorem left (n : ℕ) (hn : n < cfg0.N) (h' : 0 + n < cfg0.N) : Left q k r v (pr ⟨n, hn⟩) (tl ⟨n, hn⟩)
    (Pipeline.accAt (fun n h => stAt0 m c n h junk0) (stAt0 m c) 0 n h') := by
  induction n with
  | zero => exact step H ⟨0, hn⟩ junk0 fun h => absurd (Nat.zero_mod 8) h
  | succ n ih =>
    have e : ∀ (j : ℕ) (hj : j < cfg0.N) (j' : ℕ) (hj' : j' < cfg0.N) (acc : St), j = j' → stAt0 m c j hj acc = stAt0 m c j' hj' acc := by
      intro j hj j' hj' acc h; subst h; rfl
    have ih' := ih (by omega) (by omega)
    show Left q k r v _ _ (stAt0 m c (0 + (n + 1)) h' (Pipeline.accAt (fun n h => stAt0 m c n h junk0) (stAt0 m c) 0 n (by omega)))
    rw [e _ _ (n + 1) hn _ (Nat.zero_add _)]
    refine step H ⟨n + 1, hn⟩ _ fun h0 => ?_
    have hN : n + 1 < 64 := hn
    have ep : pr ⟨n + 1, hn⟩ = pr ⟨n, by omega⟩ := Fin.ext (by show (n + 1) / 8 = n / 8; dsimp only at h0; omega)
    rw [ep]
    exact ih'.b

include H in
/-- The kernel's result. -/
theorem G4_eq (a : Fin 2048) (e : Fin 1024) : (G4 m c : FVec Ideal S2048x1024 .f32) (ix2 a e) = att q k r v a e := by
  have hp : pt4Of (ix2 a e) < cfg0.N := by
    show 1 * (a.val / 256 - 0) + 8 * (e.val / 128 - 0) < 64
    omega
  unfold G4
  rw [dif_pos hp]
  have h := (left H (pt4Of (ix2 a e)) hp (by omega)).out ⟨a.val % 256, by omega⟩ ⟨e.val % 128, by omega⟩
  have hr : row (tl ⟨pt4Of (ix2 a e), hp⟩) ⟨a.val % 256, by omega⟩ = a := Fin.ext (by
    show 256 * ((1 * (a.val / 256 - 0) + 8 * (e.val / 128 - 0)) % 8) + a.val % 256 = a.val; omega)
  have hc : colp (pr ⟨pt4Of (ix2 a e), hp⟩) ⟨e.val % 128, by omega⟩ = e := Fin.ext (by
    show 128 * ((1 * (a.val / 256 - 0) + 8 * (e.val / 128 - 0)) / 8) + e.val % 128 = e.val; omega)
  rw [hr, hc] at h
  refine Eq.trans (congrArg _ (funext fun a => ?_)) h
  match a with
  | ⟨0, _⟩ => rfl
  | ⟨1, _⟩ => rfl

end Cert.CaBody
end
-- ==== Proof.CaFwd.lean ====
module
public import proofs.«01_k».proof.Proof.Pre
public import proofs.«01_k».proof.Proof.CaFold
public import proofs.«01_k».proof.Proof.Gen.Kernel15Ideal.Value
public import proofs.«01_k».proof.Proof.Gen.Reference15Ideal.Read
public import Idealize.ShloMosaic.Adequacy
public import Idealize.ShloMosaic.Init
/-! The claims about the forward attention, from the two sides' closed forms. -/
@[expose] public section
noncomputable section

namespace Cert.Pre_finite15
/-- The side conditions of the precondition's operations. -/
theorem facts : Facts where
  bcast_S_S2048x1024 := Cert.Pre_finite.bcastBig
  reducesTo_S2048x1024_S_d0_1 := Cert.Pre_finite.sumBig
  h_S_ := Cert.Pre_finite.oneElt
  bcast_S_S16x257 := Cert.Pre_finite.bcastTab
  reducesTo_S16x257_S_d0_1 := Cert.Pre_finite.sumTab
end Cert.Pre_finite15

namespace Cert.CaFwd
open Idealize.ShloMosaic Idealize.SL.Sem Cert.Att

/-- The entries of an array as real numbers. -/
def re2 {n k : ℕ} (x : FVec Ideal ⟨2, ![n, k]⟩ .f32) (a : Fin n) (e : Fin k) : ℝ := (x (ix2 a e) : EReal).toReal

/-- The precondition at four arrays: every entry of q, k and the bias table is a real number. -/
theorem reals (x0 x1 x2 : FVec Ideal ⟨2, ![2048, 1024]⟩ .f32) (x3 : FVec Ideal ⟨2, ![16, 257]⟩ .f32)
    (h : @Cert.Pre_finite15.fn Cert.Pre_finite15.facts Ideal _ x0 x1 x2 x3 = fun _ => 1#1) :
    (∀ a e, x0 (ix2 a e) = (re2 x0 a e : EReal)) ∧ (∀ a e, x1 (ix2 a e) = (re2 x1 a e : EReal))
      ∧ (∀ a e, x3 (ix2 a e) = (re2 x3 a e : EReal)) := by
  haveI : Subsingleton Cert.Pre_finite15.S_.Idx := ⟨fun a b => funext fun i => i.elim0⟩
  have e := congrFun h (fun i => i.elim0)
  unfold Cert.Pre_finite15.fn at e
  dsimp only [andi] at e
  obtain ⟨e, e3⟩ := IntOp.andi_eq_one.mp e
  obtain ⟨e0, e1⟩ := IntOp.andi_eq_one.mp e
  exact ⟨fun a b => Cert.Fin.all_real x0 _ _ _ _ _ e0 _, fun a b => Cert.Fin.all_real x1 _ _ _ _ _ e1 _,
    fun a b => Cert.Fin.all_real x3 _ _ _ _ _ e3 _⟩

/-- The reference run ends with its arguments kept and all counters at zero. -/
theorem frame_ref : Cert.quiescent_Reference15Ideal (hReference15Ideal := Cert.Reference15Ideal.Gen.facts) := by
  intro m ρ _
  exact (θ_run Cert.Reference15Ideal.defs _ _).mono (fun r h => ⟨fun c => (h c).2, sem_eq_zero_of_no_sems (by decide) r.2⟩)
    (Cert.Reference15Ideal.Value.run (F := Ideal) m ρ)

section
open Cert.Kernel15Ideal Cert.Kernel15Ideal.Gen
/-- The kernel's queries, keys and bias table, read as real numbers. -/
theorem args (m : (ℓ : Loc nD τ sig) → Buf (Elt Ideal) ℓ) (c : Dev nD)
    (h : Cert.Pre_Kernel15Ideal_finite15 (hPre_finite15 := Cert.Pre_finite15.facts) m) :
    Cert.CaBody.Args m c (re2 (n := 2048) (k := 1024) (m ((c.tc : Thread nD τ).loc main_arg0)))
      (re2 (n := 2048) (k := 1024) (m ((c.tc : Thread nD τ).loc main_arg1))) (re2 (n := 16) (k := 257) (m ((c.tc : Thread nD τ).loc main_arg3)))
      (fun a e => (m ((c.tc : Thread nD τ).loc main_arg2) : FVec Ideal S2048x1024 .f32) (ix2 a e)) := by
  obtain ⟨h0, h1, h3⟩ := reals _ _ _ _ (h c)
  exact ⟨h0, h1, fun _ _ => rfl, h3⟩
end

/-- Two arrays of two axes agree when they agree at every pair of indices with one array. -/
theorem same {n k : ℕ} (x y : FVec Ideal ⟨2, ![n, k]⟩ .f32) (d : Fin n → Fin k → EReal) (hx : ∀ a e, x (ix2 a e) = d a e)
    (hy : ∀ a e, y (ix2 a e) = d a e) : x = y := by
  funext i
  have hi := eq_ix2 i
  exact (congrArg x hi).trans (((hx (i 0) (i 1)).trans (hy (i 0) (i 1)).symm).trans (congrArg y hi).symm)

section refs
open Cert.Reference15Ideal Cert.Reference15Ideal.Gen Cert.Reference15Ideal.Read
variable (m : (ℓ : Loc nD τ sig) → Buf (Elt Ideal) ℓ) (c : Dev nD) (x0 x1 x2 : FVec Ideal S2048x1024 .f32) (x3 : FVec Ideal S16x257 .f32)
variable (q k : Arr) (r : Tab)
variable (a0 : m ((c.tc : Thread nD τ).loc main_arg0) = x0) (a1 : m ((c.tc : Thread nD τ).loc main_arg1) = x1)
  (a2 : m ((c.tc : Thread nD τ).loc main_arg2) = x2) (a3 : m ((c.tc : Thread nD τ).loc main_arg3) = x3)
variable (hq : ∀ a e, x0 (ix2 a e) = (q a e : EReal)) (hk : ∀ a e, x1 (ix2 a e) = (k a e : EReal))
  (hr : ∀ h j, x3 (ix2 h j) = (r h j : EReal))
include a0 a1 a2 a3 hq hk hr
/-- The reference's result. -/
theorem out (a : Fin 2048) (e : Fin 1024) : (Cert.Reference15Ideal.Value.res_main_v49 (F := Ideal) m c : FVec Ideal S2048x1024 .f32) (ix2 a e)
    = Cert.CaRef.att q k r (fun b e => x2 (ix2 b e)) a e := by
  subst a0 a1 a2 a3
  rw [val_main_v49_eq]
  exact Cert.CaRef.out_read _ _ _ _ _ _ _ hq hk hr a e
end refs

/-- The value claim: the attention of the two programs is the same array. -/
theorem value : Cert.algebraic_Kernel15Ideal_Reference15Ideal_pre_finite15 (hKernel15Ideal := Cert.Kernel15Ideal.Gen.facts)
    (hReference15Ideal := Cert.Reference15Ideal.Gen.facts) (hPre_finite15 := Cert.Pre_finite15.facts) := by
  intro m ρ m' ρ' hp hag
  refine ⟨Cert.Kernel15Ideal.Value.G4 m, Cert.Kernel15Ideal.Value.run (F := Ideal) m ρ, ?_⟩
  refine (θ_run Cert.Reference15Ideal.defs _ _).mono (fun r h c => ?_) (Cert.Reference15Ideal.Value.run (F := Ideal) m' ρ')
  obtain ⟨e0, ek⟩ := h c
  obtain ⟨a0, a1, a2, a3⟩ := hag c
  obtain ⟨h0, h1, h3⟩ := reals _ _ _ _ (hp c)
  refine ⟨e0.trans (same (n := 2048) (k := 1024) _ _ _ ?_ (Cert.CaBody.G4_eq (args m c hp))), ek⟩
  exact out m' c _ _ _ _ _ _ _ a0 a1 a2 a3 h0 h1 h3

end Cert.CaFwd
end
-- ==== Proof.lean ====
module

public import proofs.«01_k».proof.Defs
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Pre_finite
public import proofs.«01_k».proof.Proof.Gen.Pre_finite15
public import Idealize.ShloMosaic.Adequacy
public import Idealize.ShloMosaic.Init
public import proofs.«01_k».proof.Proof.Final
public import proofs.«01_k».proof.Proof.DhValue
public import proofs.«01_k».proof.Proof.DwValue
public import proofs.«01_k».proof.Proof.DaValue
public import proofs.«01_k».proof.Proof.DgValue
public import proofs.«01_k».proof.Proof.ColsFwdValue
public import proofs.«01_k».proof.Proof.DownValue
public import proofs.«01_k».proof.Proof.LinDa
public import proofs.«01_k».proof.Proof.LinDw
public import proofs.«01_k».proof.Proof.LinRes
public import proofs.«01_k».proof.Proof.WideDa
public import proofs.«01_k».proof.Proof.WideDg
public import proofs.«01_k».proof.Proof.WideFwd
public import proofs.«01_k».proof.Proof.Lin
public import proofs.«01_k».proof.Proof.CaFwd

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Gen.facts, Cert.Pre_finite15.Gen.facts,
  fun m ρ _ => Cert.Kernel.Gen.frame m ρ,
  fun m ρ _ => Cert.KernelIdeal.Gen.frame m ρ,
  fun m ρ _ => Cert.KernelIdeal.Gen.frame m ρ,
  Cert.Final.frame_ref,
  fun m ρ _ => Cert.Final.frame_ref m ρ trivial,
  fun m ρ _ => Cert.Kernel2.Gen.frame m ρ,
  fun m ρ _ => Cert.Kernel2Ideal.Gen.frame m ρ,
  Cert.Dh.frame_ref,
  fun m ρ _ => Cert.Kernel3.Gen.frame m ρ,
  fun m ρ _ => Cert.Kernel3Ideal.Gen.frame m ρ,
  Cert.Dw.frame_ref,
  fun m ρ _ => Cert.Kernel4.Gen.frame m ρ,
  fun m ρ _ => Cert.Kernel4Ideal.Gen.frame m ρ,
  Cert.Da.frame_ref,
  fun m ρ _ => Cert.Kernel5.Gen.frame m ρ,
  fun m ρ _ => Cert.Kernel5Ideal.Gen.frame m ρ,
  Cert.Dg.frame_ref,
  fun m ρ _ => Cert.Kernel6.Gen.frame m ρ,
  fun m ρ _ => Cert.Kernel6Ideal.Gen.frame m ρ,
  Cert.ColsFwd.frame_ref,
  fun m ρ _ => Cert.Kernel7.Gen.frame m ρ,
  fun m ρ _ => Cert.Kernel7Ideal.Gen.frame m ρ,
  Cert.Down.frame_ref,
  fun m ρ _ => Cert.Kernel8.Gen.frame m ρ,
  fun m ρ _ => Cert.Kernel8Ideal.Gen.frame m ρ,
  Cert.LinDa.frame_ref,
  fun m ρ _ => Cert.Kernel9.Gen.frame m ρ,
  fun m ρ _ => Cert.Kernel9Ideal.Gen.frame m ρ,
  Cert.LinDw.frame_ref,
  fun m ρ _ => Cert.Kernel10.Gen.frame m ρ,
  fun m ρ _ => Cert.Kernel10Ideal.Gen.frame m ρ,
  Cert.LinRes.frame_ref,
  fun m ρ _ => Cert.Kernel11.Gen.frame m ρ,
  fun m ρ _ => Cert.Kernel11Ideal.Gen.frame m ρ,
  Cert.WideDa.frame_ref,
  fun m ρ _ => Cert.Kernel12.Gen.frame m ρ,
  fun m ρ _ => Cert.Kernel12Ideal.Gen.frame m ρ,
  Cert.WideDg.frame_ref,
  fun m ρ _ => Cert.Kernel13.Gen.frame m ρ,
  fun m ρ _ => Cert.Kernel13Ideal.Gen.frame m ρ,
  Cert.WideFwd.frame_ref,
  fun m ρ _ => Cert.Kernel14.Gen.frame m ρ,
  fun m ρ _ => Cert.Kernel14Ideal.Gen.frame m ρ,
  Cert.Lin.frame_ref,
  fun m ρ _ => Cert.Kernel15.Gen.frame m ρ,
  fun m ρ _ => Cert.Kernel15Ideal.Gen.frame m ρ,
  fun m ρ _ => Cert.Kernel15Ideal.Gen.frame m ρ,
  Cert.CaFwd.frame_ref,
  fun m ρ _ => Cert.CaFwd.frame_ref m ρ trivial,
  IdealRules.named_const.statement Cert.KernelIdeal.κ "mask" .f32 0xF149F2CA#32 ⊥ rfl,
  Cert.Final.value,
  trivial,
  Cert.Dh.value,
  trivial,
  Cert.Dw.value,
  trivial,
  Cert.Da.value,
  trivial,
  Cert.Dg.value,
  trivial,
  Cert.ColsFwd.value,
  trivial,
  Cert.Down.value,
  trivial,
  Cert.LinDa.value,
  trivial,
  Cert.LinDw.value,
  trivial,
  Cert.LinRes.value,
  trivial,
  Cert.WideDa.value,
  trivial,
  Cert.WideDg.value,
  trivial,
  Cert.WideFwd.value,
  trivial,
  Cert.Lin.value,
  IdealRules.named_const.statement Cert.Kernel15Ideal.κ "mask" .f32 0xF149F2CA#32 ⊥ rfl,
  Cert.CaFwd.value⟩

end Cert.Proof

end
